-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "ninth" .f32 0x3DE38E39#32 ((9⁻¹ : ℝ) : EReal)
  ∧ IdealRules.named_const.Statement Cert.KernelIdeal.κ "big" .f32 0x7149F2CA#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v689) = v0 c
          ∧ r.2.mem ((c.tc : Thread Cert.ReferenceIdeal.nD Cert.ReferenceIdeal.τ).loc Cert.ReferenceIdeal.main_v691) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x3x2500 : Shape := ⟨3, ![4, 3, 2500]⟩
abbrev S4x128x2500 : Shape := ⟨3, ![4, 128, 2500]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x6 : Shape := ⟨2, ![128, 6]⟩
abbrev S6 : Shape := ⟨1, ![6]⟩
abbrev S_ : Shape := ⟨0, ![]⟩

class Facts : Prop where
  bcast_S_S4x128x2500 : S_.BroadcastsInDim S4x128x2500 (![] : Fin 0 → Fin S4x128x2500.rank)
  reducesTo_S4x128x2500_S_d0_1_2 : S4x128x2500.ReducesTo [0, 1, 2] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg5 : FVec F S4x128 .f32) (main_v3 : IVec S_ 1) (main_v7 : IVec S_ 1) (main_v11 : IVec S_ 1) (main_v15 : IVec S_ 1) : IVec S_ 1 :=
  let main_v16 : FVec F S4x128 .f32 := Host.absf main_arg5
  let main_cst_6 : FVec F S_ .f32 := constant S_ .f32 0x7F800000#32
  let main_v17 : FVec F S4x128 .f32 := broadcastInDim S4x128 ![] bcast_S_S4x128 main_cst_6
  let main_v18 : IVec S4x128 1 := cmpf .olt main_v16 main_v17
  let main_c_7 : IVec S_ 1 := constantI S_ 1 1#1
  let main_v19 : IVec S_ 1 := (fun x v => Host.reduce IntOp.andi x v reducesTo_S4x128_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4x3x2500 .f32) (main_arg1 : FVec F S4x128x2500 .f32) (main_arg2 : FVec F S4x128x128 .f32) (main_arg3 : FVec F S4x128 .f32) (main_arg4 : FVec F S4x128x128 .f32) (main_arg5 : FVec F S4x128 .f32) (main_arg6 : FVec F S128x128 .f32) (main_arg7 : FVec F S128 .f32) (main_arg8 : FVec F S128 .f32) (main_arg9 : FVec F S128 .f32) (main_arg10 : FVec F S128x6 .f32) (main_arg11 : FVec F S6 .f32) : IVec S_ 1 :=
  let main_v0 : FVec F S4x128x2500 .f32 := Host.absf main_arg1
  let main_cst : FVec F S_ .f32 := constant S_ .f32 0x7F800000#32
  let main_v1 : FVec F S4x128x2500 .f32 := broadcastInDim S4x128x2500 ![] bcast_S_S4x128x2500 main_cst
  let main_v2 : IVec S4x128x2500 1 := cmpf .olt main_v0 main_v1
  let main_c : IVec S_ 1 := constantI S_ 1 1#1
  let main_v3 : IVec S_ 1 := (fun x v => Host.reduce IntOp.andi x v reducesTo_S4x128x2500_S_d0_1_2 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : FVec F S4x128 .f32 := Host.absf main_arg3
  let main_cst_2 : FVec F S_ .f32 := constant S_ .f32 0x7F800000#32
  let main_v9 : FVec F S4x128 .f32 := broadcastInDim S4x128 ![] bcast_S_S4x128 main_cst_2
  let main_v10 : IVec S4x128 1 := cmpf .olt main_v8 main_v9
  let main_c_3 : IVec S_ 1 := constantI S_ 1 1#1
  let main_v11 : IVec S_ 1 := (fun x v => Host.reduce IntOp.andi x v reducesTo_S4x128_S_d0_1 h_S_) main_v10 main_c_3
  let main_v12 : FVec F S4x128x128 .f32 := Host.absf main_arg4
  let main_cst_4 : FVec F S_ .f32 := constant S_ .f32 0x7F800000#32
  let main_v13 : FVec F S4x128x128 .f32 := broadcastInDim S4x128x128 ![] bcast_S_S4x128x128 main_cst_4
  let main_v14 : IVec S4x128x128 1 := cmpf .olt main_v12 main_v13
  let main_c_5 : IVec S_ 1 := constantI S_ 1 1#1
  let main_v15 : IVec S_ 1 := (fun x v => Host.reduce IntOp.andi x v reducesTo_S4x128x128_S_d0_1_2 h_S_) main_v14 main_c_5
  fn_part1 (F := F) main_arg5 main_v3 main_v7 main_v11 main_v15
-- ==== Kernel.lean ====
abbrev S4x3x2500 : Shape := ⟨3, ![4, 3, 2500]⟩
abbrev S4x128x2500 : Shape := ⟨3, ![4, 128, 2500]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x6 : Shape := ⟨2, ![128, 6]⟩
abbrev S6 : Shape := ⟨1, ![6]⟩
abbrev S4x2500x128 : Shape := ⟨3, ![4, 2500, 128]⟩
abbrev S_ : Shape := ⟨0, ![]⟩
abbrev S4x2560x128 : Shape := ⟨3, ![4, 2560, 128]⟩
abbrev S1x128 : Shape := ⟨2, ![1, 128]⟩
abbrev S4x2560x8 : Shape := ⟨3, ![4, 2560, 8]⟩
abbrev S4x2500x6 : Shape := ⟨3, ![4, 2500, 6]⟩
abbrev S4x2500x3x2 : Shape := ⟨4, ![4, 2500, 3, 2]⟩
abbrev S4x3x1x2500 : Shape := ⟨4, ![4, 3, 1, 2500]⟩
abbrev S4x3x2x2500 : Shape := ⟨4, ![4, 3, 2, 2500]⟩
abbrev S4x3x5000 : Shape := ⟨3, ![4, 3, 5000]⟩
abbrev S1x2560x128 : Shape := ⟨3, ![1, 2560, 128]⟩
abbrev S1x2560x8 : Shape := ⟨3, ![1, 2560, 8]⟩
abbrev S2560x128 : Shape := ⟨2, ![2560, 128]⟩
abbrev S2560x8 : Shape := ⟨2, ![2560, 8]⟩
abbrev S1x2560 : Shape := ⟨2, ![1, 2560]⟩
abbrev S640x512 : Shape := ⟨2, ![640, 512]⟩
abbrev S640x1 : Shape := ⟨2, ![640, 1]⟩
abbrev S1x8 : Shape := ⟨2, ![1, 8]⟩
abbrev S1x128x128 : Shape := ⟨3, ![1, 128, 128]⟩
abbrev S2560 : Shape := ⟨1, ![2560]⟩
abbrev S1x640x128 : Shape := ⟨3, ![1, 640, 128]⟩
abbrev S640x128 : Shape := ⟨2, ![640, 128]⟩
abbrev S640x8 : Shape := ⟨2, ![640, 8]⟩
abbrev S1x512x128 : Shape := ⟨3, ![1, 512, 128]⟩
abbrev S512x128 : Shape := ⟨2, ![512, 128]⟩
abbrev S1x512 : Shape := ⟨2, ![1, 512]⟩
abbrev S640 : Shape := ⟨1, ![640]⟩
abbrev S2560x1 : Shape := ⟨2, ![2560, 1]⟩

abbrev nBuf : Space → Nat
  | .hbm => 37
  | .vmem => 23
  | .smem => 0
  | _ => 0

abbrev bufTy : (tb : Table) → Fin (tcTables nBuf tb) → BufTy
  | .hbm, ⟨0, _⟩ => ⟨S4x3x2500, .f32⟩
  | .hbm, ⟨1, _⟩ => ⟨S4x128x2500, .f32⟩
  | .hbm, ⟨2, _⟩ => ⟨S4x128x128, .f32⟩
  | .hbm, ⟨3, _⟩ => ⟨S4x128, .f32⟩
  | .hbm, ⟨4, _⟩ => ⟨S4x128x128, .f32⟩
  | .hbm, ⟨5, _⟩ => ⟨S4x128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x6, .f32⟩
  | .hbm, ⟨11, _⟩ => ⟨S6, .f32⟩
  | .hbm, ⟨12, _⟩ => ⟨S4x2500x128, .f32⟩
  | .hbm, ⟨13, _⟩ => ⟨S_, .i32⟩
  | .hbm, ⟨14, _⟩ => ⟨S_, .f32⟩
  | .hbm, ⟨15, _⟩ => ⟨S4x2560x128, .f32⟩
  | .hbm, ⟨16, _⟩ => ⟨S_, .i32⟩
  | .hbm, ⟨17, _⟩ => ⟨S_, .f32⟩
  | .hbm, ⟨18, _⟩ => ⟨S128x128, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S4x2560x128, .f32⟩
  | .hbm, ⟨27, _⟩ => ⟨S4x2560x8, .f32⟩
  | .hbm, ⟨28, _⟩ => ⟨S4x2500x128, .f32⟩
  | .hbm, ⟨29, _⟩ => ⟨S4x128x2500, .f32⟩
  | .hbm, ⟨30, _⟩ => ⟨S4x2500x6, .f32⟩
  | .hbm, ⟨31, _⟩ => ⟨S4x2500x3x2, .f32⟩
  | .hbm, ⟨32, _⟩ => ⟨S4x3x1x2500, .f32⟩
  | .hbm, ⟨33, _⟩ => ⟨S4x3x2x2500, .f32⟩
  | .hbm, ⟨34, _⟩ => ⟨S4x3x2x2500, .f32⟩
  | .hbm, ⟨35, _⟩ => ⟨S4x3x2x2500, .f32⟩
  | .hbm, ⟨36, _⟩ => ⟨S4x3x5000, .f32⟩
  | .local _ .vmem, ⟨0, _⟩ => ⟨S1x2560x128, .f32⟩
  | .local _ .vmem, ⟨1, _⟩ => ⟨S1x2560x128, .f32⟩
  | .local _ .vmem, ⟨2, _⟩ => ⟨S4x128x128, .f32⟩
  | .local _ .vmem, ⟨3, _⟩ => ⟨S4x128, .f32⟩
  | .local _ .vmem, ⟨4, _⟩ => ⟨S4x128x128, .f32⟩
  | .local _ .vmem, ⟨5, _⟩ => ⟨S4x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x2560x128, .f32⟩
  | .local _ .vmem, ⟨13, _⟩ => ⟨S1x2560x128, .f32⟩
  | .local _ .vmem, ⟨14, _⟩ => ⟨S1x2560x8, .f32⟩
  | .local _ .vmem, ⟨15, _⟩ => ⟨S1x2560x8, .f32⟩
  | .local _ .vmem, ⟨16, _⟩ => ⟨S2560x128, .f32⟩
  | .local _ .vmem, ⟨17, _⟩ => ⟨S2560x128, .f32⟩
  | .local _ .vmem, ⟨18, _⟩ => ⟨S2560x8, .i32⟩
  | .local _ .vmem, ⟨19, _⟩ => ⟨S1x2560, .f32⟩
  | .local _ .vmem, ⟨20, _⟩ => ⟨S2560x128, .bf16⟩
  | .local _ .vmem, ⟨21, _⟩ => ⟨S2560x128, .bf16⟩
  | .local _ .vmem, ⟨22, _⟩ => ⟨S2560x128, .bf16⟩
  | _, _ => ⟨S4x3x2500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_c : Ref sig .tc := ⟨.hbm, 13, rfl⟩
abbrev main_call0_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_call1_v0 : Ref sig .tc := ⟨.hbm, 17, rfl⟩
abbrev main_call0_v2 : Ref sig .tc := ⟨.hbm, 18, rfl⟩
abbrev main_call0_c_1 : Ref sig .tc := ⟨.hbm, 19, rfl⟩
abbrev main_call0_call2_v0 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8_0 : Ref sig .tc := ⟨.hbm, 26, rfl⟩
abbrev main_call0_v8_1 : Ref sig .tc := ⟨.hbm, 27, rfl⟩
abbrev main_call0_v9 : Ref sig .tc := ⟨.hbm, 28, rfl⟩
abbrev main_v0_1 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_v0_0 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg21 : BitVec 32 := Scf.iv c0_i32 c1_i32 k0_t1
  let v57 : Index := Scalar.indexCast arg21
  let c0_32 : Index := 0#32
  let c0_33 : Index := 0#32
  ![v57.toNat, 0, 0]
def k0_off2 (k0_t1 : Fin k0_t1_loop.trips) : Fin 2 → Nat :=
  let c0_i32 : BitVec 32 := 0#32
  let c1_i32 : BitVec 32 := 1#32
  let arg21 : BitVec 32 := Scf.iv c0_i32 c1_i32 k0_t1
  let v63 : Index := Scalar.indexCast arg21
  let c0_36 : Index := 0#32
  ![v63.toNat, 0]
@[reducible] def k0_t2_loop : Scf.Loop 32 :=
  let c0_i32_54 : BitVec 32 := 0#32
  let c4_i32_55 : BitVec 32 := 4#32
  let v97 : BitVec 32 := Scalar.addi c0_i32_54 c4_i32_55
  let c1_i32_56 : BitVec 32 := 1#32
  ⟨c0_i32_54, v97, c1_i32_56⟩
def k0_off3 (k0_t2 : Fin k0_t2_loop.trips) : Fin 3 → Nat :=
  let c0_74 : Index := 0#32
  let c0_i32_54 : BitVec 32 := 0#32
  let c1_i32_56 : BitVec 32 := 1#32
  let arg22 : BitVec 32 := Scf.iv c0_i32_54 c1_i32_56 k0_t2
  let c640_i32 : BitVec 32 := 640#32
  let v122 : BitVec 32 := Scalar.muli arg22 c640_i32
  let v123 : Index := Scalar.indexCast v122
  let c0_75 : Index := 0#32
  ![0, v123.toNat, 0]
@[reducible] def k0_t3_loop : Scf.Loop 32 :=
  let c0_i32_77 : BitVec 32 := 0#32
  let c5_i32 : BitVec 32 := 5#32
  let v128 : BitVec 32 := Scalar.addi c0_i32_77 c5_i32
  let c1_i32_78 : BitVec 32 := 1#32
  ⟨c0_i32_77, v128, c1_i32_78⟩
def k0_off4 (k0_t3 : Fin k0_t3_loop.trips) : Fin 3 → Nat :=
  let c0_89 : Index := 0#32
  let c0_i32_77 : BitVec 32 := 0#32
  let c1_i32_78 : BitVec 32 := 1#32
  let arg23 : BitVec 32 := Scf.iv c0_i32_77 c1_i32_78 k0_t3
  let c512_i32 : BitVec 32 := 512#32
  let v148 : BitVec 32 := Scalar.muli arg23 c512_i32
  let v149 : Index := Scalar.indexCast v148
  let c0_90 : Index := 0#32
  ![0, v149.toNat, 0]
def k0_off5 (k0_t3 : Fin k0_t3_loop.trips) : Fin 2 → Nat :=
  let c0_92 : Index := 0#32
  let c0_i32_77 : BitVec 32 := 0#32
  let c1_i32_78 : BitVec 32 := 1#32
  let arg23 : BitVec 32 := Scf.iv c0_i32_77 c1_i32_78 k0_t3
  let c512_i32 : BitVec 32 := 512#32
  let v148 : BitVec 32 := Scalar.muli arg23 c512_i32
  let v153 : Index := Scalar.indexCast v148
  ![0, v153.toNat]
@[reducible] def k0_t4_loop : Scf.Loop 32 :=
  let c0_i32_100 : BitVec 32 := 0#32
  let c8_i32 : BitVec 32 := 8#32
  let v174 : BitVec 32 := Scalar.addi c0_i32_100 c8_i32
  let c1_i32_101 : BitVec 32 := 1#32
  ⟨c0_i32_100, v174, c1_i32_101⟩
def k0_off6 (k0_t2 : Fin k0_t2_loop.trips) : Fin 2 → Nat :=
  let c0_i32_54 : BitVec 32 := 0#32
  let c1_i32_56 : BitVec 32 := 1#32
  let arg22 : BitVec 32 := Scf.iv c0_i32_54 c1_i32_56 k0_t2
  let c640_i32 : BitVec 32 := 640#32
  let v122 : BitVec 32 := Scalar.muli arg22 c640_i32
  let v130 : Index := Scalar.indexCast v122
  let c0_80 : Index := 0#32
  ![v130.toNat, 0]
@[reducible] def k0_t5_loop : Scf.Loop 32 :=
  let c0_i32_82 : BitVec 32 := 0#32
  let c5_i32_83 : BitVec 32 := 5#32
  let v135 : BitVec 32 := Scalar.addi c0_i32_82 c5_i32_83
  let c1_i32_84 : BitVec 32 := 1#32
  ⟨c0_i32_82, v135, c1_i32_84⟩
def k0_off7 (k0_t5 : Fin k0_t5_loop.trips) : Fin 2 → Nat :=
  let c0_i32_82 : BitVec 32 := 0#32
  let c1_i32_84 : BitVec 32 := 1#32
  let arg23 : BitVec 32 := Scf.iv c0_i32_82 c1_i32_84 k0_t5
  let c512_i32 : BitVec 32 := 512#32
  let v148 : BitVec 32 := Scalar.muli arg23 c512_i32
  let v208 : Index := Scalar.indexCast v148
  let c0_90 : Index := 0#32
  ![v208.toNat, 0]
def k0_off8 (k0_t2 : Fin k0_t2_loop.trips) : Fin 2 → Nat :=
  let c0_i32_54 : BitVec 32 := 0#32
  let c1_i32_56 : BitVec 32 := 1#32
  let arg22 : BitVec 32 := Scf.iv c0_i32_54 c1_i32_56 k0_t2
  let c640_i32 : BitVec 32 := 640#32
  let v122 : BitVec 32 := Scalar.muli arg22 c640_i32
  let v137 : Index := Scalar.indexCast v122
  let c0_86 : Index := 0#32
  ![v137.toNat, 0]
@[reducible] def k0_t6_loop : Scf.Loop 32 :=
  let c0_i32_70 : BitVec 32 := 0#32
  let c4_i32_71 : BitVec 32 := 4#32
  let v121 : BitVec 32 := Scalar.addi c0_i32_70 c4_i32_71
  let c1_i32_72 : BitVec 32 := 1#32
  ⟨c0_i32_70, v121, c1_i32_72⟩
def k0_off9 (k0_t6 : Fin k0_t6_loop.trips) : Fin 2 → Nat :=
  let c0_i32_70 : BitVec 32 := 0#32
  let c1_i32_72 : BitVec 32 := 1#32
  let arg22 : BitVec 32 := Scf.iv c0_i32_70 c1_i32_72 k0_t6
  let c640_i32 : BitVec 32 := 640#32
  let v122 : BitVec 32 := Scalar.muli arg22 c640_i32
  let v123 : Index := Scalar.indexCast v122
  let c0_74 : Index := 0#32
  ![v123.toNat, 0]
@[reducible] def k0_t7_loop : Scf.Loop 32 :=
  let c0_i32_76 : BitVec 32 := 0#32
  let c5_i32 : BitVec 32 := 5#32
  let v126 : BitVec 32 := Scalar.addi c0_i32_76 c5_i32
  let c1_i32_77 : BitVec 32 := 1#32
  ⟨c0_i32_76, v126, c1_i32_77⟩
def k0_off10 (k0_t7 : Fin k0_t7_loop.trips) : Fin 2 → Nat :=
  let c0_i32_76 : BitVec 32 := 0#32
  let c1_i32_77 : BitVec 32 := 1#32
  let arg23 : BitVec 32 := Scf.iv c0_i32_76 c1_i32_77 k0_t7
  let c512_i32 : BitVec 32 := 512#32
  let v141 : BitVec 32 := Scalar.muli arg23 c512_i32
  let v201 : Index := Scalar.indexCast v141
  let c0_85 : Index := 0#32
  ![v201.toNat, 0]
def k0_off11 (k0_t6 : Fin k0_t6_loop.trips) : Fin 2 → Nat :=
  let c0_i32_70 : BitVec 32 := 0#32
  let c1_i32_72 : BitVec 32 := 1#32
  let arg22 : BitVec 32 := Scf.iv c0_i32_70 c1_i32_72 k0_t6
  let c640_i32 : BitVec 32 := 640#32
  let v122 : BitVec 32 := Scalar.muli arg22 c640_i32
  let v128 : Index := Scalar.indexCast v122
  let c0_79 : Index := 0#32
  ![v128.toNat, 0]
def k0_off12 (k0_t6 : Fin k0_t6_loop.trips) : Fin 3 → Nat :=
  let c0_80 : Index := 0#32
  let c0_i32_70 : BitVec 32 := 0#32
  let c1_i32_72 : BitVec 32 := 1#32
  let arg22 : BitVec 32 := Scf.iv c0_i32_70 c1_i32_72 k0_t6
  let c640_i32 : BitVec 32 := 640#32
  let v122 : BitVec 32 := Scalar.muli arg22 c640_i32
  let v133 : Index := Scalar.indexCast v122
  let c0_81 : Index := 0#32
  ![0, v133.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x2560x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2560x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "big" => some ⊤
  | "ninth" => some ((9⁻¹ : ℝ) : EReal)
  | _ => none
-- ==== ReferenceIdeal.lean ====
abbrev S4x3x2500 : Shape := ⟨3, ![4, 3, 2500]⟩
abbrev S4x128x2500 : Shape := ⟨3, ![4, 128, 2500]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x6 : Shape := ⟨2, ![128, 6]⟩
abbrev S6 : Shape := ⟨1, ![6]⟩
abbrev S4x2500x128 : Shape := ⟨3, ![4, 2500, 128]⟩
abbrev S10000x128 : Shape := ⟨2, ![10000, 128]⟩
abbrev S_ : Shape := ⟨0, ![]⟩
abbrev S4x2500 : Shape := ⟨2, ![4, 2500]⟩
abbrev S4x2500x1 : Shape := ⟨3, ![4, 2500, 1]⟩
abbrev S4x1x2500 : Shape := ⟨3, ![4, 1, 2500]⟩
abbrev S4x2500x2500 : Shape := ⟨3, ![4, 2500, 2500]⟩
abbrev S2500x2500 : Shape := ⟨2, ![2500, 2500]⟩
abbrev S1x2500x2500 : Shape := ⟨3, ![1, 2500, 2500]⟩
abbrev S4x2500x8 : Shape := ⟨3, ![4, 2500, 8]⟩
abbrev S4 : Shape := ⟨1, ![4]⟩
abbrev S4x1x1 : Shape := ⟨3, ![4, 1, 1]⟩
abbrev S80000 : Shape := ⟨1, ![80000]⟩
abbrev S2500 : Shape := ⟨1, ![2500]⟩
abbrev S1x2500x1 : Shape := ⟨3, ![1, 2500, 1]⟩
abbrev S1x80000 : Shape := ⟨2, ![1, 80000]⟩
abbrev S2x80000 : Shape := ⟨2, ![2, 80000]⟩
abbrev S1x128x128 : Shape := ⟨3, ![1, 128, 128]⟩
abbrev S1x128 : Shape := ⟨2, ![1, 128]⟩
abbrev S10000 : Shape := ⟨1, ![10000]⟩
abbrev S90000 : Shape := ⟨1, ![90000]⟩
abbrev S90000x1 : Shape := ⟨2, ![90000, 1]⟩
abbrev S90000x128 : Shape := ⟨2, ![90000, 128]⟩
abbrev S10000x1 : Shape := ⟨2, ![10000, 1]⟩
abbrev S10000x6 : Shape := ⟨2, ![10000, 6]⟩
abbrev S1x6 : Shape := ⟨2, ![1, 6]⟩
abbrev S4x2500x3x2 : Shape := ⟨4, ![4, 2500, 3, 2]⟩
abbrev S4x3x2x2500 : Shape := ⟨4, ![4, 3, 2, 2500]⟩
abbrev S4x3x1x2500 : Shape := ⟨4, ![4, 3, 1, 2500]⟩
abbrev S4x3x5000 : Shape := ⟨3, ![4, 3, 5000]⟩

abbrev nBuf : Space → Nat
  | .hbm => 881
  | .vmem => 0
  | .smem => 0
  | _ => 0

abbrev hbmTy0_0 (i : Nat) : BufTy := match i % 128 with
  | 0 => ⟨S4x3x2500, .f32⟩
  | 1 => ⟨S4x128x2500, .f32⟩
  | 2 => ⟨S4x128x128, .f32⟩
  | 3 => ⟨S4x128, .f32⟩
  | 4 => ⟨S4x128x128, .f32⟩
  | 5 => ⟨S4x128, .f32⟩
  | 6 => ⟨S128x128, .f32⟩
  | 7 => ⟨S128, .f32⟩
  | 8 => ⟨S128, .f32⟩
  | 9 => ⟨S128, .f32⟩
  | 10 => ⟨S128x6, .f32⟩
  | 11 => ⟨S6, .f32⟩
  | 12 => ⟨S4x2500x128, .f32⟩
  | 13 => ⟨S10000x128, .f32⟩
  | 14 => ⟨S4x2500x128, .f32⟩
  | 15 => ⟨S4x2500x128, .f32⟩
  | 16 => ⟨S_, .f32⟩
  | 17 => ⟨S4x2500, .f32⟩
  | 18 => ⟨S4x2500x1, .f32⟩
  | 19 => ⟨S4x1x2500, .f32⟩
  | 20 => ⟨S4x2500x2500, .f32⟩
  | 21 => ⟨S4x2500x2500, .f32⟩
  | 22 => ⟨S4x2500x2500, .f32⟩
  | 23 => ⟨S4x2500x2500, .f32⟩
  | 24 => ⟨S_, .f32⟩
  | 25 => ⟨S4x2500x2500, .f32⟩
  | 26 => ⟨S4x2500x2500, .f32⟩
  | 27 => ⟨S4x2500x2500, .f32⟩
  | 28 => ⟨S2500x2500, .i32⟩
  | 29 => ⟨S2500x2500, .i32⟩
  | 30 => ⟨S_, .i32⟩
  | 31 => ⟨S2500x2500, .i32⟩
  | 32 => ⟨S2500x2500, .i32⟩
  | 33 => ⟨S2500x2500, .i1⟩
  | 34 => ⟨S2500x2500, .f32⟩
  | 35 => ⟨S1x2500x2500, .f32⟩
  | 36 => ⟨S_, .f32⟩
  | 37 => ⟨S1x2500x2500, .f32⟩
  | 38 => ⟨S1x2500x2500, .f32⟩
  | 39 => ⟨S4x2500x2500, .f32⟩
  | 40 => ⟨S4x2500x2500, .f32⟩
  | 41 => ⟨S4x2500x2500, .f32⟩
  | 42 => ⟨S4x2500x8, .f32⟩
  | 43 => ⟨S4x2500x8, .i32⟩
  | 44 => ⟨S4, .i32⟩
  | 45 => ⟨S_, .i32⟩
  | 46 => ⟨S4, .i32⟩
  | 47 => ⟨S4, .i32⟩
  | 48 => ⟨S4x1x1, .i32⟩
  | 49 => ⟨S4x2500x8, .i32⟩
  | 50 => ⟨S4x2500x8, .i32⟩
  | 51 => ⟨S80000, .i32⟩
  | 52 => ⟨S2500, .i32⟩
  | 53 => ⟨S1x2500x1, .i32⟩
  | 54 => ⟨S4x2500x1, .i32⟩
  | 55 => ⟨S4x2500x1, .i32⟩
  | 56 => ⟨S4x2500x1, .i32⟩
  | 57 => ⟨S4x2500x8, .i32⟩
  | 58 => ⟨S80000, .i32⟩
  | 59 => ⟨S1x80000, .i32⟩
  | 60 => ⟨S1x80000, .i32⟩
  | 61 => ⟨S2x80000, .i32⟩
  | 62 => ⟨S1x128x128, .f32⟩
  | 63 => ⟨S128x128, .f32⟩
  | 64 => ⟨S1x128, .f32⟩
  | 65 => ⟨S128, .f32⟩
  | 66 => ⟨S10000, .i32⟩
  | 67 => ⟨S1x80000, .i32⟩
  | 68 => ⟨S80000, .i32⟩
  | 69 => ⟨S90000, .i32⟩
  | 70 => ⟨S1x80000, .i32⟩
  | 71 => ⟨S80000, .i32⟩
  | 72 => ⟨S90000, .i32⟩
  | 73 => ⟨S_, .f32⟩
  | 74 => ⟨S10000, .f32⟩
  | 75 => ⟨S_, .i32⟩
  | 76 => ⟨S90000, .i32⟩
  | 77 => ⟨S90000, .i1⟩
  | 78 => ⟨S_, .i32⟩
  | 79 => ⟨S90000, .i32⟩
  | 80 => ⟨S90000, .i32⟩
  | 81 => ⟨S90000, .i32⟩
  | 82 => ⟨S90000x1, .i32⟩
  | 83 => ⟨S_, .f32⟩
  | 84 => ⟨S90000, .f32⟩
  | 85 => ⟨S10000, .f32⟩
  | 86 => ⟨S_, .f32⟩
  | 87 => ⟨S10000, .f32⟩
  | 88 => ⟨S10000, .f32⟩
  | 89 => ⟨S10000, .f32⟩
  | 90 => ⟨S_, .i32⟩
  | 91 => ⟨S90000, .i32⟩
  | 92 => ⟨S90000, .i1⟩
  | 93 => ⟨S_, .i32⟩
  | 94 => ⟨S90000, .i32⟩
  | 95 => ⟨S90000, .i32⟩
  | 96 => ⟨S90000, .i32⟩
  | 97 => ⟨S90000x1, .i32⟩
  | 98 => ⟨S90000, .f32⟩
  | 99 => ⟨S_, .i32⟩
  | 100 => ⟨S90000, .i32⟩
  | 101 => ⟨S90000, .i1⟩
  | 102 => ⟨S_, .i32⟩
  | 103 => ⟨S90000, .i32⟩
  | 104 => ⟨S90000, .i32⟩
  | 105 => ⟨S90000, .i32⟩
  | 106 => ⟨S90000x1, .i32⟩
  | 107 => ⟨S90000, .f32⟩
  | 108 => ⟨S90000, .f32⟩
  | 109 => ⟨S10000x128, .f32⟩
  | 110 => ⟨S_, .i32⟩
  | 111 => ⟨S90000, .i32⟩
  | 112 => ⟨S90000, .i1⟩
  | 113 => ⟨S_, .i32⟩
  | 114 => ⟨S90000, .i32⟩
  | 115 => ⟨S90000, .i32⟩
  | 116 => ⟨S90000, .i32⟩
  | 117 => ⟨S90000x1, .i32⟩
  | 118 => ⟨S90000x128, .f32⟩
  | 119 => ⟨S90000x1, .f32⟩
  | 120 => ⟨S90000x128, .f32⟩
  | 121 => ⟨S90000x128, .f32⟩
  | 122 => ⟨S_, .f32⟩
  | 123 => ⟨S10000x128, .f32⟩
  | 124 => ⟨S_, .i32⟩
  | 125 => ⟨S90000, .i32⟩
  | 126 => ⟨S90000, .i1⟩
  | 127 => ⟨S_, .i32⟩
  | _ => ⟨S4x3x2500, .f32⟩

abbrev hbmTy0_1 (i : Nat) : BufTy := match i % 128 with
  | 0 => ⟨S90000, .i32⟩
  | 1 => ⟨S90000, .i32⟩
  | 2 => ⟨S90000, .i32⟩
  | 3 => ⟨S90000x1, .i32⟩
  | 4 => ⟨S10000x128, .f32⟩
  | 5 => ⟨S1x128, .f32⟩
  | 6 => ⟨S10000x128, .f32⟩
  | 7 => ⟨S10000x128, .f32⟩
  | 8 => ⟨S_, .f32⟩
  | 9 => ⟨S10000x128, .f32⟩
  | 10 => ⟨S10000x128, .f32⟩
  | 11 => ⟨S1x128x128, .f32⟩
  | 12 => ⟨S128x128, .f32⟩
  | 13 => ⟨S1x128, .f32⟩
  | 14 => ⟨S128, .f32⟩
  | 15 => ⟨S10000, .i32⟩
  | 16 => ⟨S1x80000, .i32⟩
  | 17 => ⟨S80000, .i32⟩
  | 18 => ⟨S90000, .i32⟩
  | 19 => ⟨S1x80000, .i32⟩
  | 20 => ⟨S80000, .i32⟩
  | 21 => ⟨S90000, .i32⟩
  | 22 => ⟨S_, .f32⟩
  | 23 => ⟨S10000, .f32⟩
  | 24 => ⟨S_, .i32⟩
  | 25 => ⟨S90000, .i32⟩
  | 26 => ⟨S90000, .i1⟩
  | 27 => ⟨S_, .i32⟩
  | 28 => ⟨S90000, .i32⟩
  | 29 => ⟨S90000, .i32⟩
  | 30 => ⟨S90000, .i32⟩
  | 31 => ⟨S90000x1, .i32⟩
  | 32 => ⟨S_, .f32⟩
  | 33 => ⟨S90000, .f32⟩
  | 34 => ⟨S10000, .f32⟩
  | 35 => ⟨S_, .f32⟩
  | 36 => ⟨S10000, .f32⟩
  | 37 => ⟨S10000, .f32⟩
  | 38 => ⟨S10000, .f32⟩
  | 39 => ⟨S_, .i32⟩
  | 40 => ⟨S90000, .i32⟩
  | 41 => ⟨S90000, .i1⟩
  | 42 => ⟨S_, .i32⟩
  | 43 => ⟨S90000, .i32⟩
  | 44 => ⟨S90000, .i32⟩
  | 45 => ⟨S90000, .i32⟩
  | 46 => ⟨S90000x1, .i32⟩
  | 47 => ⟨S90000, .f32⟩
  | 48 => ⟨S_, .i32⟩
  | 49 => ⟨S90000, .i32⟩
  | 50 => ⟨S90000, .i1⟩
  | 51 => ⟨S_, .i32⟩
  | 52 => ⟨S90000, .i32⟩
  | 53 => ⟨S90000, .i32⟩
  | 54 => ⟨S90000, .i32⟩
  | 55 => ⟨S90000x1, .i32⟩
  | 56 => ⟨S90000, .f32⟩
  | 57 => ⟨S90000, .f32⟩
  | 58 => ⟨S10000x128, .f32⟩
  | 59 => ⟨S_, .i32⟩
  | 60 => ⟨S90000, .i32⟩
  | 61 => ⟨S90000, .i1⟩
  | 62 => ⟨S_, .i32⟩
  | 63 => ⟨S90000, .i32⟩
  | 64 => ⟨S90000, .i32⟩
  | 65 => ⟨S90000, .i32⟩
  | 66 => ⟨S90000x1, .i32⟩
  | 67 => ⟨S90000x128, .f32⟩
  | 68 => ⟨S90000x1, .f32⟩
  | 69 => ⟨S90000x128, .f32⟩
  | 70 => ⟨S90000x128, .f32⟩
  | 71 => ⟨S_, .f32⟩
  | 72 => ⟨S10000x128, .f32⟩
  | 73 => ⟨S_, .i32⟩
  | 74 => ⟨S90000, .i32⟩
  | 75 => ⟨S90000, .i1⟩
  | 76 => ⟨S_, .i32⟩
  | 77 => ⟨S90000, .i32⟩
  | 78 => ⟨S90000, .i32⟩
  | 79 => ⟨S90000, .i32⟩
  | 80 => ⟨S90000x1, .i32⟩
  | 81 => ⟨S10000x128, .f32⟩
  | 82 => ⟨S1x128, .f32⟩
  | 83 => ⟨S10000x128, .f32⟩
  | 84 => ⟨S10000x128, .f32⟩
  | 85 => ⟨S10000x128, .f32⟩
  | 86 => ⟨S4x2500x128, .f32⟩
  | 87 => ⟨S4x2500x128, .f32⟩
  | 88 => ⟨S_, .f32⟩
  | 89 => ⟨S4x2500, .f32⟩
  | 90 => ⟨S4x2500x1, .f32⟩
  | 91 => ⟨S4x1x2500, .f32⟩
  | 92 => ⟨S4x2500x2500, .f32⟩
  | 93 => ⟨S4x2500x2500, .f32⟩
  | 94 => ⟨S4x2500x2500, .f32⟩
  | 95 => ⟨S4x2500x2500, .f32⟩
  | 96 => ⟨S_, .f32⟩
  | 97 => ⟨S4x2500x2500, .f32⟩
  | 98 => ⟨S4x2500x2500, .f32⟩
  | 99 => ⟨S4x2500x2500, .f32⟩
  | 100 => ⟨S2500x2500, .i32⟩
  | 101 => ⟨S2500x2500, .i32⟩
  | 102 => ⟨S_, .i32⟩
  | 103 => ⟨S2500x2500, .i32⟩
  | 104 => ⟨S2500x2500, .i32⟩
  | 105 => ⟨S2500x2500, .i1⟩
  | 106 => ⟨S2500x2500, .f32⟩
  | 107 => ⟨S1x2500x2500, .f32⟩
  | 108 => ⟨S_, .f32⟩
  | 109 => ⟨S1x2500x2500, .f32⟩
  | 110 => ⟨S1x2500x2500, .f32⟩
  | 111 => ⟨S4x2500x2500, .f32⟩
  | 112 => ⟨S4x2500x2500, .f32⟩
  | 113 => ⟨S4x2500x2500, .f32⟩
  | 114 => ⟨S4x2500x8, .f32⟩
  | 115 => ⟨S4x2500x8, .i32⟩
  | 116 => ⟨S4, .i32⟩
  | 117 => ⟨S_, .i32⟩
  | 118 => ⟨S4, .i32⟩
  | 119 => ⟨S4, .i32⟩
  | 120 => ⟨S4x1x1, .i32⟩
  | 121 => ⟨S4x2500x8, .i32⟩
  | 122 => ⟨S4x2500x8, .i32⟩
  | 123 => ⟨S80000, .i32⟩
  | 124 => ⟨S2500, .i32⟩
  | 125 => ⟨S1x2500x1, .i32⟩
  | 126 => ⟨S4x2500x1, .i32⟩
  | 127 => ⟨S4x2500x1, .i32⟩
  | _ => ⟨S4x3x2500, .f32⟩

abbrev hbmTy0_2 (i : Nat) : BufTy := match i % 128 with
  | 0 => ⟨S4x2500x1, .i32⟩
  | 1 => ⟨S4x2500x8, .i32⟩
  | 2 => ⟨S80000, .i32⟩
  | 3 => ⟨S1x80000, .i32⟩
  | 4 => ⟨S1x80000, .i32⟩
  | 5 => ⟨S2x80000, .i32⟩
  | 6 => ⟨S1x128x128, .f32⟩
  | 7 => ⟨S128x128, .f32⟩
  | 8 => ⟨S1x128, .f32⟩
  | 9 => ⟨S128, .f32⟩
  | 10 => ⟨S10000, .i32⟩
  | 11 => ⟨S1x80000, .i32⟩
  | 12 => ⟨S80000, .i32⟩
  | 13 => ⟨S90000, .i32⟩
  | 14 => ⟨S1x80000, .i32⟩
  | 15 => ⟨S80000, .i32⟩
  | 16 => ⟨S90000, .i32⟩
  | 17 => ⟨S_, .f32⟩
  | 18 => ⟨S10000, .f32⟩
  | 19 => ⟨S_, .i32⟩
  | 20 => ⟨S90000, .i32⟩
  | 21 => ⟨S90000, .i1⟩
  | 22 => ⟨S_, .i32⟩
  | 23 => ⟨S90000, .i32⟩
  | 24 => ⟨S90000, .i32⟩
  | 25 => ⟨S90000, .i32⟩
  | 26 => ⟨S90000x1, .i32⟩
  | 27 => ⟨S_, .f32⟩
  | 28 => ⟨S90000, .f32⟩
  | 29 => ⟨S10000, .f32⟩
  | 30 => ⟨S_, .f32⟩
  | 31 => ⟨S10000, .f32⟩
  | 32 => ⟨S10000, .f32⟩
  | 33 => ⟨S10000, .f32⟩
  | 34 => ⟨S_, .i32⟩
  | 35 => ⟨S90000, .i32⟩
  | 36 => ⟨S90000, .i1⟩
  | 37 => ⟨S_, .i32⟩
  | 38 => ⟨S90000, .i32⟩
  | 39 => ⟨S90000, .i32⟩
  | 40 => ⟨S90000, .i32⟩
  | 41 => ⟨S90000x1, .i32⟩
  | 42 => ⟨S90000, .f32⟩
  | 43 => ⟨S_, .i32⟩
  | 44 => ⟨S90000, .i32⟩
  | 45 => ⟨S90000, .i1⟩
  | 46 => ⟨S_, .i32⟩
  | 47 => ⟨S90000, .i32⟩
  | 48 => ⟨S90000, .i32⟩
  | 49 => ⟨S90000, .i32⟩
  | 50 => ⟨S90000x1, .i32⟩
  | 51 => ⟨S90000, .f32⟩
  | 52 => ⟨S90000, .f32⟩
  | 53 => ⟨S10000x128, .f32⟩
  | 54 => ⟨S_, .i32⟩
  | 55 => ⟨S90000, .i32⟩
  | 56 => ⟨S90000, .i1⟩
  | 57 => ⟨S_, .i32⟩
  | 58 => ⟨S90000, .i32⟩
  | 59 => ⟨S90000, .i32⟩
  | 60 => ⟨S90000, .i32⟩
  | 61 => ⟨S90000x1, .i32⟩
  | 62 => ⟨S90000x128, .f32⟩
  | 63 => ⟨S90000x1, .f32⟩
  | 64 => ⟨S90000x128, .f32⟩
  | 65 => ⟨S90000x128, .f32⟩
  | 66 => ⟨S_, .f32⟩
  | 67 => ⟨S10000x128, .f32⟩
  | 68 => ⟨S_, .i32⟩
  | 69 => ⟨S90000, .i32⟩
  | 70 => ⟨S90000, .i1⟩
  | 71 => ⟨S_, .i32⟩
  | 72 => ⟨S90000, .i32⟩
  | 73 => ⟨S90000, .i32⟩
  | 74 => ⟨S90000, .i32⟩
  | 75 => ⟨S90000x1, .i32⟩
  | 76 => ⟨S10000x128, .f32⟩
  | 77 => ⟨S1x128, .f32⟩
  | 78 => ⟨S10000x128, .f32⟩
  | 79 => ⟨S10000x128, .f32⟩
  | 80 => ⟨S_, .f32⟩
  | 81 => ⟨S10000x128, .f32⟩
  | 82 => ⟨S10000x128, .f32⟩
  | 83 => ⟨S1x128x128, .f32⟩
  | 84 => ⟨S128x128, .f32⟩
  | 85 => ⟨S1x128, .f32⟩
  | 86 => ⟨S128, .f32⟩
  | 87 => ⟨S10000, .i32⟩
  | 88 => ⟨S1x80000, .i32⟩
  | 89 => ⟨S80000, .i32⟩
  | 90 => ⟨S90000, .i32⟩
  | 91 => ⟨S1x80000, .i32⟩
  | 92 => ⟨S80000, .i32⟩
  | 93 => ⟨S90000, .i32⟩
  | 94 => ⟨S_, .f32⟩
  | 95 => ⟨S10000, .f32⟩
  | 96 => ⟨S_, .i32⟩
  | 97 => ⟨S90000, .i32⟩
  | 98 => ⟨S90000, .i1⟩
  | 99 => ⟨S_, .i32⟩
  | 100 => ⟨S90000, .i32⟩
  | 101 => ⟨S90000, .i32⟩
  | 102 => ⟨S90000, .i32⟩
  | 103 => ⟨S90000x1, .i32⟩
  | 104 => ⟨S_, .f32⟩
  | 105 => ⟨S90000, .f32⟩
  | 106 => ⟨S10000, .f32⟩
  | 107 => ⟨S_, .f32⟩
  | 108 => ⟨S10000, .f32⟩
  | 109 => ⟨S10000, .f32⟩
  | 110 => ⟨S10000, .f32⟩
  | 111 => ⟨S_, .i32⟩
  | 112 => ⟨S90000, .i32⟩
  | 113 => ⟨S90000, .i1⟩
  | 114 => ⟨S_, .i32⟩
  | 115 => ⟨S90000, .i32⟩
  | 116 => ⟨S90000, .i32⟩
  | 117 => ⟨S90000, .i32⟩
  | 118 => ⟨S90000x1, .i32⟩
  | 119 => ⟨S90000, .f32⟩
  | 120 => ⟨S_, .i32⟩
  | 121 => ⟨S90000, .i32⟩
  | 122 => ⟨S90000, .i1⟩
  | 123 => ⟨S_, .i32⟩
  | 124 => ⟨S90000, .i32⟩
  | 125 => ⟨S90000, .i32⟩
  | 126 => ⟨S90000, .i32⟩
  | 127 => ⟨S90000x1, .i32⟩
  | _ => ⟨S4x3x2500, .f32⟩

abbrev hbmTy0_3 (i : Nat) : BufTy := match i % 128 with
  | 0 => ⟨S90000, .f32⟩
  | 1 => ⟨S90000, .f32⟩
  | 2 => ⟨S10000x128, .f32⟩
  | 3 => ⟨S_, .i32⟩
  | 4 => ⟨S90000, .i32⟩
  | 5 => ⟨S90000, .i1⟩
  | 6 => ⟨S_, .i32⟩
  | 7 => ⟨S90000, .i32⟩
  | 8 => ⟨S90000, .i32⟩
  | 9 => ⟨S90000, .i32⟩
  | 10 => ⟨S90000x1, .i32⟩
  | 11 => ⟨S90000x128, .f32⟩
  | 12 => ⟨S90000x1, .f32⟩
  | 13 => ⟨S90000x128, .f32⟩
  | 14 => ⟨S90000x128, .f32⟩
  | 15 => ⟨S_, .f32⟩
  | 16 => ⟨S10000x128, .f32⟩
  | 17 => ⟨S_, .i32⟩
  | 18 => ⟨S90000, .i32⟩
  | 19 => ⟨S90000, .i1⟩
  | 20 => ⟨S_, .i32⟩
  | 21 => ⟨S90000, .i32⟩
  | 22 => ⟨S90000, .i32⟩
  | 23 => ⟨S90000, .i32⟩
  | 24 => ⟨S90000x1, .i32⟩
  | 25 => ⟨S10000x128, .f32⟩
  | 26 => ⟨S1x128, .f32⟩
  | 27 => ⟨S10000x128, .f32⟩
  | 28 => ⟨S10000x128, .f32⟩
  | 29 => ⟨S10000x128, .f32⟩
  | 30 => ⟨S4x2500x128, .f32⟩
  | 31 => ⟨S4x2500x128, .f32⟩
  | 32 => ⟨S_, .f32⟩
  | 33 => ⟨S4x2500, .f32⟩
  | 34 => ⟨S4x2500x1, .f32⟩
  | 35 => ⟨S4x1x2500, .f32⟩
  | 36 => ⟨S4x2500x2500, .f32⟩
  | 37 => ⟨S4x2500x2500, .f32⟩
  | 38 => ⟨S4x2500x2500, .f32⟩
  | 39 => ⟨S4x2500x2500, .f32⟩
  | 40 => ⟨S_, .f32⟩
  | 41 => ⟨S4x2500x2500, .f32⟩
  | 42 => ⟨S4x2500x2500, .f32⟩
  | 43 => ⟨S4x2500x2500, .f32⟩
  | 44 => ⟨S2500x2500, .i32⟩
  | 45 => ⟨S2500x2500, .i32⟩
  | 46 => ⟨S_, .i32⟩
  | 47 => ⟨S2500x2500, .i32⟩
  | 48 => ⟨S2500x2500, .i32⟩
  | 49 => ⟨S2500x2500, .i1⟩
  | 50 => ⟨S2500x2500, .f32⟩
  | 51 => ⟨S1x2500x2500, .f32⟩
  | 52 => ⟨S_, .f32⟩
  | 53 => ⟨S1x2500x2500, .f32⟩
  | 54 => ⟨S1x2500x2500, .f32⟩
  | 55 => ⟨S4x2500x2500, .f32⟩
  | 56 => ⟨S4x2500x2500, .f32⟩
  | 57 => ⟨S4x2500x2500, .f32⟩
  | 58 => ⟨S4x2500x8, .f32⟩
  | 59 => ⟨S4x2500x8, .i32⟩
  | 60 => ⟨S4, .i32⟩
  | 61 => ⟨S_, .i32⟩
  | 62 => ⟨S4, .i32⟩
  | 63 => ⟨S4, .i32⟩
  | 64 => ⟨S4x1x1, .i32⟩
  | 65 => ⟨S4x2500x8, .i32⟩
  | 66 => ⟨S4x2500x8, .i32⟩
  | 67 => ⟨S80000, .i32⟩
  | 68 => ⟨S2500, .i32⟩
  | 69 => ⟨S1x2500x1, .i32⟩
  | 70 => ⟨S4x2500x1, .i32⟩
  | 71 => ⟨S4x2500x1, .i32⟩
  | 72 => ⟨S4x2500x1, .i32⟩
  | 73 => ⟨S4x2500x8, .i32⟩
  | 74 => ⟨S80000, .i32⟩
  | 75 => ⟨S1x80000, .i32⟩
  | 76 => ⟨S1x80000, .i32⟩
  | 77 => ⟨S2x80000, .i32⟩
  | 78 => ⟨S1x128x128, .f32⟩
  | 79 => ⟨S128x128, .f32⟩
  | 80 => ⟨S1x128, .f32⟩
  | 81 => ⟨S128, .f32⟩
  | 82 => ⟨S10000, .i32⟩
  | 83 => ⟨S1x80000, .i32⟩
  | 84 => ⟨S80000, .i32⟩
  | 85 => ⟨S90000, .i32⟩
  | 86 => ⟨S1x80000, .i32⟩
  | 87 => ⟨S80000, .i32⟩
  | 88 => ⟨S90000, .i32⟩
  | 89 => ⟨S_, .f32⟩
  | 90 => ⟨S10000, .f32⟩
  | 91 => ⟨S_, .i32⟩
  | 92 => ⟨S90000, .i32⟩
  | 93 => ⟨S90000, .i1⟩
  | 94 => ⟨S_, .i32⟩
  | 95 => ⟨S90000, .i32⟩
  | 96 => ⟨S90000, .i32⟩
  | 97 => ⟨S90000, .i32⟩
  | 98 => ⟨S90000x1, .i32⟩
  | 99 => ⟨S_, .f32⟩
  | 100 => ⟨S90000, .f32⟩
  | 101 => ⟨S10000, .f32⟩
  | 102 => ⟨S_, .f32⟩
  | 103 => ⟨S10000, .f32⟩
  | 104 => ⟨S10000, .f32⟩
  | 105 => ⟨S10000, .f32⟩
  | 106 => ⟨S_, .i32⟩
  | 107 => ⟨S90000, .i32⟩
  | 108 => ⟨S90000, .i1⟩
  | 109 => ⟨S_, .i32⟩
  | 110 => ⟨S90000, .i32⟩
  | 111 => ⟨S90000, .i32⟩
  | 112 => ⟨S90000, .i32⟩
  | 113 => ⟨S90000x1, .i32⟩
  | 114 => ⟨S90000, .f32⟩
  | 115 => ⟨S_, .i32⟩
  | 116 => ⟨S90000, .i32⟩
  | 117 => ⟨S90000, .i1⟩
  | 118 => ⟨S_, .i32⟩
  | 119 => ⟨S90000, .i32⟩
  | 120 => ⟨S90000, .i32⟩
  | 121 => ⟨S90000, .i32⟩
  | 122 => ⟨S90000x1, .i32⟩
  | 123 => ⟨S90000, .f32⟩
  | 124 => ⟨S90000, .f32⟩
  | 125 => ⟨S10000x128, .f32⟩
  | 126 => ⟨S_, .i32⟩
  | 127 => ⟨S90000, .i32⟩
  | _ => ⟨S4x3x2500, .f32⟩

abbrev hbmTy0_4 (i : Nat) : BufTy := match i % 128 with
  | 0 => ⟨S90000, .i1⟩
  | 1 => ⟨S_, .i32⟩
  | 2 => ⟨S90000, .i32⟩
  | 3 => ⟨S90000, .i32⟩
  | 4 => ⟨S90000, .i32⟩
  | 5 => ⟨S90000x1, .i32⟩
  | 6 => ⟨S90000x128, .f32⟩
  | 7 => ⟨S90000x1, .f32⟩
  | 8 => ⟨S90000x128, .f32⟩
  | 9 => ⟨S90000x128, .f32⟩
  | 10 => ⟨S_, .f32⟩
  | 11 => ⟨S10000x128, .f32⟩
  | 12 => ⟨S_, .i32⟩
  | 13 => ⟨S90000, .i32⟩
  | 14 => ⟨S90000, .i1⟩
  | 15 => ⟨S_, .i32⟩
  | 16 => ⟨S90000, .i32⟩
  | 17 => ⟨S90000, .i32⟩
  | 18 => ⟨S90000, .i32⟩
  | 19 => ⟨S90000x1, .i32⟩
  | 20 => ⟨S10000x128, .f32⟩
  | 21 => ⟨S1x128, .f32⟩
  | 22 => ⟨S10000x128, .f32⟩
  | 23 => ⟨S10000x128, .f32⟩
  | 24 => ⟨S_, .f32⟩
  | 25 => ⟨S10000x128, .f32⟩
  | 26 => ⟨S10000x128, .f32⟩
  | 27 => ⟨S1x128x128, .f32⟩
  | 28 => ⟨S128x128, .f32⟩
  | 29 => ⟨S1x128, .f32⟩
  | 30 => ⟨S128, .f32⟩
  | 31 => ⟨S10000, .i32⟩
  | 32 => ⟨S1x80000, .i32⟩
  | 33 => ⟨S80000, .i32⟩
  | 34 => ⟨S90000, .i32⟩
  | 35 => ⟨S1x80000, .i32⟩
  | 36 => ⟨S80000, .i32⟩
  | 37 => ⟨S90000, .i32⟩
  | 38 => ⟨S_, .f32⟩
  | 39 => ⟨S10000, .f32⟩
  | 40 => ⟨S_, .i32⟩
  | 41 => ⟨S90000, .i32⟩
  | 42 => ⟨S90000, .i1⟩
  | 43 => ⟨S_, .i32⟩
  | 44 => ⟨S90000, .i32⟩
  | 45 => ⟨S90000, .i32⟩
  | 46 => ⟨S90000, .i32⟩
  | 47 => ⟨S90000x1, .i32⟩
  | 48 => ⟨S_, .f32⟩
  | 49 => ⟨S90000, .f32⟩
  | 50 => ⟨S10000, .f32⟩
  | 51 => ⟨S_, .f32⟩
  | 52 => ⟨S10000, .f32⟩
  | 53 => ⟨S10000, .f32⟩
  | 54 => ⟨S10000, .f32⟩
  | 55 => ⟨S_, .i32⟩
  | 56 => ⟨S90000, .i32⟩
  | 57 => ⟨S90000, .i1⟩
  | 58 => ⟨S_, .i32⟩
  | 59 => ⟨S90000, .i32⟩
  | 60 => ⟨S90000, .i32⟩
  | 61 => ⟨S90000, .i32⟩
  | 62 => ⟨S90000x1, .i32⟩
  | 63 => ⟨S90000, .f32⟩
  | 64 => ⟨S_, .i32⟩
  | 65 => ⟨S90000, .i32⟩
  | 66 => ⟨S90000, .i1⟩
  | 67 => ⟨S_, .i32⟩
  | 68 => ⟨S90000, .i32⟩
  | 69 => ⟨S90000, .i32⟩
  | 70 => ⟨S90000, .i32⟩
  | 71 => ⟨S90000x1, .i32⟩
  | 72 => ⟨S90000, .f32⟩
  | 73 => ⟨S90000, .f32⟩
  | 74 => ⟨S10000x128, .f32⟩
  | 75 => ⟨S_, .i32⟩
  | 76 => ⟨S90000, .i32⟩
  | 77 => ⟨S90000, .i1⟩
  | 78 => ⟨S_, .i32⟩
  | 79 => ⟨S90000, .i32⟩
  | 80 => ⟨S90000, .i32⟩
  | 81 => ⟨S90000, .i32⟩
  | 82 => ⟨S90000x1, .i32⟩
  | 83 => ⟨S90000x128, .f32⟩
  | 84 => ⟨S90000x1, .f32⟩
  | 85 => ⟨S90000x128, .f32⟩
  | 86 => ⟨S90000x128, .f32⟩
  | 87 => ⟨S_, .f32⟩
  | 88 => ⟨S10000x128, .f32⟩
  | 89 => ⟨S_, .i32⟩
  | 90 => ⟨S90000, .i32⟩
  | 91 => ⟨S90000, .i1⟩
  | 92 => ⟨S_, .i32⟩
  | 93 => ⟨S90000, .i32⟩
  | 94 => ⟨S90000, .i32⟩
  | 95 => ⟨S90000, .i32⟩
  | 96 => ⟨S90000x1, .i32⟩
  | 97 => ⟨S10000x128, .f32⟩
  | 98 => ⟨S1x128, .f32⟩
  | 99 => ⟨S10000x128, .f32⟩
  | 100 => ⟨S10000x128, .f32⟩
  | 101 => ⟨S10000x128, .f32⟩
  | 102 => ⟨S4x2500x128, .f32⟩
  | 103 => ⟨S4x2500x128, .f32⟩
  | 104 => ⟨S_, .f32⟩
  | 105 => ⟨S4x2500, .f32⟩
  | 106 => ⟨S4x2500x1, .f32⟩
  | 107 => ⟨S4x1x2500, .f32⟩
  | 108 => ⟨S4x2500x2500, .f32⟩
  | 109 => ⟨S4x2500x2500, .f32⟩
  | 110 => ⟨S4x2500x2500, .f32⟩
  | 111 => ⟨S4x2500x2500, .f32⟩
  | 112 => ⟨S_, .f32⟩
  | 113 => ⟨S4x2500x2500, .f32⟩
  | 114 => ⟨S4x2500x2500, .f32⟩
  | 115 => ⟨S4x2500x2500, .f32⟩
  | 116 => ⟨S2500x2500, .i32⟩
  | 117 => ⟨S2500x2500, .i32⟩
  | 118 => ⟨S_, .i32⟩
  | 119 => ⟨S2500x2500, .i32⟩
  | 120 => ⟨S2500x2500, .i32⟩
  | 121 => ⟨S2500x2500, .i1⟩
  | 122 => ⟨S2500x2500, .f32⟩
  | 123 => ⟨S1x2500x2500, .f32⟩
  | 124 => ⟨S_, .f32⟩
  | 125 => ⟨S1x2500x2500, .f32⟩
  | 126 => ⟨S1x2500x2500, .f32⟩
  | 127 => ⟨S4x2500x2500, .f32⟩
  | _ => ⟨S4x3x2500, .f32⟩

abbrev hbmTy0_5 (i : Nat) : BufTy := match i % 128 with
  | 0 => ⟨S4x2500x2500, .f32⟩
  | 1 => ⟨S4x2500x2500, .f32⟩
  | 2 => ⟨S4x2500x8, .f32⟩
  | 3 => ⟨S4x2500x8, .i32⟩
  | 4 => ⟨S4, .i32⟩
  | 5 => ⟨S_, .i32⟩
  | 6 => ⟨S4, .i32⟩
  | 7 => ⟨S4, .i32⟩
  | 8 => ⟨S4x1x1, .i32⟩
  | 9 => ⟨S4x2500x8, .i32⟩
  | 10 => ⟨S4x2500x8, .i32⟩
  | 11 => ⟨S80000, .i32⟩
  | 12 => ⟨S2500, .i32⟩
  | 13 => ⟨S1x2500x1, .i32⟩
  | 14 => ⟨S4x2500x1, .i32⟩
  | 15 => ⟨S4x2500x1, .i32⟩
  | 16 => ⟨S4x2500x1, .i32⟩
  | 17 => ⟨S4x2500x8, .i32⟩
  | 18 => ⟨S80000, .i32⟩
  | 19 => ⟨S1x80000, .i32⟩
  | 20 => ⟨S1x80000, .i32⟩
  | 21 => ⟨S2x80000, .i32⟩
  | 22 => ⟨S1x128x128, .f32⟩
  | 23 => ⟨S128x128, .f32⟩
  | 24 => ⟨S1x128, .f32⟩
  | 25 => ⟨S128, .f32⟩
  | 26 => ⟨S10000, .i32⟩
  | 27 => ⟨S1x80000, .i32⟩
  | 28 => ⟨S80000, .i32⟩
  | 29 => ⟨S90000, .i32⟩
  | 30 => ⟨S1x80000, .i32⟩
  | 31 => ⟨S80000, .i32⟩
  | 32 => ⟨S90000, .i32⟩
  | 33 => ⟨S_, .f32⟩
  | 34 => ⟨S10000, .f32⟩
  | 35 => ⟨S_, .i32⟩
  | 36 => ⟨S90000, .i32⟩
  | 37 => ⟨S90000, .i1⟩
  | 38 => ⟨S_, .i32⟩
  | 39 => ⟨S90000, .i32⟩
  | 40 => ⟨S90000, .i32⟩
  | 41 => ⟨S90000, .i32⟩
  | 42 => ⟨S90000x1, .i32⟩
  | 43 => ⟨S_, .f32⟩
  | 44 => ⟨S90000, .f32⟩
  | 45 => ⟨S10000, .f32⟩
  | 46 => ⟨S_, .f32⟩
  | 47 => ⟨S10000, .f32⟩
  | 48 => ⟨S10000, .f32⟩
  | 49 => ⟨S10000, .f32⟩
  | 50 => ⟨S_, .i32⟩
  | 51 => ⟨S90000, .i32⟩
  | 52 => ⟨S90000, .i1⟩
  | 53 => ⟨S_, .i32⟩
  | 54 => ⟨S90000, .i32⟩
  | 55 => ⟨S90000, .i32⟩
  | 56 => ⟨S90000, .i32⟩
  | 57 => ⟨S90000x1, .i32⟩
  | 58 => ⟨S90000, .f32⟩
  | 59 => ⟨S_, .i32⟩
  | 60 => ⟨S90000, .i32⟩
  | 61 => ⟨S90000, .i1⟩
  | 62 => ⟨S_, .i32⟩
  | 63 => ⟨S90000, .i32⟩
  | 64 => ⟨S90000, .i32⟩
  | 65 => ⟨S90000, .i32⟩
  | 66 => ⟨S90000x1, .i32⟩
  | 67 => ⟨S90000, .f32⟩
  | 68 => ⟨S90000, .f32⟩
  | 69 => ⟨S10000x128, .f32⟩
  | 70 => ⟨S_, .i32⟩
  | 71 => ⟨S90000, .i32⟩
  | 72 => ⟨S90000, .i1⟩
  | 73 => ⟨S_, .i32⟩
  | 74 => ⟨S90000, .i32⟩
  | 75 => ⟨S90000, .i32⟩
  | 76 => ⟨S90000, .i32⟩
  | 77 => ⟨S90000x1, .i32⟩
  | 78 => ⟨S90000x128, .f32⟩
  | 79 => ⟨S90000x1, .f32⟩
  | 80 => ⟨S90000x128, .f32⟩
  | 81 => ⟨S90000x128, .f32⟩
  | 82 => ⟨S_, .f32⟩
  | 83 => ⟨S10000x128, .f32⟩
  | 84 => ⟨S_, .i32⟩
  | 85 => ⟨S90000, .i32⟩
  | 86 => ⟨S90000, .i1⟩
  | 87 => ⟨S_, .i32⟩
  | 88 => ⟨S90000, .i32⟩
  | 89 => ⟨S90000, .i32⟩
  | 90 => ⟨S90000, .i32⟩
  | 91 => ⟨S90000x1, .i32⟩
  | 92 => ⟨S10000x128, .f32⟩
  | 93 => ⟨S1x128, .f32⟩
  | 94 => ⟨S10000x128, .f32⟩
  | 95 => ⟨S10000x128, .f32⟩
  | 96 => ⟨S_, .f32⟩
  | 97 => ⟨S10000x128, .f32⟩
  | 98 => ⟨S10000x128, .f32⟩
  | 99 => ⟨S1x128x128, .f32⟩
  | 100 => ⟨S128x128, .f32⟩
  | 101 => ⟨S1x128, .f32⟩
  | 102 => ⟨S128, .f32⟩
  | 103 => ⟨S10000, .i32⟩
  | 104 => ⟨S1x80000, .i32⟩
  | 105 => ⟨S80000, .i32⟩
  | 106 => ⟨S90000, .i32⟩
  | 107 => ⟨S1x80000, .i32⟩
  | 108 => ⟨S80000, .i32⟩
  | 109 => ⟨S90000, .i32⟩
  | 110 => ⟨S_, .f32⟩
  | 111 => ⟨S10000, .f32⟩
  | 112 => ⟨S_, .i32⟩
  | 113 => ⟨S90000, .i32⟩
  | 114 => ⟨S90000, .i1⟩
  | 115 => ⟨S_, .i32⟩
  | 116 => ⟨S90000, .i32⟩
  | 117 => ⟨S90000, .i32⟩
  | 118 => ⟨S90000, .i32⟩
  | 119 => ⟨S90000x1, .i32⟩
  | 120 => ⟨S_, .f32⟩
  | 121 => ⟨S90000, .f32⟩
  | 122 => ⟨S10000, .f32⟩
  | 123 => ⟨S_, .f32⟩
  | 124 => ⟨S10000, .f32⟩
  | 125 => ⟨S10000, .f32⟩
  | 126 => ⟨S10000, .f32⟩
  | 127 => ⟨S_, .i32⟩
  | _ => ⟨S4x3x2500, .f32⟩

abbrev hbmTy0_6 (i : Nat) : BufTy := match i % 128 with
  | 0 => ⟨S90000, .i32⟩
  | 1 => ⟨S90000, .i1⟩
  | 2 => ⟨S_, .i32⟩
  | 3 => ⟨S90000, .i32⟩
  | 4 => ⟨S90000, .i32⟩
  | 5 => ⟨S90000, .i32⟩
  | 6 => ⟨S90000x1, .i32⟩
  | 7 => ⟨S90000, .f32⟩
  | 8 => ⟨S_, .i32⟩
  | 9 => ⟨S90000, .i32⟩
  | 10 => ⟨S90000, .i1⟩
  | 11 => ⟨S_, .i32⟩
  | 12 => ⟨S90000, .i32⟩
  | 13 => ⟨S90000, .i32⟩
  | 14 => ⟨S90000, .i32⟩
  | 15 => ⟨S90000x1, .i32⟩
  | 16 => ⟨S90000, .f32⟩
  | 17 => ⟨S90000, .f32⟩
  | 18 => ⟨S10000x128, .f32⟩
  | 19 => ⟨S_, .i32⟩
  | 20 => ⟨S90000, .i32⟩
  | 21 => ⟨S90000, .i1⟩
  | 22 => ⟨S_, .i32⟩
  | 23 => ⟨S90000, .i32⟩
  | 24 => ⟨S90000, .i32⟩
  | 25 => ⟨S90000, .i32⟩
  | 26 => ⟨S90000x1, .i32⟩
  | 27 => ⟨S90000x128, .f32⟩
  | 28 => ⟨S90000x1, .f32⟩
  | 29 => ⟨S90000x128, .f32⟩
  | 30 => ⟨S90000x128, .f32⟩
  | 31 => ⟨S_, .f32⟩
  | 32 => ⟨S10000x128, .f32⟩
  | 33 => ⟨S_, .i32⟩
  | 34 => ⟨S90000, .i32⟩
  | 35 => ⟨S90000, .i1⟩
  | 36 => ⟨S_, .i32⟩
  | 37 => ⟨S90000, .i32⟩
  | 38 => ⟨S90000, .i32⟩
  | 39 => ⟨S90000, .i32⟩
  | 40 => ⟨S90000x1, .i32⟩
  | 41 => ⟨S10000x128, .f32⟩
  | 42 => ⟨S1x128, .f32⟩
  | 43 => ⟨S10000x128, .f32⟩
  | 44 => ⟨S10000x128, .f32⟩
  | 45 => ⟨S10000x128, .f32⟩
  | 46 => ⟨S10000x128, .f32⟩
  | 47 => ⟨S1x128, .f32⟩
  | 48 => ⟨S10000x128, .f32⟩
  | 49 => ⟨S10000x128, .f32⟩
  | 50 => ⟨S_, .f32⟩
  | 51 => ⟨S10000, .f32⟩
  | 52 => ⟨S10000x1, .f32⟩
  | 53 => ⟨S_, .f32⟩
  | 54 => ⟨S10000x1, .f32⟩
  | 55 => ⟨S10000x1, .f32⟩
  | 56 => ⟨S_, .i32⟩
  | 57 => ⟨S_, .f32⟩
  | 58 => ⟨S10000, .f32⟩
  | 59 => ⟨S10000x1, .f32⟩
  | 60 => ⟨S_, .f32⟩
  | 61 => ⟨S10000x1, .f32⟩
  | 62 => ⟨S10000x1, .f32⟩
  | 63 => ⟨S10000x128, .f32⟩
  | 64 => ⟨S10000x128, .f32⟩
  | 65 => ⟨S10000x128, .f32⟩
  | 66 => ⟨S_, .f32⟩
  | 67 => ⟨S_, .f32⟩
  | 68 => ⟨S_, .f32⟩
  | 69 => ⟨S_, .f32⟩
  | 70 => ⟨S10000, .f32⟩
  | 71 => ⟨S10000x1, .f32⟩
  | 72 => ⟨S10000x1, .f32⟩
  | 73 => ⟨S10000x1, .f32⟩
  | 74 => ⟨S_, .f32⟩
  | 75 => ⟨S_, .i1⟩
  | 76 => ⟨S_, .f32⟩
  | 77 => ⟨S_, .f32⟩
  | 78 => ⟨S10000x1, .f32⟩
  | 79 => ⟨S10000x1, .f32⟩
  | 80 => ⟨S10000x128, .f32⟩
  | 81 => ⟨S10000x128, .f32⟩
  | 82 => ⟨S_, .f32⟩
  | 83 => ⟨S10000x1, .f32⟩
  | 84 => ⟨S10000x1, .f32⟩
  | 85 => ⟨S10000x1, .f32⟩
  | 86 => ⟨S10000x128, .f32⟩
  | 87 => ⟨S10000x128, .f32⟩
  | 88 => ⟨S1x128, .f32⟩
  | 89 => ⟨S10000x128, .f32⟩
  | 90 => ⟨S10000x128, .f32⟩
  | 91 => ⟨S1x128, .f32⟩
  | 92 => ⟨S10000x128, .f32⟩
  | 93 => ⟨S10000x128, .f32⟩
  | 94 => ⟨S_, .f32⟩
  | 95 => ⟨S10000x128, .f32⟩
  | 96 => ⟨S10000x128, .f32⟩
  | 97 => ⟨S10000x6, .f32⟩
  | 98 => ⟨S1x6, .f32⟩
  | 99 => ⟨S10000x6, .f32⟩
  | 100 => ⟨S10000x6, .f32⟩
  | 101 => ⟨S10000x6, .f32⟩
  | 102 => ⟨S_, .f32⟩
  | 103 => ⟨S10000x6, .f32⟩
  | 104 => ⟨S10000x6, .f32⟩
  | 105 => ⟨S4x2500x3x2, .f32⟩
  | 106 => ⟨S4x3x2x2500, .f32⟩
  | 107 => ⟨S4x3x1x2500, .f32⟩
  | 108 => ⟨S4x3x2x2500, .f32⟩
  | 109 => ⟨S4x3x2x2500, .f32⟩
  | 110 => ⟨S4x3x5000, .f32⟩
  | 111 => ⟨S4x2500x128, .f32⟩
  | 112 => ⟨S4x128x2500, .f32⟩
  | _ => ⟨S4x3x2500, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x3x2500, .f32⟩

abbrev bufTy : (tb : Table) → Fin (tcTables nBuf tb) → BufTy
  | .hbm, ⟨i, _⟩ => hbmTy i
  | _, _ => ⟨S4x3x2500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_values : Ref sig .tc := ⟨.hbm, 42, rfl⟩
abbrev main_indices : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_3 : Ref sig .tc := ⟨.hbm, 73, rfl⟩
abbrev main_v54 : Ref sig .tc := ⟨.hbm, 74, rfl⟩
abbrev main_c_4 : Ref sig .tc := ⟨.hbm, 75, rfl⟩
abbrev main_v55 : Ref sig .tc := ⟨.hbm, 76, rfl⟩
abbrev main_v56 : Ref sig .tc := ⟨.hbm, 77, rfl⟩
abbrev main_c_5 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_6 : Ref sig .tc := ⟨.hbm, 83, rfl⟩
abbrev main_v61 : Ref sig .tc := ⟨.hbm, 84, rfl⟩
abbrev main_v62 : Ref sig .tc := ⟨.hbm, 85, rfl⟩
abbrev main_cst_7 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_8 : Ref sig .tc := ⟨.hbm, 90, rfl⟩
abbrev main_v66 : Ref sig .tc := ⟨.hbm, 91, rfl⟩
abbrev main_v67 : Ref sig .tc := ⟨.hbm, 92, rfl⟩
abbrev main_c_9 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_10 : Ref sig .tc := ⟨.hbm, 99, rfl⟩
abbrev main_v73 : Ref sig .tc := ⟨.hbm, 100, rfl⟩
abbrev main_v74 : Ref sig .tc := ⟨.hbm, 101, rfl⟩
abbrev main_c_11 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_12 : Ref sig .tc := ⟨.hbm, 110, rfl⟩
abbrev main_v82 : Ref sig .tc := ⟨.hbm, 111, rfl⟩
abbrev main_v83 : Ref sig .tc := ⟨.hbm, 112, rfl⟩
abbrev main_c_13 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_14 : Ref sig .tc := ⟨.hbm, 122, rfl⟩
abbrev main_v92 : Ref sig .tc := ⟨.hbm, 123, rfl⟩
abbrev main_c_15 : Ref sig .tc := ⟨.hbm, 124, rfl⟩
abbrev main_v93 : Ref sig .tc := ⟨.hbm, 125, rfl⟩
abbrev main_v94 : Ref sig .tc := ⟨.hbm, 126, rfl⟩
abbrev main_c_16 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_call0_cst : Ref sig .tc := ⟨.hbm, 136, rfl⟩
abbrev main_call0_v0 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_17 : Ref sig .tc := ⟨.hbm, 150, rfl⟩
abbrev main_v115 : Ref sig .tc := ⟨.hbm, 151, rfl⟩
abbrev main_c_18 : Ref sig .tc := ⟨.hbm, 152, rfl⟩
abbrev main_v116 : Ref sig .tc := ⟨.hbm, 153, rfl⟩
abbrev main_v117 : Ref sig .tc := ⟨.hbm, 154, rfl⟩
abbrev main_c_19 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_20 : Ref sig .tc := ⟨.hbm, 160, rfl⟩
abbrev main_v122 : Ref sig .tc := ⟨.hbm, 161, rfl⟩
abbrev main_v123 : Ref sig .tc := ⟨.hbm, 162, rfl⟩
abbrev main_cst_21 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_c_22 : Ref sig .tc := ⟨.hbm, 167, rfl⟩
abbrev main_v127 : Ref sig .tc := ⟨.hbm, 168, rfl⟩
abbrev main_v128 : Ref sig .tc := ⟨.hbm, 169, rfl⟩
abbrev main_c_23 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_c_24 : Ref sig .tc := ⟨.hbm, 176, rfl⟩
abbrev main_v134 : Ref sig .tc := ⟨.hbm, 177, rfl⟩
abbrev main_v135 : Ref sig .tc := ⟨.hbm, 178, rfl⟩
abbrev main_c_25 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_c_26 : Ref sig .tc := ⟨.hbm, 187, rfl⟩
abbrev main_v143 : Ref sig .tc := ⟨.hbm, 188, rfl⟩
abbrev main_v144 : Ref sig .tc := ⟨.hbm, 189, rfl⟩
abbrev main_c_27 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_28 : Ref sig .tc := ⟨.hbm, 199, rfl⟩
abbrev main_v153 : Ref sig .tc := ⟨.hbm, 200, rfl⟩
abbrev main_c_29 : Ref sig .tc := ⟨.hbm, 201, rfl⟩
abbrev main_v154 : Ref sig .tc := ⟨.hbm, 202, rfl⟩
abbrev main_v155 : Ref sig .tc := ⟨.hbm, 203, rfl⟩
abbrev main_c_30 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_cst_31 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_cst_32 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_c_33 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_cst_34 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_values_35 : Ref sig .tc := ⟨.hbm, 242, rfl⟩
abbrev main_indices_36 : Ref sig .tc := ⟨.hbm, 243, rfl⟩
abbrev main_v189 : Ref sig .tc := ⟨.hbm, 244, rfl⟩
abbrev main_c_37 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_cst_38 : Ref sig .tc := ⟨.hbm, 273, rfl⟩
abbrev main_v217 : Ref sig .tc := ⟨.hbm, 274, rfl⟩
abbrev main_c_39 : Ref sig .tc := ⟨.hbm, 275, rfl⟩
abbrev main_v218 : Ref sig .tc := ⟨.hbm, 276, rfl⟩
abbrev main_v219 : Ref sig .tc := ⟨.hbm, 277, rfl⟩
abbrev main_c_40 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_cst_41 : Ref sig .tc := ⟨.hbm, 283, rfl⟩
abbrev main_v224 : Ref sig .tc := ⟨.hbm, 284, rfl⟩
abbrev main_v225 : Ref sig .tc := ⟨.hbm, 285, rfl⟩
abbrev main_cst_42 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_c_43 : Ref sig .tc := ⟨.hbm, 290, rfl⟩
abbrev main_v229 : Ref sig .tc := ⟨.hbm, 291, rfl⟩
abbrev main_v230 : Ref sig .tc := ⟨.hbm, 292, rfl⟩
abbrev main_c_44 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_c_45 : Ref sig .tc := ⟨.hbm, 299, rfl⟩
abbrev main_v236 : Ref sig .tc := ⟨.hbm, 300, rfl⟩
abbrev main_v237 : Ref sig .tc := ⟨.hbm, 301, rfl⟩
abbrev main_c_46 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_c_47 : Ref sig .tc := ⟨.hbm, 310, rfl⟩
abbrev main_v245 : Ref sig .tc := ⟨.hbm, 311, rfl⟩
abbrev main_v246 : Ref sig .tc := ⟨.hbm, 312, rfl⟩
abbrev main_c_48 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_cst_49 : Ref sig .tc := ⟨.hbm, 322, rfl⟩
abbrev main_v255 : Ref sig .tc := ⟨.hbm, 323, rfl⟩
abbrev main_c_50 : Ref sig .tc := ⟨.hbm, 324, rfl⟩
abbrev main_v256 : Ref sig .tc := ⟨.hbm, 325, rfl⟩
abbrev main_v257 : Ref sig .tc := ⟨.hbm, 326, rfl⟩
abbrev main_c_51 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_call1_cst : Ref sig .tc := ⟨.hbm, 336, rfl⟩
abbrev main_call1_v0 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_cst_52 : Ref sig .tc := ⟨.hbm, 350, rfl⟩
abbrev main_v278 : Ref sig .tc := ⟨.hbm, 351, rfl⟩
abbrev main_c_53 : Ref sig .tc := ⟨.hbm, 352, rfl⟩
abbrev main_v279 : Ref sig .tc := ⟨.hbm, 353, rfl⟩
abbrev main_v280 : Ref sig .tc := ⟨.hbm, 354, rfl⟩
abbrev main_c_54 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_cst_55 : Ref sig .tc := ⟨.hbm, 360, rfl⟩
abbrev main_v285 : Ref sig .tc := ⟨.hbm, 361, rfl⟩
abbrev main_v286 : Ref sig .tc := ⟨.hbm, 362, rfl⟩
abbrev main_cst_56 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_c_57 : Ref sig .tc := ⟨.hbm, 367, rfl⟩
abbrev main_v290 : Ref sig .tc := ⟨.hbm, 368, rfl⟩
abbrev main_v291 : Ref sig .tc := ⟨.hbm, 369, rfl⟩
abbrev main_c_58 : Ref sig .tc := ⟨.hbm, 370, rfl⟩
abbrev main_v292 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_v296 : Ref sig .tc := ⟨.hbm, 375, rfl⟩
abbrev main_c_59 : Ref sig .tc := ⟨.hbm, 376, rfl⟩
abbrev main_v297 : Ref sig .tc := ⟨.hbm, 377, rfl⟩
abbrev main_v298 : Ref sig .tc := ⟨.hbm, 378, rfl⟩
abbrev main_c_60 : Ref sig .tc := ⟨.hbm, 379, rfl⟩
abbrev main_v299 : Ref sig .tc := ⟨.hbm, 380, rfl⟩
abbrev main_v300 : Ref sig .tc := ⟨.hbm, 381, rfl⟩
abbrev main_v301 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_c_61 : Ref sig .tc := ⟨.hbm, 387, rfl⟩
abbrev main_v306 : Ref sig .tc := ⟨.hbm, 388, rfl⟩
abbrev main_v307 : Ref sig .tc := ⟨.hbm, 389, rfl⟩
abbrev main_c_62 : Ref sig .tc := ⟨.hbm, 390, rfl⟩
abbrev main_v308 : Ref sig .tc := ⟨.hbm, 391, rfl⟩
abbrev main_v309 : Ref sig .tc := ⟨.hbm, 392, rfl⟩
abbrev main_v310 : Ref sig .tc := ⟨.hbm, 393, rfl⟩
abbrev main_v311 : Ref sig .tc := ⟨.hbm, 394, rfl⟩
abbrev main_v312 : Ref sig .tc := ⟨.hbm, 395, rfl⟩
abbrev main_v313 : Ref sig .tc := ⟨.hbm, 396, rfl⟩
abbrev main_v314 : Ref sig .tc := ⟨.hbm, 397, rfl⟩
abbrev main_v315 : Ref sig .tc := ⟨.hbm, 398, rfl⟩
abbrev main_cst_63 : Ref sig .tc := ⟨.hbm, 399, rfl⟩
abbrev main_v316 : Ref sig .tc := ⟨.hbm, 400, rfl⟩
abbrev main_c_64 : Ref sig .tc := ⟨.hbm, 401, rfl⟩
abbrev main_v317 : Ref sig .tc := ⟨.hbm, 402, rfl⟩
abbrev main_v318 : Ref sig .tc := ⟨.hbm, 403, rfl⟩
abbrev main_c_65 : Ref sig .tc := ⟨.hbm, 404, rfl⟩
abbrev main_v319 : Ref sig .tc := ⟨.hbm, 405, rfl⟩
abbrev main_v320 : Ref sig .tc := ⟨.hbm, 406, rfl⟩
abbrev main_v321 : Ref sig .tc := ⟨.hbm, 407, rfl⟩
abbrev main_v322 : Ref sig .tc := ⟨.hbm, 408, rfl⟩
abbrev main_v323 : Ref sig .tc := ⟨.hbm, 409, rfl⟩
abbrev main_v324 : Ref sig .tc := ⟨.hbm, 410, rfl⟩
abbrev main_v325 : Ref sig .tc := ⟨.hbm, 411, rfl⟩
abbrev main_v326 : Ref sig .tc := ⟨.hbm, 412, rfl⟩
abbrev main_v327 : Ref sig .tc := ⟨.hbm, 413, rfl⟩
abbrev main_v328 : Ref sig .tc := ⟨.hbm, 414, rfl⟩
abbrev main_v329 : Ref sig .tc := ⟨.hbm, 415, rfl⟩
abbrev main_cst_66 : Ref sig .tc := ⟨.hbm, 416, rfl⟩
abbrev main_v330 : Ref sig .tc := ⟨.hbm, 417, rfl⟩
abbrev main_v331 : Ref sig .tc := ⟨.hbm, 418, rfl⟩
abbrev main_v332 : Ref sig .tc := ⟨.hbm, 419, rfl⟩
abbrev main_v333 : Ref sig .tc := ⟨.hbm, 420, rfl⟩
abbrev main_v334 : Ref sig .tc := ⟨.hbm, 421, rfl⟩
abbrev main_v335 : Ref sig .tc := ⟨.hbm, 422, rfl⟩
abbrev main_v336 : Ref sig .tc := ⟨.hbm, 423, rfl⟩
abbrev main_cst_67 : Ref sig .tc := ⟨.hbm, 424, rfl⟩
abbrev main_v337 : Ref sig .tc := ⟨.hbm, 425, rfl⟩
abbrev main_v338 : Ref sig .tc := ⟨.hbm, 426, rfl⟩
abbrev main_v339 : Ref sig .tc := ⟨.hbm, 427, rfl⟩
abbrev main_v340 : Ref sig .tc := ⟨.hbm, 428, rfl⟩
abbrev main_v341 : Ref sig .tc := ⟨.hbm, 429, rfl⟩
abbrev main_c_68 : Ref sig .tc := ⟨.hbm, 430, rfl⟩
abbrev main_v342 : Ref sig .tc := ⟨.hbm, 431, rfl⟩
abbrev main_v343 : Ref sig .tc := ⟨.hbm, 432, rfl⟩
abbrev main_v344 : Ref sig .tc := ⟨.hbm, 433, rfl⟩
abbrev main_v345 : Ref sig .tc := ⟨.hbm, 434, rfl⟩
abbrev main_v346 : Ref sig .tc := ⟨.hbm, 435, rfl⟩
abbrev main_cst_69 : Ref sig .tc := ⟨.hbm, 436, rfl⟩
abbrev main_v347 : Ref sig .tc := ⟨.hbm, 437, rfl⟩
abbrev main_v348 : Ref sig .tc := ⟨.hbm, 438, rfl⟩
abbrev main_v349 : Ref sig .tc := ⟨.hbm, 439, rfl⟩
abbrev main_v350 : Ref sig .tc := ⟨.hbm, 440, rfl⟩
abbrev main_v351 : Ref sig .tc := ⟨.hbm, 441, rfl⟩
abbrev main_values_70 : Ref sig .tc := ⟨.hbm, 442, rfl⟩
abbrev main_indices_71 : Ref sig .tc := ⟨.hbm, 443, rfl⟩
abbrev main_v352 : Ref sig .tc := ⟨.hbm, 444, rfl⟩
abbrev main_c_72 : Ref sig .tc := ⟨.hbm, 445, rfl⟩
abbrev main_v353 : Ref sig .tc := ⟨.hbm, 446, rfl⟩
abbrev main_v354 : Ref sig .tc := ⟨.hbm, 447, rfl⟩
abbrev main_v355 : Ref sig .tc := ⟨.hbm, 448, rfl⟩
abbrev main_v356 : Ref sig .tc := ⟨.hbm, 449, rfl⟩
abbrev main_v357 : Ref sig .tc := ⟨.hbm, 450, rfl⟩
abbrev main_v358 : Ref sig .tc := ⟨.hbm, 451, rfl⟩
abbrev main_v359 : Ref sig .tc := ⟨.hbm, 452, rfl⟩
abbrev main_v360 : Ref sig .tc := ⟨.hbm, 453, rfl⟩
abbrev main_v361 : Ref sig .tc := ⟨.hbm, 454, rfl⟩
abbrev main_v362 : Ref sig .tc := ⟨.hbm, 455, rfl⟩
abbrev main_v363 : Ref sig .tc := ⟨.hbm, 456, rfl⟩
abbrev main_v364 : Ref sig .tc := ⟨.hbm, 457, rfl⟩
abbrev main_v365 : Ref sig .tc := ⟨.hbm, 458, rfl⟩
abbrev main_v366 : Ref sig .tc := ⟨.hbm, 459, rfl⟩
abbrev main_v367 : Ref sig .tc := ⟨.hbm, 460, rfl⟩
abbrev main_v368 : Ref sig .tc := ⟨.hbm, 461, rfl⟩
abbrev main_v369 : Ref sig .tc := ⟨.hbm, 462, rfl⟩
abbrev main_v370 : Ref sig .tc := ⟨.hbm, 463, rfl⟩
abbrev main_v371 : Ref sig .tc := ⟨.hbm, 464, rfl⟩
abbrev main_v372 : Ref sig .tc := ⟨.hbm, 465, rfl⟩
abbrev main_v373 : Ref sig .tc := ⟨.hbm, 466, rfl⟩
abbrev main_v374 : Ref sig .tc := ⟨.hbm, 467, rfl⟩
abbrev main_v375 : Ref sig .tc := ⟨.hbm, 468, rfl⟩
abbrev main_v376 : Ref sig .tc := ⟨.hbm, 469, rfl⟩
abbrev main_v377 : Ref sig .tc := ⟨.hbm, 470, rfl⟩
abbrev main_v378 : Ref sig .tc := ⟨.hbm, 471, rfl⟩
abbrev main_v379 : Ref sig .tc := ⟨.hbm, 472, rfl⟩
abbrev main_cst_73 : Ref sig .tc := ⟨.hbm, 473, rfl⟩
abbrev main_v380 : Ref sig .tc := ⟨.hbm, 474, rfl⟩
abbrev main_c_74 : Ref sig .tc := ⟨.hbm, 475, rfl⟩
abbrev main_v381 : Ref sig .tc := ⟨.hbm, 476, rfl⟩
abbrev main_v382 : Ref sig .tc := ⟨.hbm, 477, rfl⟩
abbrev main_c_75 : Ref sig .tc := ⟨.hbm, 478, rfl⟩
abbrev main_v383 : Ref sig .tc := ⟨.hbm, 479, rfl⟩
abbrev main_v384 : Ref sig .tc := ⟨.hbm, 480, rfl⟩
abbrev main_v385 : Ref sig .tc := ⟨.hbm, 481, rfl⟩
abbrev main_v386 : Ref sig .tc := ⟨.hbm, 482, rfl⟩
abbrev main_cst_76 : Ref sig .tc := ⟨.hbm, 483, rfl⟩
abbrev main_v387 : Ref sig .tc := ⟨.hbm, 484, rfl⟩
abbrev main_v388 : Ref sig .tc := ⟨.hbm, 485, rfl⟩
abbrev main_cst_77 : Ref sig .tc := ⟨.hbm, 486, rfl⟩
abbrev main_v389 : Ref sig .tc := ⟨.hbm, 487, rfl⟩
abbrev main_v390 : Ref sig .tc := ⟨.hbm, 488, rfl⟩
abbrev main_v391 : Ref sig .tc := ⟨.hbm, 489, rfl⟩
abbrev main_c_78 : Ref sig .tc := ⟨.hbm, 490, rfl⟩
abbrev main_v392 : Ref sig .tc := ⟨.hbm, 491, rfl⟩
abbrev main_v393 : Ref sig .tc := ⟨.hbm, 492, rfl⟩
abbrev main_c_79 : Ref sig .tc := ⟨.hbm, 493, rfl⟩
abbrev main_v394 : Ref sig .tc := ⟨.hbm, 494, rfl⟩
abbrev main_v395 : Ref sig .tc := ⟨.hbm, 495, rfl⟩
abbrev main_v396 : Ref sig .tc := ⟨.hbm, 496, rfl⟩
abbrev main_v397 : Ref sig .tc := ⟨.hbm, 497, rfl⟩
abbrev main_v398 : Ref sig .tc := ⟨.hbm, 498, rfl⟩
abbrev main_c_80 : Ref sig .tc := ⟨.hbm, 499, rfl⟩
abbrev main_v399 : Ref sig .tc := ⟨.hbm, 500, rfl⟩
abbrev main_v400 : Ref sig .tc := ⟨.hbm, 501, rfl⟩
abbrev main_c_81 : Ref sig .tc := ⟨.hbm, 502, rfl⟩
abbrev main_v401 : Ref sig .tc := ⟨.hbm, 503, rfl⟩
abbrev main_v402 : Ref sig .tc := ⟨.hbm, 504, rfl⟩
abbrev main_v403 : Ref sig .tc := ⟨.hbm, 505, rfl⟩
abbrev main_v404 : Ref sig .tc := ⟨.hbm, 506, rfl⟩
abbrev main_v405 : Ref sig .tc := ⟨.hbm, 507, rfl⟩
abbrev main_v406 : Ref sig .tc := ⟨.hbm, 508, rfl⟩
abbrev main_v407 : Ref sig .tc := ⟨.hbm, 509, rfl⟩
abbrev main_c_82 : Ref sig .tc := ⟨.hbm, 510, rfl⟩
abbrev main_v408 : Ref sig .tc := ⟨.hbm, 511, rfl⟩
abbrev main_v409 : Ref sig .tc := ⟨.hbm, 512, rfl⟩
abbrev main_c_83 : Ref sig .tc := ⟨.hbm, 513, rfl⟩
abbrev main_v410 : Ref sig .tc := ⟨.hbm, 514, rfl⟩
abbrev main_v411 : Ref sig .tc := ⟨.hbm, 515, rfl⟩
abbrev main_v412 : Ref sig .tc := ⟨.hbm, 516, rfl⟩
abbrev main_v413 : Ref sig .tc := ⟨.hbm, 517, rfl⟩
abbrev main_v414 : Ref sig .tc := ⟨.hbm, 518, rfl⟩
abbrev main_v415 : Ref sig .tc := ⟨.hbm, 519, rfl⟩
abbrev main_v416 : Ref sig .tc := ⟨.hbm, 520, rfl⟩
abbrev main_v417 : Ref sig .tc := ⟨.hbm, 521, rfl⟩
abbrev main_cst_84 : Ref sig .tc := ⟨.hbm, 522, rfl⟩
abbrev main_v418 : Ref sig .tc := ⟨.hbm, 523, rfl⟩
abbrev main_c_85 : Ref sig .tc := ⟨.hbm, 524, rfl⟩
abbrev main_v419 : Ref sig .tc := ⟨.hbm, 525, rfl⟩
abbrev main_v420 : Ref sig .tc := ⟨.hbm, 526, rfl⟩
abbrev main_c_86 : Ref sig .tc := ⟨.hbm, 527, rfl⟩
abbrev main_v421 : Ref sig .tc := ⟨.hbm, 528, rfl⟩
abbrev main_v422 : Ref sig .tc := ⟨.hbm, 529, rfl⟩
abbrev main_v423 : Ref sig .tc := ⟨.hbm, 530, rfl⟩
abbrev main_v424 : Ref sig .tc := ⟨.hbm, 531, rfl⟩
abbrev main_v425 : Ref sig .tc := ⟨.hbm, 532, rfl⟩
abbrev main_v426 : Ref sig .tc := ⟨.hbm, 533, rfl⟩
abbrev main_v427 : Ref sig .tc := ⟨.hbm, 534, rfl⟩
abbrev main_v428 : Ref sig .tc := ⟨.hbm, 535, rfl⟩
abbrev main_call2_cst : Ref sig .tc := ⟨.hbm, 536, rfl⟩
abbrev main_call2_v0 : Ref sig .tc := ⟨.hbm, 537, rfl⟩
abbrev main_v429 : Ref sig .tc := ⟨.hbm, 538, rfl⟩
abbrev main_v430 : Ref sig .tc := ⟨.hbm, 539, rfl⟩
abbrev main_v431 : Ref sig .tc := ⟨.hbm, 540, rfl⟩
abbrev main_v432 : Ref sig .tc := ⟨.hbm, 541, rfl⟩
abbrev main_v433 : Ref sig .tc := ⟨.hbm, 542, rfl⟩
abbrev main_v434 : Ref sig .tc := ⟨.hbm, 543, rfl⟩
abbrev main_v435 : Ref sig .tc := ⟨.hbm, 544, rfl⟩
abbrev main_v436 : Ref sig .tc := ⟨.hbm, 545, rfl⟩
abbrev main_v437 : Ref sig .tc := ⟨.hbm, 546, rfl⟩
abbrev main_v438 : Ref sig .tc := ⟨.hbm, 547, rfl⟩
abbrev main_v439 : Ref sig .tc := ⟨.hbm, 548, rfl⟩
abbrev main_v440 : Ref sig .tc := ⟨.hbm, 549, rfl⟩
abbrev main_cst_87 : Ref sig .tc := ⟨.hbm, 550, rfl⟩
abbrev main_v441 : Ref sig .tc := ⟨.hbm, 551, rfl⟩
abbrev main_c_88 : Ref sig .tc := ⟨.hbm, 552, rfl⟩
abbrev main_v442 : Ref sig .tc := ⟨.hbm, 553, rfl⟩
abbrev main_v443 : Ref sig .tc := ⟨.hbm, 554, rfl⟩
abbrev main_c_89 : Ref sig .tc := ⟨.hbm, 555, rfl⟩
abbrev main_v444 : Ref sig .tc := ⟨.hbm, 556, rfl⟩
abbrev main_v445 : Ref sig .tc := ⟨.hbm, 557, rfl⟩
abbrev main_v446 : Ref sig .tc := ⟨.hbm, 558, rfl⟩
abbrev main_v447 : Ref sig .tc := ⟨.hbm, 559, rfl⟩
abbrev main_cst_90 : Ref sig .tc := ⟨.hbm, 560, rfl⟩
abbrev main_v448 : Ref sig .tc := ⟨.hbm, 561, rfl⟩
abbrev main_v449 : Ref sig .tc := ⟨.hbm, 562, rfl⟩
abbrev main_cst_91 : Ref sig .tc := ⟨.hbm, 563, rfl⟩
abbrev main_v450 : Ref sig .tc := ⟨.hbm, 564, rfl⟩
abbrev main_v451 : Ref sig .tc := ⟨.hbm, 565, rfl⟩
abbrev main_v452 : Ref sig .tc := ⟨.hbm, 566, rfl⟩
abbrev main_c_92 : Ref sig .tc := ⟨.hbm, 567, rfl⟩
abbrev main_v453 : Ref sig .tc := ⟨.hbm, 568, rfl⟩
abbrev main_v454 : Ref sig .tc := ⟨.hbm, 569, rfl⟩
abbrev main_c_93 : Ref sig .tc := ⟨.hbm, 570, rfl⟩
abbrev main_v455 : Ref sig .tc := ⟨.hbm, 571, rfl⟩
abbrev main_v456 : Ref sig .tc := ⟨.hbm, 572, rfl⟩
abbrev main_v457 : Ref sig .tc := ⟨.hbm, 573, rfl⟩
abbrev main_v458 : Ref sig .tc := ⟨.hbm, 574, rfl⟩
abbrev main_v459 : Ref sig .tc := ⟨.hbm, 575, rfl⟩
abbrev main_c_94 : Ref sig .tc := ⟨.hbm, 576, rfl⟩
abbrev main_v460 : Ref sig .tc := ⟨.hbm, 577, rfl⟩
abbrev main_v461 : Ref sig .tc := ⟨.hbm, 578, rfl⟩
abbrev main_c_95 : Ref sig .tc := ⟨.hbm, 579, rfl⟩
abbrev main_v462 : Ref sig .tc := ⟨.hbm, 580, rfl⟩
abbrev main_v463 : Ref sig .tc := ⟨.hbm, 581, rfl⟩
abbrev main_v464 : Ref sig .tc := ⟨.hbm, 582, rfl⟩
abbrev main_v465 : Ref sig .tc := ⟨.hbm, 583, rfl⟩
abbrev main_v466 : Ref sig .tc := ⟨.hbm, 584, rfl⟩
abbrev main_v467 : Ref sig .tc := ⟨.hbm, 585, rfl⟩
abbrev main_v468 : Ref sig .tc := ⟨.hbm, 586, rfl⟩
abbrev main_c_96 : Ref sig .tc := ⟨.hbm, 587, rfl⟩
abbrev main_v469 : Ref sig .tc := ⟨.hbm, 588, rfl⟩
abbrev main_v470 : Ref sig .tc := ⟨.hbm, 589, rfl⟩
abbrev main_c_97 : Ref sig .tc := ⟨.hbm, 590, rfl⟩
abbrev main_v471 : Ref sig .tc := ⟨.hbm, 591, rfl⟩
abbrev main_v472 : Ref sig .tc := ⟨.hbm, 592, rfl⟩
abbrev main_v473 : Ref sig .tc := ⟨.hbm, 593, rfl⟩
abbrev main_v474 : Ref sig .tc := ⟨.hbm, 594, rfl⟩
abbrev main_v475 : Ref sig .tc := ⟨.hbm, 595, rfl⟩
abbrev main_v476 : Ref sig .tc := ⟨.hbm, 596, rfl⟩
abbrev main_v477 : Ref sig .tc := ⟨.hbm, 597, rfl⟩
abbrev main_v478 : Ref sig .tc := ⟨.hbm, 598, rfl⟩
abbrev main_cst_98 : Ref sig .tc := ⟨.hbm, 599, rfl⟩
abbrev main_v479 : Ref sig .tc := ⟨.hbm, 600, rfl⟩
abbrev main_c_99 : Ref sig .tc := ⟨.hbm, 601, rfl⟩
abbrev main_v480 : Ref sig .tc := ⟨.hbm, 602, rfl⟩
abbrev main_v481 : Ref sig .tc := ⟨.hbm, 603, rfl⟩
abbrev main_c_100 : Ref sig .tc := ⟨.hbm, 604, rfl⟩
abbrev main_v482 : Ref sig .tc := ⟨.hbm, 605, rfl⟩
abbrev main_v483 : Ref sig .tc := ⟨.hbm, 606, rfl⟩
abbrev main_v484 : Ref sig .tc := ⟨.hbm, 607, rfl⟩
abbrev main_v485 : Ref sig .tc := ⟨.hbm, 608, rfl⟩
abbrev main_v486 : Ref sig .tc := ⟨.hbm, 609, rfl⟩
abbrev main_v487 : Ref sig .tc := ⟨.hbm, 610, rfl⟩
abbrev main_v488 : Ref sig .tc := ⟨.hbm, 611, rfl⟩
abbrev main_v489 : Ref sig .tc := ⟨.hbm, 612, rfl⟩
abbrev main_v490 : Ref sig .tc := ⟨.hbm, 613, rfl⟩
abbrev main_v491 : Ref sig .tc := ⟨.hbm, 614, rfl⟩
abbrev main_v492 : Ref sig .tc := ⟨.hbm, 615, rfl⟩
abbrev main_cst_101 : Ref sig .tc := ⟨.hbm, 616, rfl⟩
abbrev main_v493 : Ref sig .tc := ⟨.hbm, 617, rfl⟩
abbrev main_v494 : Ref sig .tc := ⟨.hbm, 618, rfl⟩
abbrev main_v495 : Ref sig .tc := ⟨.hbm, 619, rfl⟩
abbrev main_v496 : Ref sig .tc := ⟨.hbm, 620, rfl⟩
abbrev main_v497 : Ref sig .tc := ⟨.hbm, 621, rfl⟩
abbrev main_v498 : Ref sig .tc := ⟨.hbm, 622, rfl⟩
abbrev main_v499 : Ref sig .tc := ⟨.hbm, 623, rfl⟩
abbrev main_cst_102 : Ref sig .tc := ⟨.hbm, 624, rfl⟩
abbrev main_v500 : Ref sig .tc := ⟨.hbm, 625, rfl⟩
abbrev main_v501 : Ref sig .tc := ⟨.hbm, 626, rfl⟩
abbrev main_v502 : Ref sig .tc := ⟨.hbm, 627, rfl⟩
abbrev main_v503 : Ref sig .tc := ⟨.hbm, 628, rfl⟩
abbrev main_v504 : Ref sig .tc := ⟨.hbm, 629, rfl⟩
abbrev main_c_103 : Ref sig .tc := ⟨.hbm, 630, rfl⟩
abbrev main_v505 : Ref sig .tc := ⟨.hbm, 631, rfl⟩
abbrev main_v506 : Ref sig .tc := ⟨.hbm, 632, rfl⟩
abbrev main_v507 : Ref sig .tc := ⟨.hbm, 633, rfl⟩
abbrev main_v508 : Ref sig .tc := ⟨.hbm, 634, rfl⟩
abbrev main_v509 : Ref sig .tc := ⟨.hbm, 635, rfl⟩
abbrev main_cst_104 : Ref sig .tc := ⟨.hbm, 636, rfl⟩
abbrev main_v510 : Ref sig .tc := ⟨.hbm, 637, rfl⟩
abbrev main_v511 : Ref sig .tc := ⟨.hbm, 638, rfl⟩
abbrev main_v512 : Ref sig .tc := ⟨.hbm, 639, rfl⟩
abbrev main_v513 : Ref sig .tc := ⟨.hbm, 640, rfl⟩
abbrev main_v514 : Ref sig .tc := ⟨.hbm, 641, rfl⟩
abbrev main_values_105 : Ref sig .tc := ⟨.hbm, 642, rfl⟩
abbrev main_indices_106 : Ref sig .tc := ⟨.hbm, 643, rfl⟩
abbrev main_v515 : Ref sig .tc := ⟨.hbm, 644, rfl⟩
abbrev main_c_107 : Ref sig .tc := ⟨.hbm, 645, rfl⟩
abbrev main_v516 : Ref sig .tc := ⟨.hbm, 646, rfl⟩
abbrev main_v517 : Ref sig .tc := ⟨.hbm, 647, rfl⟩
abbrev main_v518 : Ref sig .tc := ⟨.hbm, 648, rfl⟩
abbrev main_v519 : Ref sig .tc := ⟨.hbm, 649, rfl⟩
abbrev main_v520 : Ref sig .tc := ⟨.hbm, 650, rfl⟩
abbrev main_v521 : Ref sig .tc := ⟨.hbm, 651, rfl⟩
abbrev main_v522 : Ref sig .tc := ⟨.hbm, 652, rfl⟩
abbrev main_v523 : Ref sig .tc := ⟨.hbm, 653, rfl⟩
abbrev main_v524 : Ref sig .tc := ⟨.hbm, 654, rfl⟩
abbrev main_v525 : Ref sig .tc := ⟨.hbm, 655, rfl⟩
abbrev main_v526 : Ref sig .tc := ⟨.hbm, 656, rfl⟩
abbrev main_v527 : Ref sig .tc := ⟨.hbm, 657, rfl⟩
abbrev main_v528 : Ref sig .tc := ⟨.hbm, 658, rfl⟩
abbrev main_v529 : Ref sig .tc := ⟨.hbm, 659, rfl⟩
abbrev main_v530 : Ref sig .tc := ⟨.hbm, 660, rfl⟩
abbrev main_v531 : Ref sig .tc := ⟨.hbm, 661, rfl⟩
abbrev main_v532 : Ref sig .tc := ⟨.hbm, 662, rfl⟩
abbrev main_v533 : Ref sig .tc := ⟨.hbm, 663, rfl⟩
abbrev main_v534 : Ref sig .tc := ⟨.hbm, 664, rfl⟩
abbrev main_v535 : Ref sig .tc := ⟨.hbm, 665, rfl⟩
abbrev main_v536 : Ref sig .tc := ⟨.hbm, 666, rfl⟩
abbrev main_v537 : Ref sig .tc := ⟨.hbm, 667, rfl⟩
abbrev main_v538 : Ref sig .tc := ⟨.hbm, 668, rfl⟩
abbrev main_v539 : Ref sig .tc := ⟨.hbm, 669, rfl⟩
abbrev main_v540 : Ref sig .tc := ⟨.hbm, 670, rfl⟩
abbrev main_v541 : Ref sig .tc := ⟨.hbm, 671, rfl⟩
abbrev main_v542 : Ref sig .tc := ⟨.hbm, 672, rfl⟩
abbrev main_cst_108 : Ref sig .tc := ⟨.hbm, 673, rfl⟩
abbrev main_v543 : Ref sig .tc := ⟨.hbm, 674, rfl⟩
abbrev main_c_109 : Ref sig .tc := ⟨.hbm, 675, rfl⟩
abbrev main_v544 : Ref sig .tc := ⟨.hbm, 676, rfl⟩
abbrev main_v545 : Ref sig .tc := ⟨.hbm, 677, rfl⟩
abbrev main_c_110 : Ref sig .tc := ⟨.hbm, 678, rfl⟩
abbrev main_v546 : Ref sig .tc := ⟨.hbm, 679, rfl⟩
abbrev main_v547 : Ref sig .tc := ⟨.hbm, 680, rfl⟩
abbrev main_v548 : Ref sig .tc := ⟨.hbm, 681, rfl⟩
abbrev main_v549 : Ref sig .tc := ⟨.hbm, 682, rfl⟩
abbrev main_cst_111 : Ref sig .tc := ⟨.hbm, 683, rfl⟩
abbrev main_v550 : Ref sig .tc := ⟨.hbm, 684, rfl⟩
abbrev main_v551 : Ref sig .tc := ⟨.hbm, 685, rfl⟩
abbrev main_cst_112 : Ref sig .tc := ⟨.hbm, 686, rfl⟩
abbrev main_v552 : Ref sig .tc := ⟨.hbm, 687, rfl⟩
abbrev main_v553 : Ref sig .tc := ⟨.hbm, 688, rfl⟩
abbrev main_v554 : Ref sig .tc := ⟨.hbm, 689, rfl⟩
abbrev main_c_113 : Ref sig .tc := ⟨.hbm, 690, rfl⟩
abbrev main_v555 : Ref sig .tc := ⟨.hbm, 691, rfl⟩
abbrev main_v556 : Ref sig .tc := ⟨.hbm, 692, rfl⟩
abbrev main_c_114 : Ref sig .tc := ⟨.hbm, 693, rfl⟩
abbrev main_v557 : Ref sig .tc := ⟨.hbm, 694, rfl⟩
abbrev main_v558 : Ref sig .tc := ⟨.hbm, 695, rfl⟩
abbrev main_v559 : Ref sig .tc := ⟨.hbm, 696, rfl⟩
abbrev main_v560 : Ref sig .tc := ⟨.hbm, 697, rfl⟩
abbrev main_v561 : Ref sig .tc := ⟨.hbm, 698, rfl⟩
abbrev main_c_115 : Ref sig .tc := ⟨.hbm, 699, rfl⟩
abbrev main_v562 : Ref sig .tc := ⟨.hbm, 700, rfl⟩
abbrev main_v563 : Ref sig .tc := ⟨.hbm, 701, rfl⟩
abbrev main_c_116 : Ref sig .tc := ⟨.hbm, 702, rfl⟩
abbrev main_v564 : Ref sig .tc := ⟨.hbm, 703, rfl⟩
abbrev main_v565 : Ref sig .tc := ⟨.hbm, 704, rfl⟩
abbrev main_v566 : Ref sig .tc := ⟨.hbm, 705, rfl⟩
abbrev main_v567 : Ref sig .tc := ⟨.hbm, 706, rfl⟩
abbrev main_v568 : Ref sig .tc := ⟨.hbm, 707, rfl⟩
abbrev main_v569 : Ref sig .tc := ⟨.hbm, 708, rfl⟩
abbrev main_v570 : Ref sig .tc := ⟨.hbm, 709, rfl⟩
abbrev main_c_117 : Ref sig .tc := ⟨.hbm, 710, rfl⟩
abbrev main_v571 : Ref sig .tc := ⟨.hbm, 711, rfl⟩
abbrev main_v572 : Ref sig .tc := ⟨.hbm, 712, rfl⟩
abbrev main_c_118 : Ref sig .tc := ⟨.hbm, 713, rfl⟩
abbrev main_v573 : Ref sig .tc := ⟨.hbm, 714, rfl⟩
abbrev main_v574 : Ref sig .tc := ⟨.hbm, 715, rfl⟩
abbrev main_v575 : Ref sig .tc := ⟨.hbm, 716, rfl⟩
abbrev main_v576 : Ref sig .tc := ⟨.hbm, 717, rfl⟩
abbrev main_v577 : Ref sig .tc := ⟨.hbm, 718, rfl⟩
abbrev main_v578 : Ref sig .tc := ⟨.hbm, 719, rfl⟩
abbrev main_v579 : Ref sig .tc := ⟨.hbm, 720, rfl⟩
abbrev main_v580 : Ref sig .tc := ⟨.hbm, 721, rfl⟩
abbrev main_cst_119 : Ref sig .tc := ⟨.hbm, 722, rfl⟩
abbrev main_v581 : Ref sig .tc := ⟨.hbm, 723, rfl⟩
abbrev main_c_120 : Ref sig .tc := ⟨.hbm, 724, rfl⟩
abbrev main_v582 : Ref sig .tc := ⟨.hbm, 725, rfl⟩
abbrev main_v583 : Ref sig .tc := ⟨.hbm, 726, rfl⟩
abbrev main_c_121 : Ref sig .tc := ⟨.hbm, 727, rfl⟩
abbrev main_v584 : Ref sig .tc := ⟨.hbm, 728, rfl⟩
abbrev main_v585 : Ref sig .tc := ⟨.hbm, 729, rfl⟩
abbrev main_v586 : Ref sig .tc := ⟨.hbm, 730, rfl⟩
abbrev main_v587 : Ref sig .tc := ⟨.hbm, 731, rfl⟩
abbrev main_v588 : Ref sig .tc := ⟨.hbm, 732, rfl⟩
abbrev main_v589 : Ref sig .tc := ⟨.hbm, 733, rfl⟩
abbrev main_v590 : Ref sig .tc := ⟨.hbm, 734, rfl⟩
abbrev main_v591 : Ref sig .tc := ⟨.hbm, 735, rfl⟩
abbrev main_call3_cst : Ref sig .tc := ⟨.hbm, 736, rfl⟩
abbrev main_call3_v0 : Ref sig .tc := ⟨.hbm, 737, rfl⟩
abbrev main_v592 : Ref sig .tc := ⟨.hbm, 738, rfl⟩
abbrev main_v593 : Ref sig .tc := ⟨.hbm, 739, rfl⟩
abbrev main_v594 : Ref sig .tc := ⟨.hbm, 740, rfl⟩
abbrev main_v595 : Ref sig .tc := ⟨.hbm, 741, rfl⟩
abbrev main_v596 : Ref sig .tc := ⟨.hbm, 742, rfl⟩
abbrev main_v597 : Ref sig .tc := ⟨.hbm, 743, rfl⟩
abbrev main_v598 : Ref sig .tc := ⟨.hbm, 744, rfl⟩
abbrev main_v599 : Ref sig .tc := ⟨.hbm, 745, rfl⟩
abbrev main_v600 : Ref sig .tc := ⟨.hbm, 746, rfl⟩
abbrev main_v601 : Ref sig .tc := ⟨.hbm, 747, rfl⟩
abbrev main_v602 : Ref sig .tc := ⟨.hbm, 748, rfl⟩
abbrev main_v603 : Ref sig .tc := ⟨.hbm, 749, rfl⟩
abbrev main_cst_122 : Ref sig .tc := ⟨.hbm, 750, rfl⟩
abbrev main_v604 : Ref sig .tc := ⟨.hbm, 751, rfl⟩
abbrev main_c_123 : Ref sig .tc := ⟨.hbm, 752, rfl⟩
abbrev main_v605 : Ref sig .tc := ⟨.hbm, 753, rfl⟩
abbrev main_v606 : Ref sig .tc := ⟨.hbm, 754, rfl⟩
abbrev main_c_124 : Ref sig .tc := ⟨.hbm, 755, rfl⟩
abbrev main_v607 : Ref sig .tc := ⟨.hbm, 756, rfl⟩
abbrev main_v608 : Ref sig .tc := ⟨.hbm, 757, rfl⟩
abbrev main_v609 : Ref sig .tc := ⟨.hbm, 758, rfl⟩
abbrev main_v610 : Ref sig .tc := ⟨.hbm, 759, rfl⟩
abbrev main_cst_125 : Ref sig .tc := ⟨.hbm, 760, rfl⟩
abbrev main_v611 : Ref sig .tc := ⟨.hbm, 761, rfl⟩
abbrev main_v612 : Ref sig .tc := ⟨.hbm, 762, rfl⟩
abbrev main_cst_126 : Ref sig .tc := ⟨.hbm, 763, rfl⟩
abbrev main_v613 : Ref sig .tc := ⟨.hbm, 764, rfl⟩
abbrev main_v614 : Ref sig .tc := ⟨.hbm, 765, rfl⟩
abbrev main_v615 : Ref sig .tc := ⟨.hbm, 766, rfl⟩
abbrev main_c_127 : Ref sig .tc := ⟨.hbm, 767, rfl⟩
abbrev main_v616 : Ref sig .tc := ⟨.hbm, 768, rfl⟩
abbrev main_v617 : Ref sig .tc := ⟨.hbm, 769, rfl⟩
abbrev main_c_128 : Ref sig .tc := ⟨.hbm, 770, rfl⟩
abbrev main_v618 : Ref sig .tc := ⟨.hbm, 771, rfl⟩
abbrev main_v619 : Ref sig .tc := ⟨.hbm, 772, rfl⟩
abbrev main_v620 : Ref sig .tc := ⟨.hbm, 773, rfl⟩
abbrev main_v621 : Ref sig .tc := ⟨.hbm, 774, rfl⟩
abbrev main_v622 : Ref sig .tc := ⟨.hbm, 775, rfl⟩
abbrev main_c_129 : Ref sig .tc := ⟨.hbm, 776, rfl⟩
abbrev main_v623 : Ref sig .tc := ⟨.hbm, 777, rfl⟩
abbrev main_v624 : Ref sig .tc := ⟨.hbm, 778, rfl⟩
abbrev main_c_130 : Ref sig .tc := ⟨.hbm, 779, rfl⟩
abbrev main_v625 : Ref sig .tc := ⟨.hbm, 780, rfl⟩
abbrev main_v626 : Ref sig .tc := ⟨.hbm, 781, rfl⟩
abbrev main_v627 : Ref sig .tc := ⟨.hbm, 782, rfl⟩
abbrev main_v628 : Ref sig .tc := ⟨.hbm, 783, rfl⟩
abbrev main_v629 : Ref sig .tc := ⟨.hbm, 784, rfl⟩
abbrev main_v630 : Ref sig .tc := ⟨.hbm, 785, rfl⟩
abbrev main_v631 : Ref sig .tc := ⟨.hbm, 786, rfl⟩
abbrev main_c_131 : Ref sig .tc := ⟨.hbm, 787, rfl⟩
abbrev main_v632 : Ref sig .tc := ⟨.hbm, 788, rfl⟩
abbrev main_v633 : Ref sig .tc := ⟨.hbm, 789, rfl⟩
abbrev main_c_132 : Ref sig .tc := ⟨.hbm, 790, rfl⟩
abbrev main_v634 : Ref sig .tc := ⟨.hbm, 791, rfl⟩
abbrev main_v635 : Ref sig .tc := ⟨.hbm, 792, rfl⟩
abbrev main_v636 : Ref sig .tc := ⟨.hbm, 793, rfl⟩
abbrev main_v637 : Ref sig .tc := ⟨.hbm, 794, rfl⟩
abbrev main_v638 : Ref sig .tc := ⟨.hbm, 795, rfl⟩
abbrev main_v639 : Ref sig .tc := ⟨.hbm, 796, rfl⟩
abbrev main_v640 : Ref sig .tc := ⟨.hbm, 797, rfl⟩
abbrev main_v641 : Ref sig .tc := ⟨.hbm, 798, rfl⟩
abbrev main_cst_133 : Ref sig .tc := ⟨.hbm, 799, rfl⟩
abbrev main_v642 : Ref sig .tc := ⟨.hbm, 800, rfl⟩
abbrev main_c_134 : Ref sig .tc := ⟨.hbm, 801, rfl⟩
abbrev main_v643 : Ref sig .tc := ⟨.hbm, 802, rfl⟩
abbrev main_v644 : Ref sig .tc := ⟨.hbm, 803, rfl⟩
abbrev main_c_135 : Ref sig .tc := ⟨.hbm, 804, rfl⟩
abbrev main_v645 : Ref sig .tc := ⟨.hbm, 805, rfl⟩
abbrev main_v646 : Ref sig .tc := ⟨.hbm, 806, rfl⟩
abbrev main_v647 : Ref sig .tc := ⟨.hbm, 807, rfl⟩
abbrev main_v648 : Ref sig .tc := ⟨.hbm, 808, rfl⟩
abbrev main_v649 : Ref sig .tc := ⟨.hbm, 809, rfl⟩
abbrev main_v650 : Ref sig .tc := ⟨.hbm, 810, rfl⟩
abbrev main_v651 : Ref sig .tc := ⟨.hbm, 811, rfl⟩
abbrev main_v652 : Ref sig .tc := ⟨.hbm, 812, rfl⟩
abbrev main_v653 : Ref sig .tc := ⟨.hbm, 813, rfl⟩
abbrev main_v654 : Ref sig .tc := ⟨.hbm, 814, rfl⟩
abbrev main_v655 : Ref sig .tc := ⟨.hbm, 815, rfl⟩
abbrev main_v656 : Ref sig .tc := ⟨.hbm, 816, rfl⟩
abbrev main_v657 : Ref sig .tc := ⟨.hbm, 817, rfl⟩
abbrev main_cst_136 : Ref sig .tc := ⟨.hbm, 818, rfl⟩
abbrev main_v658 : Ref sig .tc := ⟨.hbm, 819, rfl⟩
abbrev main_v659 : Ref sig .tc := ⟨.hbm, 820, rfl⟩
abbrev main_cst_137 : Ref sig .tc := ⟨.hbm, 821, rfl⟩
abbrev main_v660 : Ref sig .tc := ⟨.hbm, 822, rfl⟩
abbrev main_v661 : Ref sig .tc := ⟨.hbm, 823, rfl⟩
abbrev main_c_138 : Ref sig .tc := ⟨.hbm, 824, rfl⟩
abbrev main_call4_cst : Ref sig .tc := ⟨.hbm, 825, rfl⟩
abbrev main_call4_v0 : Ref sig .tc := ⟨.hbm, 826, rfl⟩
abbrev main_call4_v1 : Ref sig .tc := ⟨.hbm, 827, rfl⟩
abbrev main_call4_cst_0 : Ref sig .tc := ⟨.hbm, 828, rfl⟩
abbrev main_call4_v2 : Ref sig .tc := ⟨.hbm, 829, rfl⟩
abbrev main_call4_v3 : Ref sig .tc := ⟨.hbm, 830, rfl⟩
abbrev main_call4_v4 : Ref sig .tc := ⟨.hbm, 831, rfl⟩
abbrev main_call4_v5 : Ref sig .tc := ⟨.hbm, 832, rfl⟩
abbrev main_call4_v6 : Ref sig .tc := ⟨.hbm, 833, rfl⟩
abbrev main_call4_v7 : Ref sig .tc := ⟨.hbm, 834, rfl⟩
abbrev main_call4_cst_1 : Ref sig .tc := ⟨.hbm, 835, rfl⟩
abbrev main_call4_v8 : Ref sig .tc := ⟨.hbm, 836, rfl⟩
abbrev main_call4_cst_2 : Ref sig .tc := ⟨.hbm, 837, rfl⟩
abbrev main_call4_v9 : Ref sig .tc := ⟨.hbm, 838, rfl⟩
abbrev main_call4_v10 : Ref sig .tc := ⟨.hbm, 839, rfl⟩
abbrev main_call4_v11 : Ref sig .tc := ⟨.hbm, 840, rfl⟩
abbrev main_call4_v12 : Ref sig .tc := ⟨.hbm, 841, rfl⟩
abbrev main_call4_cst_3 : Ref sig .tc := ⟨.hbm, 842, rfl⟩
abbrev main_call4_v13 : Ref sig .tc := ⟨.hbm, 843, rfl⟩
abbrev main_call4_cst_4 : Ref sig .tc := ⟨.hbm, 844, rfl⟩
abbrev main_call4_call0_v0 : Ref sig .tc := ⟨.hbm, 845, rfl⟩
abbrev main_call4_call0_v1 : Ref sig .tc := ⟨.hbm, 846, rfl⟩
abbrev main_v662 : Ref sig .tc := ⟨.hbm, 847, rfl⟩
abbrev main_v663 : Ref sig .tc := ⟨.hbm, 848, rfl⟩
abbrev main_v664 : Ref sig .tc := ⟨.hbm, 849, rfl⟩
abbrev main_cst_139 : Ref sig .tc := ⟨.hbm, 850, rfl⟩
abbrev main_v665 : Ref sig .tc := ⟨.hbm, 851, rfl⟩
abbrev main_v666 : Ref sig .tc := ⟨.hbm, 852, rfl⟩
abbrev main_v667 : Ref sig .tc := ⟨.hbm, 853, rfl⟩
abbrev main_v668 : Ref sig .tc := ⟨.hbm, 854, rfl⟩
abbrev main_v669 : Ref sig .tc := ⟨.hbm, 855, rfl⟩
abbrev main_v670 : Ref sig .tc := ⟨.hbm, 856, rfl⟩
abbrev main_v671 : Ref sig .tc := ⟨.hbm, 857, rfl⟩
abbrev main_v672 : Ref sig .tc := ⟨.hbm, 858, rfl⟩
abbrev main_v673 : Ref sig .tc := ⟨.hbm, 859, rfl⟩
abbrev main_v674 : Ref sig .tc := ⟨.hbm, 860, rfl⟩
abbrev main_v675 : Ref sig .tc := ⟨.hbm, 861, rfl⟩
abbrev main_call5_cst : Ref sig .tc := ⟨.hbm, 862, rfl⟩
abbrev main_call5_v0 : Ref sig .tc := ⟨.hbm, 863, rfl⟩
abbrev main_v676 : Ref sig .tc := ⟨.hbm, 864, rfl⟩
abbrev main_v677 : Ref sig .tc := ⟨.hbm, 865, rfl⟩
abbrev main_v678 : Ref sig .tc := ⟨.hbm, 866, rfl⟩
abbrev main_v679 : Ref sig .tc := ⟨.hbm, 867, rfl⟩
abbrev main_v680 : Ref sig .tc := ⟨.hbm, 868, rfl⟩
abbrev main_v681 : Ref sig .tc := ⟨.hbm, 869, rfl⟩
abbrev main_cst_140 : Ref sig .tc := ⟨.hbm, 870, rfl⟩
abbrev main_v682 : Ref sig .tc := ⟨.hbm, 871, rfl⟩
abbrev main_v683 : Ref sig .tc := ⟨.hbm, 872, rfl⟩
abbrev main_v684 : Ref sig .tc := ⟨.hbm, 873, rfl⟩
abbrev main_v685 : Ref sig .tc := ⟨.hbm, 874, rfl⟩
abbrev main_v686 : Ref sig .tc := ⟨.hbm, 875, rfl⟩
abbrev main_v687 : Ref sig .tc := ⟨.hbm, 876, rfl⟩
abbrev main_v688 : Ref sig .tc := ⟨.hbm, 877, rfl⟩
abbrev main_v689 : Ref sig .tc := ⟨.hbm, 878, rfl⟩
abbrev main_v690 : Ref sig .tc := ⟨.hbm, 879, rfl⟩
abbrev main_v691 : Ref sig .tc := ⟨.hbm, 880, rfl⟩

abbrev nD : Nat := 1
abbrev τ : Topo := Topo.v7x

variable {F : FTy → Type} [FloatOps F]
-- ==== Proof.Ideal.Spec.lean ====
/- What the kernel computes, as plain functions of the contents of its buffers: one function per loop, an outer one
   citing the inner. Nothing here mentions memory; the run (Loops.lean, Body.lean) shows the buffers hold these values. -/
module

public import proofs.«01_k».proof.Proof.Gen.KernelIdeal.Skeleton
public import Idealize.ShloMosaic.Lib.Exec
public import Idealize.ShloMosaic.Lib.VecWindow

@[expose] public section

noncomputable section

namespace Cert.Proof.KernelIdeal

open Idealize.ShloMosaic Idealize.ShloMosaic.TcCoe
open Cert.KernelIdeal Cert.KernelIdeal.Gen

/-- `k` steps of a counted loop of `n` trips from `a`; past the last trip nothing changes. -/
def iter {n : ℕ} {α : Type} (f : Fin n → α → α) (a : α) : ℕ → α
  | 0 => a
  | k + 1 => if h : k < n then f ⟨k, h⟩ (iter f a k) else iter f a k

/-- One more turn of a loop is the step applied to what the turns before it left. -/
theorem iter_succ {n : ℕ} {α : Type} (f : Fin n → α → α) (a : α) (k : Fin n) : iter f a (k.val + 1) = f k (iter f a k.val) := by
  rw [iter]; exact dif_pos k.isLt

variable {F : FTy → Type} [FloatOps F] [Named F]

/-- The column numbers within a chunk, the row numbers within a tile, the slot numbers of a list. -/
abbrev cols : IVec S640x512 32 := iota .tc S640x512 32 [1] iota_S640x512_d1_w32
/-- The numbers of a tile's rows. -/
abbrev rowsV : IVec S640x1 32 := iota .tc S640x1 32 [0] iota_S640x1_d0_w32
/-- The numbers of the eight slots. -/
abbrev slots : IVec S1x8 32 := iota .tc S1x8 32 [1] iota_S1x8_d1_w32

/-- Whether tile `t2` of the rows and chunk `t3` of the columns meet, as the kernel tests it. -/
abbrev meets (t2 : Fin k0_t2_loop.trips) (t3 : Fin k0_t3_loop.trips) : BitVec 1 :=
  Scalar.cmpi .ne (Scalar.extui (Scalar.andi
    (Scalar.cmpi .sgt (Scalar.addi (Scalar.muli (Scf.iv 0#32 1#32 t3) 512#32) 512#32) (Scalar.muli (Scf.iv 0#32 1#32 t2) 640#32))
    (Scalar.cmpi .slt (Scalar.muli (Scf.iv 0#32 1#32 t3) 512#32) (Scalar.addi (Scalar.muli (Scf.iv 0#32 1#32 t2) 640#32) 640#32)))) 0#32

/-- Whether chunk `t3` is the last one, as the kernel tests it. -/
abbrev isLast (t3 : Fin k0_t3_loop.trips) : BitVec 1 :=
  Scalar.cmpi .ne (Scalar.extui (Scalar.cmpi .eq (Scf.iv 0#32 1#32 t3) 4#32)) 0#32

/-- The scores of one chunk for one tile: the distances, masked on the diagonal and past the last point. -/
def scores (t2 : Fin k0_t2_loop.trips) (t3 : Fin k0_t3_loop.trips) (v124 : Vec F S1x640x128 .f32) (x12 : Vec F S1x2560x128 .f32)
    (x17 : Vec F S1x2560 .f32) : FVec F S640x512 .f32 :=
  let v150 : Vec F S1x512x128 .f32 := VecWindow.window x12 (k0_off4 t3) S1x512x128.size (k0_off4_inb t3)
  let v154 : Vec F S1x512 .f32 := VecWindow.window x17 (k0_off5 t3) S1x512.size (k0_off5_inb t3)
  let v167 : FVec F S640x512 .f32 := if meets t2 t3 = 1#1 then k0_pay24 cols rowsV t2 v124 t3 v150 v154 else k0_pay22 v124 v150 v154
  if isLast t3 = 1#1 then k0_pay25 cols t3 v167 else v167

/-- One round of the selection: the smallest of the list and the chunk goes to slot `t4` and is masked out. -/
def selStep (t3 : Fin k0_t3_loop.trips) (ids : IVec S640x8 32) (t4 : Fin k0_t4_loop.trips)
    (a : FVec F S640x512 .f32 × FVec F S640x8 .f32 × FVec F S640x8 .f32 × IVec S640x8 32) :
    FVec F S640x512 .f32 × FVec F S640x8 .f32 × FVec F S640x8 .f32 × IVec S640x8 32 :=
  (k0_pay30 cols t3 ids a.1 a.2.1, k0_pay31 cols t3 ids a.1 a.2.1, k0_pay32 slots t4 a.1 a.2.1 a.2.2.1, k0_pay33 cols slots t3 ids t4 a.1 a.2.1 a.2.2.2)

/-- The eight rounds of the selection. -/
def sel (t3 : Fin k0_t3_loop.trips) (s : FVec F S640x512 .f32) (vals : FVec F S640x8 .f32) (ids : IVec S640x8 32) :
    FVec F S640x512 .f32 × FVec F S640x8 .f32 × FVec F S640x8 .f32 × IVec S640x8 32 :=
  Scf.fold (n := k0_t4_loop.trips) (selStep t3 ids) (s, vals, k0_pay26 (F := F), k0_pay27)

/-- One chunk: the running list of the eight nearest, merged with the chunk. -/
def knnStep (t2 : Fin k0_t2_loop.trips) (v124 : Vec F S1x640x128 .f32) (x12 : Vec F S1x2560x128 .f32) (x17 : Vec F S1x2560 .f32)
    (t3 : Fin k0_t3_loop.trips) (a : FVec F S640x8 .f32 × IVec S640x8 32) : FVec F S640x8 .f32 × IVec S640x8 32 :=
  let r := sel t3 (scores t2 t3 v124 x12 x17) a.1 a.2
  (r.2.2.1, r.2.2.2)

/-- The running list after `k` chunks. -/
def knn (t2 : Fin k0_t2_loop.trips) (v124 : Vec F S1x640x128 .f32) (x12 : Vec F S1x2560x128 .f32) (x17 : Vec F S1x2560 .f32) :
    ℕ → FVec F S640x8 .f32 × IVec S640x8 32 :=
  iter (knnStep t2 v124 x12 x17) (k0_pay20 (F := F), k0_pay21)

/-- One chunk of the first neighbour sum: the counts of the list in the chunk times the chunk's rows. -/
def agg1Step (ids : IVec S640x8 32) (x18 x19 x20 : Vec F S2560x128 .bf16) (t5 : Fin k0_t5_loop.trips) (a : FVec F S640x128 .f32) : FVec F S640x128 .f32 :=
  k0_pay36 a (k0_pay3 (F := F) cols ids 0#32 1#32 t5) (k0_pay4 cols ids 0#32 1#32 t5) (VecWindow.window x18 (k0_off7 t5) S512x128.size (k0_off7_inb t5))
    (VecWindow.window x19 (k0_off7 t5) S512x128.size (k0_off7_inb t5)) (VecWindow.window x20 (k0_off7 t5) S512x128.size (k0_off7_inb t5))

/-- The first neighbour sum after `k` chunks. -/
def agg1 (ids : IVec S640x8 32) (x18 x19 x20 : Vec F S2560x128 .bf16) : ℕ → FVec F S640x128 .f32 :=
  iter (agg1Step ids x18 x19 x20) (k0_pay35 (F := F))

/-- One chunk of the second neighbour sum. -/
def agg2Step (ids : Vec F S640x8 .i32) (x18 x19 x20 : Vec F S2560x128 .bf16) (t7 : Fin k0_t7_loop.trips) (a : FVec F S640x128 .f32) : FVec F S640x128 .f32 :=
  k0_pay47 a (k0_pay6 cols ids 0#32 1#32 t7) (k0_pay7 cols ids 0#32 1#32 t7) (VecWindow.window x18 (k0_off10 t7) S512x128.size (k0_off10_inb t7))
    (VecWindow.window x19 (k0_off10 t7) S512x128.size (k0_off10_inb t7)) (VecWindow.window x20 (k0_off10 t7) S512x128.size (k0_off10_inb t7))

/-- The second neighbour sum after `k` chunks. -/
def agg2 (ids : Vec F S640x8 .i32) (x18 x19 x20 : Vec F S2560x128 .bf16) : ℕ → FVec F S640x128 .f32 :=
  iter (agg2Step ids x18 x19 x20) (k0_pay46 (F := F))

/-- The list of one tile. -/
def tileIds (x12 : Vec F S1x2560x128 .f32) (x17 : Vec F S1x2560 .f32) (t2 : Fin k0_t2_loop.trips) : IVec S640x8 32 :=
  (knn t2 (VecWindow.window x12 (k0_off3 t2) S1x640x128.size (k0_off3_inb t2)) x12 x17 k0_t3_loop.trips).2

/-- One tile of the first convolution: its list, its hidden rows. -/
def tile1Step (v64 : Vec F S1x128 .f32) (x12 : Vec F S1x2560x128 .f32) (x15 : Vec F S2560x128 .f32) (x17 : Vec F S1x2560 .f32) (x18 x19 x20 : Vec F S2560x128 .bf16)
    (t2 : Fin k0_t2_loop.trips) (a : Vec F S2560x128 .f32 × Vec F S2560x8 .i32) : Vec F S2560x128 .f32 × Vec F S2560x8 .i32 :=
  let ids := tileIds x12 x17 t2
  (VecWindow.put a.1 (k0_off8 t2) S640x128.size
      (k0_pay37 v64 (agg1 ids x18 x19 x20 k0_t5_loop.trips) (VecWindow.window x15 (k0_off8 t2) S640x128.size (k0_off8_inb t2))),
   VecWindow.put a.2 (k0_off6 t2) S640x8.size (k0_pay34 ids))

/-- The hidden rows and the lists after `k` tiles. -/
def tiles1 (v64 : Vec F S1x128 .f32) (x12 : Vec F S1x2560x128 .f32) (x15 : Vec F S2560x128 .f32) (x17 : Vec F S1x2560 .f32) (x18 x19 x20 : Vec F S2560x128 .bf16)
    (x14 : Vec F S2560x128 .f32) (x16 : Vec F S2560x8 .i32) : ℕ → Vec F S2560x128 .f32 × Vec F S2560x8 .i32 :=
  iter (tile1Step v64 x12 x15 x17 x18 x19 x20) (x14, x16)

/-- One tile of the second convolution: the tile's new rows. -/
def tile2Step (v66 : Vec F S1x128 .f32) (x15 : Vec F S2560x128 .f32) (x16 : Vec F S2560x8 .i32) (x18 x19 x20 : Vec F S2560x128 .bf16)
    (t6 : Fin k0_t6_loop.trips) (x12 : Vec F S1x2560x128 .f32) : Vec F S1x2560x128 .f32 :=
  VecWindow.put x12 (k0_off12 t6) S1x640x128.size
    (k0_pay48 v66 (agg2 (VecWindow.window x16 (k0_off9 t6) S640x8.size (k0_off9_inb t6)) x18 x19 x20 k0_t7_loop.trips)
      (VecWindow.window x15 (k0_off11 t6) S640x128.size (k0_off11_inb t6)) (VecWindow.window x12 (k0_off12 t6) S1x640x128.size (k0_off12_inb t6)))

/-- The rows after `k` tiles of the second convolution. -/
def tiles2 (v66 : Vec F S1x128 .f32) (x15 : Vec F S2560x128 .f32) (x16 : Vec F S2560x8 .i32) (x18 x19 x20 : Vec F S2560x128 .bf16)
    (x12 : Vec F S1x2560x128 .f32) : ℕ → Vec F S1x2560x128 .f32 :=
  iter (tile2Step v66 x15 x16 x18 x19 x20) x12

/-- The contents of the buffers a block changes. -/
structure St (F : FTy → Type) [FloatOps F] where
  x12 : Vec F S1x2560x128 .f32
  x14 : Vec F S2560x128 .f32
  x15 : Vec F S2560x128 .f32
  x16 : Vec F S2560x8 .i32
  x17 : Vec F S1x2560 .f32
  x18 : Vec F S2560x128 .bf16
  x19 : Vec F S2560x128 .bf16
  x20 : Vec F S2560x128 .bf16

/-- The hidden rows and the lists of one block, from the rows `h`. -/
def hidden (W1 : Vec F S1x128x128 .f32) (b1 : Vec F S1x128 .f32) (h : Vec F S1x2560x128 .f32) (x14 : Vec F S2560x128 .f32) (x16 : Vec F S2560x8 .i32) :
    Vec F S2560x128 .f32 × Vec F S2560x8 .i32 :=
  tiles1 b1 h (k0_pay12 W1 h) (k0_pay10 h) (k0_pay17 W1 h) (k0_pay18 (k0_pay15 W1 h)) (k0_pay19 (k0_pay16 W1 h)) x14 x16 k0_t2_loop.trips

/-- One block. -/
def blockStep (W1 : Vec F S4x128x128 .f32) (B1 : Vec F S4x128 .f32) (W2 : Vec F S4x128x128 .f32) (B2 : Vec F S4x128 .f32)
    (t1 : Fin k0_t1_loop.trips) (s : St F) : St F :=
  let w1 : Vec F S1x128x128 .f32 := VecWindow.window W1 (k0_off1 t1) S1x128x128.size (k0_off1_inb t1)
  let b1 : Vec F S1x128 .f32 := VecWindow.window B1 (k0_off2 t1) S1x128.size (k0_off2_inb t1)
  let w2 : FVec F S128x128 .f32 := k0_pay8 (VecWindow.window W2 (k0_off1 t1) S1x128x128.size (k0_off1_inb t1))
  let b2 : Vec F S1x128 .f32 := VecWindow.window B2 (k0_off2 t1) S1x128.size (k0_off2_inb t1)
  let g := hidden w1 b1 s.x12 s.x14 s.x16
  { x12 := tiles2 b2 (k0_pay39 w2 g.1) g.2 (k0_pay43 w2 g.1) (k0_pay44 w2 g.1) (k0_pay45 w2 g.1) s.x12 k0_t6_loop.trips
    x14 := g.1
    x15 := k0_pay39 w2 g.1
    x16 := g.2
    x17 := k0_pay10 s.x12
    x18 := k0_pay43 w2 g.1
    x19 := k0_pay44 w2 g.1
    x20 := k0_pay45 w2 g.1 }

/-- The buffers after `k` blocks. -/
def blocks (W1 : Vec F S4x128x128 .f32) (B1 : Vec F S4x128 .f32) (W2 : Vec F S4x128x128 .f32) (B2 : Vec F S4x128 .f32) (s : St F) : ℕ → St F :=
  iter (blockStep W1 B1 W2 B2) s

end Cert.Proof.KernelIdeal
-- ==== Proof.Ideal.Own.lean ====
/- What a buffer holds after a store. -/
module

public import proofs.«01_k».proof.Proof.Ideal.Spec
public import Idealize.ShloMosaic.Lib.Tactic
public import Idealize.ShloMosaic.Lib.Pipeline.Kit

@[expose] public section

set_option maxRecDepth 8192
set_option maxHeartbeats 100000

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ
local notation "𝒱₀" => Variants.none

/-- Storing a window into a buffer that holds `x`: it then holds `x` with the window put. -/
theorem own_put {s : Shape} {e : EltTy} (c : Dev nD) (m : Memref sig .tc .vmem s e) (x : s.Idx → Elt F e) {off size : Fin s.rank → ℕ}
    (inb : ∀ a, off a + size a ≤ s.size a) (w : (Rect.unit off size inb).shape.Idx → Elt F e) :
    iprop(m.view.loc (c : Thread nD τ) ↦[m.view.set]{fullShare} m.view.writes (Elt F) (m.view.rep x) [⟨Rect.unit off size inb, w⟩])
      ⊢ (iprop(m.view.loc (c : Thread nD τ) ↦[m.view.set]{fullShare} m.view.rep (VecWindow.put x off size w)) : sProp 𝕄) := by
  have h := View.read_writes_rep_unit m.view x inb w rfl
  exact pointsTo_rep_of_read (c : Thread nD τ) m _ fullShare _ h

/-- Storing a whole buffer: it then holds what was stored. -/
theorem own_full {s : Shape} {e : EltTy} (c : Dev nD) (m : Memref sig .tc .vmem s e) (f : BufTy.Contents (Elt F) m.view.ty) {off : Fin s.rank → ℕ}
    (inb : ∀ a, off a + s.size a ≤ s.size a) (w : (Rect.unit off s.size inb).shape.Idx → Elt F e) (L : List (View.Piece (Elt F) s e)) :
    iprop(m.view.loc (c : Thread nD τ) ↦[m.view.set]{fullShare} m.view.writes (Elt F) f (⟨Rect.unit off s.size inb, w⟩ :: L))
      ⊢ (iprop(m.view.loc (c : Thread nD τ) ↦[m.view.set]{fullShare} m.view.rep w) : sProp 𝕄) := by
  have h := View.read_writes_full m.view f inb w L
  exact pointsTo_rep_of_read (c : Thread nD τ) m _ fullShare _ h

end Cert.Proof.KernelIdeal
-- ==== Proof.Ideal.Loops.lean ====
/- The kernel's loops, each with its invariant: the buffers it touches hold the values of Spec.lean. -/
module

public import proofs.«01_k».proof.Proof.Ideal.Own
public import Idealize.ShloMosaic.Lib.Tactic
public import Idealize.ShloMosaic.Lib.Pipeline.Kit

@[expose] public section

set_option maxRecDepth 8192
set_option maxHeartbeats 1000000

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ
local notation "𝒱₀" => Variants.none

/-- One chunk of the first neighbour sum. -/
theorem trip5 (c : Dev nD) (i : grid0.Coords) (arg1 : Memref sig .tc .vmem S1x2560x128 .f32) (harg1 : arg1.IsWhole) (arg2 : Memref sig .tc .vmem S4x128x128 .f32) (harg2 : arg2.IsWhole) (arg3 : Memref sig .tc .vmem S4x128 .f32) (harg3 : arg3.IsWhole) (arg4 : Memref sig .tc .vmem S4x128x128 .f32) (harg4 : arg4.IsWhole) (arg5 : Memref sig .tc .vmem S4x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2560x128 .f32) (harg12 : arg12.IsWhole) (arg13 : Memref sig .tc .vmem S1x2560x8 .f32) (harg13 : arg13.IsWhole) (arg14 : Memref sig .tc .vmem S2560x128 .f32) (harg14 : arg14.IsWhole) (arg15 : Memref sig .tc .vmem S2560x128 .f32) (harg15 : arg15.IsWhole) (arg16 : Memref sig .tc .vmem S2560x8 .i32) (harg16 : arg16.IsWhole) (arg17 : Memref sig .tc .vmem S1x2560 .f32) (harg17 : arg17.IsWhole) (arg18 : Memref sig .tc .vmem S2560x128 .bf16) (harg18 : arg18.IsWhole) (arg19 : Memref sig .tc .vmem S2560x128 .bf16) (harg19 : arg19.IsWhole) (arg20 : Memref sig .tc .vmem S2560x128 .bf16) (harg20 : arg20.IsWhole) (c0_i32 c1_i32 : BitVec 32) (t1 : Fin k0_t1_loop.trips) (ids : IVec S640x8 32)
    (X18 : BufTy.Contents (Elt F) arg18.view.ty) (X19 : BufTy.Contents (Elt F) arg19.view.ty) (X20 : BufTy.Contents (Elt F) arg20.view.ty) (k : Fin k0_t5_loop.trips) (acc : FVec F S640x128 .f32) :
    iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20))
      ⊢ (wp frame (wpE (defs₀ (F := F)) 𝒱₀ (c : Thread nD τ) none) Set.univ (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cols rowsV slots c0_i32 c1_i32 t1 ids k acc)
          (fun y => iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ ⌜y = agg1Step ids (arg18.view.read (Elt F) X18) (arg19.view.read (Elt F) X19) (arg20.view.read (Elt F) X20) k acc⌝)) : sProp 𝕄) := by
  have hk : k.val < 5 := Nat.lt_of_lt_of_le k.isLt k0_t5_abs.2.1
  suffices h : ∃ R, R = agg1Step ids (arg18.view.read (Elt F) X18) (arg19.view.read (Elt F) X19) (arg20.view.read (Elt F) X20) k acc ∧ (iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20))
      ⊢ (wp frame (wpE (defs₀ (F := F)) 𝒱₀ (c : Thread nD τ) none) Set.univ (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cols rowsV slots c0_i32 c1_i32 t1 ids k acc)
          (fun y => iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ ⌜y = R⌝)) : sProp 𝕄)) by
    obtain ⟨R, rfl, h⟩ := h; exact h
  refine ⟨?R, ?e, ?run⟩
  case run =>
    unfold k0_t5_body
    iintro ⟨H18, H19, H20⟩
    sl_exec
    sl_step
    sl_close
  case e =>
    unfold agg1Step
    rw [← View.readAt_unit arg18.view X18 (k0_off7_inb k) rfl (k0_off7_inb k), ← View.readAt_unit arg19.view X19 (k0_off7_inb k) rfl (k0_off7_inb k),
      ← View.readAt_unit arg20.view X20 (k0_off7_inb k) rfl (k0_off7_inb k)]
    rfl

set_option warn.classDefReducibility false in
/-- The loop of the neighbour sum: its carried value before chunk `k`, the buffers it reads unchanged. -/
@[sl_loop] def loop5 (c : Dev nD) (i : grid0.Coords) (arg1 : Memref sig .tc .vmem S1x2560x128 .f32) (harg1 : arg1.IsWhole) (arg2 : Memref sig .tc .vmem S4x128x128 .f32) (harg2 : arg2.IsWhole) (arg3 : Memref sig .tc .vmem S4x128 .f32) (harg3 : arg3.IsWhole) (arg4 : Memref sig .tc .vmem S4x128x128 .f32) (harg4 : arg4.IsWhole) (arg5 : Memref sig .tc .vmem S4x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2560x128 .f32) (harg12 : arg12.IsWhole) (arg13 : Memref sig .tc .vmem S1x2560x8 .f32) (harg13 : arg13.IsWhole) (arg14 : Memref sig .tc .vmem S2560x128 .f32) (harg14 : arg14.IsWhole) (arg15 : Memref sig .tc .vmem S2560x128 .f32) (harg15 : arg15.IsWhole) (arg16 : Memref sig .tc .vmem S2560x8 .i32) (harg16 : arg16.IsWhole) (arg17 : Memref sig .tc .vmem S1x2560 .f32) (harg17 : arg17.IsWhole) (arg18 : Memref sig .tc .vmem S2560x128 .bf16) (harg18 : arg18.IsWhole) (arg19 : Memref sig .tc .vmem S2560x128 .bf16) (harg19 : arg19.IsWhole) (arg20 : Memref sig .tc .vmem S2560x128 .bf16) (harg20 : arg20.IsWhole) (c0_i32 c1_i32 : BitVec 32) (t1 : Fin k0_t1_loop.trips) (ids : IVec S640x8 32)
    (X18 : BufTy.Contents (Elt F) arg18.view.ty) (X19 : BufTy.Contents (Elt F) arg19.view.ty) (X20 : BufTy.Contents (Elt F) arg20.view.ty) :
    Idealize.ShloMosaic.LoopInv (M := 𝕄) Idealize.ShloMosaic.frame (wpE (defs₀ (F := F)) 𝒱₀ (c : Thread nD τ) none) Set.univ
      k0_t5_loop.lb k0_t5_loop.ub k0_t5_loop.st k0_t5_ok (k0_pay35 (F := F)) (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cols rowsV slots c0_i32 c1_i32 t1 ids) where
  inv k acc := iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ ⌜acc = agg1 ids (arg18.view.read (Elt F) X18) (arg19.view.read (Elt F) X19) (arg20.view.read (Elt F) X20) k⌝)
  step k acc := by
    iintro ⟨H18, H19, H20, %h⟩
    subst h
    have hs : agg1 ids (arg18.view.read (Elt F) X18) (arg19.view.read (Elt F) X19) (arg20.view.read (Elt F) X20) (k.val + 1) = agg1Step ids (arg18.view.read (Elt F) X18) (arg19.view.read (Elt F) X19) (arg20.view.read (Elt F) X20) k (agg1 ids (arg18.view.read (Elt F) X18) (arg19.view.read (Elt F) X19) (arg20.view.read (Elt F) X20) k.val) := iter_succ _ _ k
    rw [hs]
    iapply (trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32 c1_i32 t1 ids X18 X19 X20 k _)
    isplitl [H18]; · iexact H18
    isplitl [H19]; · iexact H19
    iexact H20

/-- One chunk of the second neighbour sum. -/
theorem trip7 (c : Dev nD) (i : grid0.Coords) (arg1 : Memref sig .tc .vmem S1x2560x128 .f32) (harg1 : arg1.IsWhole) (arg2 : Memref sig .tc .vmem S4x128x128 .f32) (harg2 : arg2.IsWhole) (arg3 : Memref sig .tc .vmem S4x128 .f32) (harg3 : arg3.IsWhole) (arg4 : Memref sig .tc .vmem S4x128x128 .f32) (harg4 : arg4.IsWhole) (arg5 : Memref sig .tc .vmem S4x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2560x128 .f32) (harg12 : arg12.IsWhole) (arg13 : Memref sig .tc .vmem S1x2560x8 .f32) (harg13 : arg13.IsWhole) (arg14 : Memref sig .tc .vmem S2560x128 .f32) (harg14 : arg14.IsWhole) (arg15 : Memref sig .tc .vmem S2560x128 .f32) (harg15 : arg15.IsWhole) (arg16 : Memref sig .tc .vmem S2560x8 .i32) (harg16 : arg16.IsWhole) (arg17 : Memref sig .tc .vmem S1x2560 .f32) (harg17 : arg17.IsWhole) (arg18 : Memref sig .tc .vmem S2560x128 .bf16) (harg18 : arg18.IsWhole) (arg19 : Memref sig .tc .vmem S2560x128 .bf16) (harg19 : arg19.IsWhole) (arg20 : Memref sig .tc .vmem S2560x128 .bf16) (harg20 : arg20.IsWhole) (c0_i32 c1_i32 : BitVec 32) (t1 : Fin k0_t1_loop.trips) (ids : Vec F S640x8 .i32)
    (X18 : BufTy.Contents (Elt F) arg18.view.ty) (X19 : BufTy.Contents (Elt F) arg19.view.ty) (X20 : BufTy.Contents (Elt F) arg20.view.ty) (k : Fin k0_t7_loop.trips) (acc : FVec F S640x128 .f32) :
    iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20))
      ⊢ (wp frame (wpE (defs₀ (F := F)) 𝒱₀ (c : Thread nD τ) none) Set.univ (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cols rowsV slots c0_i32 c1_i32 t1 ids k acc)
          (fun y => iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ ⌜y = agg2Step ids (arg18.view.read (Elt F) X18) (arg19.view.read (Elt F) X19) (arg20.view.read (Elt F) X20) k acc⌝)) : sProp 𝕄) := by
  have hk : k.val < 5 := Nat.lt_of_lt_of_le k.isLt k0_t7_abs.2.1
  suffices h : ∃ R, R = agg2Step ids (arg18.view.read (Elt F) X18) (arg19.view.read (Elt F) X19) (arg20.view.read (Elt F) X20) k acc ∧ (iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20))
      ⊢ (wp frame (wpE (defs₀ (F := F)) 𝒱₀ (c : Thread nD τ) none) Set.univ (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cols rowsV slots c0_i32 c1_i32 t1 ids k acc)
          (fun y => iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ ⌜y = R⌝)) : sProp 𝕄)) by
    obtain ⟨R, rfl, h⟩ := h; exact h
  refine ⟨?R, ?e, ?run⟩
  case run =>
    unfold k0_t7_body
    iintro ⟨H18, H19, H20⟩
    sl_exec
    sl_step
    sl_close
  case e =>
    unfold agg2Step
    rw [← View.readAt_unit arg18.view X18 (k0_off10_inb k) rfl (k0_off10_inb k), ← View.readAt_unit arg19.view X19 (k0_off10_inb k) rfl (k0_off10_inb k),
      ← View.readAt_unit arg20.view X20 (k0_off10_inb k) rfl (k0_off10_inb k)]
    rfl

set_option warn.classDefReducibility false in
/-- The loop of the neighbour sum: its carried value before chunk `k`, the buffers it reads unchanged. -/
@[sl_loop] def loop7 (c : Dev nD) (i : grid0.Coords) (arg1 : Memref sig .tc .vmem S1x2560x128 .f32) (harg1 : arg1.IsWhole) (arg2 : Memref sig .tc .vmem S4x128x128 .f32) (harg2 : arg2.IsWhole) (arg3 : Memref sig .tc .vmem S4x128 .f32) (harg3 : arg3.IsWhole) (arg4 : Memref sig .tc .vmem S4x128x128 .f32) (harg4 : arg4.IsWhole) (arg5 : Memref sig .tc .vmem S4x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2560x128 .f32) (harg12 : arg12.IsWhole) (arg13 : Memref sig .tc .vmem S1x2560x8 .f32) (harg13 : arg13.IsWhole) (arg14 : Memref sig .tc .vmem S2560x128 .f32) (harg14 : arg14.IsWhole) (arg15 : Memref sig .tc .vmem S2560x128 .f32) (harg15 : arg15.IsWhole) (arg16 : Memref sig .tc .vmem S2560x8 .i32) (harg16 : arg16.IsWhole) (arg17 : Memref sig .tc .vmem S1x2560 .f32) (harg17 : arg17.IsWhole) (arg18 : Memref sig .tc .vmem S2560x128 .bf16) (harg18 : arg18.IsWhole) (arg19 : Memref sig .tc .vmem S2560x128 .bf16) (harg19 : arg19.IsWhole) (arg20 : Memref sig .tc .vmem S2560x128 .bf16) (harg20 : arg20.IsWhole) (c0_i32 c1_i32 : BitVec 32) (t1 : Fin k0_t1_loop.trips) (ids : Vec F S640x8 .i32)
    (X18 : BufTy.Contents (Elt F) arg18.view.ty) (X19 : BufTy.Contents (Elt F) arg19.view.ty) (X20 : BufTy.Contents (Elt F) arg20.view.ty) :
    Idealize.ShloMosaic.LoopInv (M := 𝕄) Idealize.ShloMosaic.frame (wpE (defs₀ (F := F)) 𝒱₀ (c : Thread nD τ) none) Set.univ
      k0_t7_loop.lb k0_t7_loop.ub k0_t7_loop.st k0_t7_ok (k0_pay46 (F := F)) (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cols rowsV slots c0_i32 c1_i32 t1 ids) where
  inv k acc := iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ ⌜acc = agg2 ids (arg18.view.read (Elt F) X18) (arg19.view.read (Elt F) X19) (arg20.view.read (Elt F) X20) k⌝)
  step k acc := by
    iintro ⟨H18, H19, H20, %h⟩
    subst h
    have hs : agg2 ids (arg18.view.read (Elt F) X18) (arg19.view.read (Elt F) X19) (arg20.view.read (Elt F) X20) (k.val + 1) = agg2Step ids (arg18.view.read (Elt F) X18) (arg19.view.read (Elt F) X19) (arg20.view.read (Elt F) X20) k (agg2 ids (arg18.view.read (Elt F) X18) (arg19.view.read (Elt F) X19) (arg20.view.read (Elt F) X20) k.val) := iter_succ _ _ k
    rw [hs]
    iapply (trip7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32 c1_i32 t1 ids X18 X19 X20 k _)
    isplitl [H18]; · iexact H18
    isplitl [H19]; · iexact H19
    iexact H20

end Cert.Proof.KernelIdeal
-- ==== Proof.Ideal.Loops3.lean ====
/- The kernel's loops, each with its invariant: the buffers it touches hold the values of Spec.lean. -/
module

public import proofs.«01_k».proof.Proof.Ideal.Own
public import Idealize.ShloMosaic.Lib.Tactic
public import Idealize.ShloMosaic.Lib.Pipeline.Kit

@[expose] public section

set_option maxRecDepth 8192
set_option maxHeartbeats 400000

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ
local notation "𝒱₀" => Variants.none

/-- One chunk of the search. -/
theorem trip3 (c : Dev nD) (i : grid0.Coords) (arg1 : Memref sig .tc .vmem S1x2560x128 .f32) (harg1 : arg1.IsWhole) (arg2 : Memref sig .tc .vmem S4x128x128 .f32) (harg2 : arg2.IsWhole) (arg3 : Memref sig .tc .vmem S4x128 .f32) (harg3 : arg3.IsWhole) (arg4 : Memref sig .tc .vmem S4x128x128 .f32) (harg4 : arg4.IsWhole) (arg5 : Memref sig .tc .vmem S4x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2560x128 .f32) (harg12 : arg12.IsWhole) (arg13 : Memref sig .tc .vmem S1x2560x8 .f32) (harg13 : arg13.IsWhole) (arg14 : Memref sig .tc .vmem S2560x128 .f32) (harg14 : arg14.IsWhole) (arg15 : Memref sig .tc .vmem S2560x128 .f32) (harg15 : arg15.IsWhole) (arg16 : Memref sig .tc .vmem S2560x8 .i32) (harg16 : arg16.IsWhole) (arg17 : Memref sig .tc .vmem S1x2560 .f32) (harg17 : arg17.IsWhole) (arg18 : Memref sig .tc .vmem S2560x128 .bf16) (harg18 : arg18.IsWhole) (arg19 : Memref sig .tc .vmem S2560x128 .bf16) (harg19 : arg19.IsWhole) (arg20 : Memref sig .tc .vmem S2560x128 .bf16) (harg20 : arg20.IsWhole) (c0_i32 c1_i32 : BitVec 32) (t1 : Fin k0_t1_loop.trips) (t2 : Fin k0_t2_loop.trips) (v124 : Vec F S1x640x128 .f32)
    (x12 : Vec F S1x2560x128 .f32) (X17 : BufTy.Contents (Elt F) arg17.view.ty) (k : Fin k0_t3_loop.trips) (acc : FVec F S640x8 .f32 × IVec S640x8 32) :
    iprop((arg12.view.loc (c : Thread nD τ) ↦[arg12.view.set]{fullShare} arg12.view.rep x12) ∗ (arg17.view.loc (c : Thread nD τ) ↦[arg17.view.set]{fullShare} X17))
      ⊢ (wp frame (wpE (defs₀ (F := F)) 𝒱₀ (c : Thread nD τ) none) Set.univ (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cols rowsV slots c0_i32 c1_i32 t1 t2 (Scalar.muli (Scf.iv 0#32 1#32 t2) 640#32) v124 k acc)
          (fun y => iprop((arg12.view.loc (c : Thread nD τ) ↦[arg12.view.set]{fullShare} arg12.view.rep x12) ∗ (arg17.view.loc (c : Thread nD τ) ↦[arg17.view.set]{fullShare} X17) ∗ ⌜y = knnStep t2 v124 x12 (arg17.view.read (Elt F) X17) k acc⌝)) : sProp 𝕄) := by
  have hk : k.val < 5 := Nat.lt_of_lt_of_le k.isLt k0_t3_abs.2.1
  have hk2 : t2.val < 4 := Nat.lt_of_lt_of_le t2.isLt k0_t2_abs.2.1
  suffices h : ∃ R, R = knnStep t2 v124 x12 (arg17.view.read (Elt F) X17) k acc ∧ (iprop((arg12.view.loc (c : Thread nD τ) ↦[arg12.view.set]{fullShare} arg12.view.rep x12) ∗ (arg17.view.loc (c : Thread nD τ) ↦[arg17.view.set]{fullShare} X17))
      ⊢ (wp frame (wpE (defs₀ (F := F)) 𝒱₀ (c : Thread nD τ) none) Set.univ (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cols rowsV slots c0_i32 c1_i32 t1 t2 (Scalar.muli (Scf.iv 0#32 1#32 t2) 640#32) v124 k acc)
          (fun y => iprop((arg12.view.loc (c : Thread nD τ) ↦[arg12.view.set]{fullShare} arg12.view.rep x12) ∗ (arg17.view.loc (c : Thread nD τ) ↦[arg17.view.set]{fullShare} X17) ∗ ⌜y = R⌝)) : sProp 𝕄)) by
    obtain ⟨R, rfl, h⟩ := h; exact h
  by_cases h1 : meets t2 k = 1#1 <;> by_cases h2 : isLast k = 1#1
  · refine ⟨?R1, ?e1, ?run1⟩
    case run1 =>
      unfold k0_t3_body k0_t4_body
      simp only [dif_pos h1, dif_pos h2]
      iintro ⟨H12, H17⟩
      sl_exec
      sl_step
      sl_close
    case e1 =>
      unfold knnStep scores
      simp only [if_pos h1, if_pos h2]
      rw [← View.readAt_rep_unit arg12.view x12 (k0_off4_inb k) rfl (k0_off4_inb k), ← View.readAt_unit arg17.view X17 (k0_off5_inb k) rfl (k0_off5_inb k)]
      rfl
  · refine ⟨?R2, ?e2, ?run2⟩
    case run2 =>
      unfold k0_t3_body k0_t4_body
      simp only [dif_pos h1, dif_neg h2]
      iintro ⟨H12, H17⟩
      sl_exec
      sl_step
      sl_close
    case e2 =>
      unfold knnStep scores
      simp only [if_pos h1, if_neg h2]
      rw [← View.readAt_rep_unit arg12.view x12 (k0_off4_inb k) rfl (k0_off4_inb k), ← View.readAt_unit arg17.view X17 (k0_off5_inb k) rfl (k0_off5_inb k)]
      rfl
  · refine ⟨?R3, ?e3, ?run3⟩
    case run3 =>
      unfold k0_t3_body k0_t4_body
      simp only [dif_neg h1, dif_pos h2]
      iintro ⟨H12, H17⟩
      sl_exec
      sl_step
      sl_close
    case e3 =>
      unfold knnStep scores
      simp only [if_neg h1, if_pos h2]
      rw [← View.readAt_rep_unit arg12.view x12 (k0_off4_inb k) rfl (k0_off4_inb k), ← View.readAt_unit arg17.view X17 (k0_off5_inb k) rfl (k0_off5_inb k)]
      rfl
  · refine ⟨?R4, ?e4, ?run4⟩
    case run4 =>
      unfold k0_t3_body k0_t4_body
      simp only [dif_neg h1, dif_neg h2]
      iintro ⟨H12, H17⟩
      sl_exec
      sl_step
      sl_close
    case e4 =>
      unfold knnStep scores
      simp only [if_neg h1, if_neg h2]
      rw [← View.readAt_rep_unit arg12.view x12 (k0_off4_inb k) rfl (k0_off4_inb k), ← View.readAt_unit arg17.view X17 (k0_off5_inb k) rfl (k0_off5_inb k)]
      rfl

set_option warn.classDefReducibility false in
/-- The loop of the search: its running list before chunk `k`, the buffers it reads unchanged. -/
@[sl_loop] def loop3 (c : Dev nD) (i : grid0.Coords) (arg1 : Memref sig .tc .vmem S1x2560x128 .f32) (harg1 : arg1.IsWhole) (arg2 : Memref sig .tc .vmem S4x128x128 .f32) (harg2 : arg2.IsWhole) (arg3 : Memref sig .tc .vmem S4x128 .f32) (harg3 : arg3.IsWhole) (arg4 : Memref sig .tc .vmem S4x128x128 .f32) (harg4 : arg4.IsWhole) (arg5 : Memref sig .tc .vmem S4x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2560x128 .f32) (harg12 : arg12.IsWhole) (arg13 : Memref sig .tc .vmem S1x2560x8 .f32) (harg13 : arg13.IsWhole) (arg14 : Memref sig .tc .vmem S2560x128 .f32) (harg14 : arg14.IsWhole) (arg15 : Memref sig .tc .vmem S2560x128 .f32) (harg15 : arg15.IsWhole) (arg16 : Memref sig .tc .vmem S2560x8 .i32) (harg16 : arg16.IsWhole) (arg17 : Memref sig .tc .vmem S1x2560 .f32) (harg17 : arg17.IsWhole) (arg18 : Memref sig .tc .vmem S2560x128 .bf16) (harg18 : arg18.IsWhole) (arg19 : Memref sig .tc .vmem S2560x128 .bf16) (harg19 : arg19.IsWhole) (arg20 : Memref sig .tc .vmem S2560x128 .bf16) (harg20 : arg20.IsWhole) (c0_i32 c1_i32 : BitVec 32) (t1 : Fin k0_t1_loop.trips) (t2 : Fin k0_t2_loop.trips) (v124 : Vec F S1x640x128 .f32)
    (x12 : Vec F S1x2560x128 .f32) (X17 : BufTy.Contents (Elt F) arg17.view.ty) :
    Idealize.ShloMosaic.LoopInv (M := 𝕄) Idealize.ShloMosaic.frame (wpE (defs₀ (F := F)) 𝒱₀ (c : Thread nD τ) none) Set.univ
      k0_t3_loop.lb k0_t3_loop.ub k0_t3_loop.st k0_t3_ok (k0_pay20 (F := F), k0_pay21)
      (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cols rowsV slots c0_i32 c1_i32 t1 t2 (Scalar.muli (Scf.iv 0#32 1#32 t2) 640#32) v124) where
  inv k acc := iprop((arg12.view.loc (c : Thread nD τ) ↦[arg12.view.set]{fullShare} arg12.view.rep x12) ∗ (arg17.view.loc (c : Thread nD τ) ↦[arg17.view.set]{fullShare} X17) ∗ ⌜acc = knn t2 v124 x12 (arg17.view.read (Elt F) X17) k⌝)
  step k acc := by
    iintro ⟨H12, H17, %h⟩
    subst h
    have hs : knn t2 v124 x12 (arg17.view.read (Elt F) X17) (k.val + 1) = knnStep t2 v124 x12 (arg17.view.read (Elt F) X17) k (knn t2 v124 x12 (arg17.view.read (Elt F) X17) k.val) := iter_succ _ _ k
    rw [hs]
    iapply (trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32 c1_i32 t1 t2 v124 x12 X17 k _)
    isplitl [H12]; · iexact H12
    iexact H17

end Cert.Proof.KernelIdeal
-- ==== Proof.Ideal.Loops26.lean ====
/- The kernel's loops, each with its invariant: the buffers it touches hold the values of Spec.lean. -/
module

public import proofs.«01_k».proof.Proof.Ideal.Loops
public import proofs.«01_k».proof.Proof.Ideal.Loops3
public import Idealize.ShloMosaic.Lib.Tactic
public import Idealize.ShloMosaic.Lib.Pipeline.Kit

@[expose] public section

set_option maxRecDepth 8192
set_option maxHeartbeats 400000

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ
local notation "𝒱₀" => Variants.none

/-- One tile of the first convolution. -/
theorem trip2 (c : Dev nD) (i : grid0.Coords) (arg1 : Memref sig .tc .vmem S1x2560x128 .f32) (harg1 : arg1.IsWhole) (arg2 : Memref sig .tc .vmem S4x128x128 .f32) (harg2 : arg2.IsWhole) (arg3 : Memref sig .tc .vmem S4x128 .f32) (harg3 : arg3.IsWhole) (arg4 : Memref sig .tc .vmem S4x128x128 .f32) (harg4 : arg4.IsWhole) (arg5 : Memref sig .tc .vmem S4x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2560x128 .f32) (harg12 : arg12.IsWhole) (arg13 : Memref sig .tc .vmem S1x2560x8 .f32) (harg13 : arg13.IsWhole) (arg14 : Memref sig .tc .vmem S2560x128 .f32) (harg14 : arg14.IsWhole) (arg15 : Memref sig .tc .vmem S2560x128 .f32) (harg15 : arg15.IsWhole) (arg16 : Memref sig .tc .vmem S2560x8 .i32) (harg16 : arg16.IsWhole) (arg17 : Memref sig .tc .vmem S1x2560 .f32) (harg17 : arg17.IsWhole) (arg18 : Memref sig .tc .vmem S2560x128 .bf16) (harg18 : arg18.IsWhole) (arg19 : Memref sig .tc .vmem S2560x128 .bf16) (harg19 : arg19.IsWhole) (arg20 : Memref sig .tc .vmem S2560x128 .bf16) (harg20 : arg20.IsWhole) (c0_i32 c1_i32 : BitVec 32) (t1 : Fin k0_t1_loop.trips) (v64 : Vec F S1x128 .f32) (x12 : Vec F S1x2560x128 .f32) (X15 : BufTy.Contents (Elt F) arg15.view.ty) (X17 : BufTy.Contents (Elt F) arg17.view.ty) (X18 : BufTy.Contents (Elt F) arg18.view.ty) (X19 : BufTy.Contents (Elt F) arg19.view.ty) (X20 : BufTy.Contents (Elt F) arg20.view.ty) (a : Vec F S2560x128 .f32 × Vec F S2560x8 .i32) (k : Fin k0_t2_loop.trips) (acc : Unit) :
    iprop((arg12.view.loc (c : Thread nD τ) ↦[arg12.view.set]{fullShare} arg12.view.rep x12) ∗ (arg14.view.loc (c : Thread nD τ) ↦[arg14.view.set]{fullShare} arg14.view.rep a.1) ∗ (arg15.view.loc (c : Thread nD τ) ↦[arg15.view.set]{fullShare} X15) ∗ (arg16.view.loc (c : Thread nD τ) ↦[arg16.view.set]{fullShare} arg16.view.rep a.2) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20))
      ⊢ (wp frame (wpE (defs₀ (F := F)) 𝒱₀ (c : Thread nD τ) none) Set.univ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cols rowsV slots c0_i32 c1_i32 t1 v64 k acc)
          (fun y => iprop((arg12.view.loc (c : Thread nD τ) ↦[arg12.view.set]{fullShare} arg12.view.rep x12) ∗ (arg14.view.loc (c : Thread nD τ) ↦[arg14.view.set]{fullShare} arg14.view.rep (tile1Step v64 x12 (arg15.view.read (Elt F) X15) (arg17.view.read (Elt F) X17) (arg18.view.read (Elt F) X18) (arg19.view.read (Elt F) X19) (arg20.view.read (Elt F) X20) k a).1) ∗ (arg15.view.loc (c : Thread nD τ) ↦[arg15.view.set]{fullShare} X15) ∗ (arg16.view.loc (c : Thread nD τ) ↦[arg16.view.set]{fullShare} arg16.view.rep (tile1Step v64 x12 (arg15.view.read (Elt F) X15) (arg17.view.read (Elt F) X17) (arg18.view.read (Elt F) X18) (arg19.view.read (Elt F) X19) (arg20.view.read (Elt F) X20) k a).2) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20))) : sProp 𝕄) := by
  have hk : k.val < 4 := Nat.lt_of_lt_of_le k.isLt k0_t2_abs.2.1
  unfold k0_t2_body
  iintro ⟨H12, H14, H15, H16, H17, H18, H19, H20⟩
  sl_exec
  rw [View.readAt_rep_unit arg12.view x12 (k0_off3_inb k) rfl (k0_off3_inb k), View.readAt_unit arg15.view X15 (k0_off8_inb k) rfl (k0_off8_inb k)]
  sl_step
  isplitl [H12]; · iexact H12
  isplitl [H14]; · iapply (own_put c arg14 a.1 (k0_off8_inb k) _); iexact H14
  isplitl [H15]; · iexact H15
  isplitl [H16]; · iapply (own_put c arg16 a.2 (k0_off6_inb k) _); iexact H16
  isplitl [H17]; · iexact H17
  isplitl [H18]; · iexact H18
  isplitl [H19]; · iexact H19
  iexact H20

set_option warn.classDefReducibility false in
/-- The loop: the buffers it changes hold their values before tile `k`, the others are unchanged. -/
@[sl_loop] def loop2 (c : Dev nD) (i : grid0.Coords) (arg1 : Memref sig .tc .vmem S1x2560x128 .f32) (harg1 : arg1.IsWhole) (arg2 : Memref sig .tc .vmem S4x128x128 .f32) (harg2 : arg2.IsWhole) (arg3 : Memref sig .tc .vmem S4x128 .f32) (harg3 : arg3.IsWhole) (arg4 : Memref sig .tc .vmem S4x128x128 .f32) (harg4 : arg4.IsWhole) (arg5 : Memref sig .tc .vmem S4x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2560x128 .f32) (harg12 : arg12.IsWhole) (arg13 : Memref sig .tc .vmem S1x2560x8 .f32) (harg13 : arg13.IsWhole) (arg14 : Memref sig .tc .vmem S2560x128 .f32) (harg14 : arg14.IsWhole) (arg15 : Memref sig .tc .vmem S2560x128 .f32) (harg15 : arg15.IsWhole) (arg16 : Memref sig .tc .vmem S2560x8 .i32) (harg16 : arg16.IsWhole) (arg17 : Memref sig .tc .vmem S1x2560 .f32) (harg17 : arg17.IsWhole) (arg18 : Memref sig .tc .vmem S2560x128 .bf16) (harg18 : arg18.IsWhole) (arg19 : Memref sig .tc .vmem S2560x128 .bf16) (harg19 : arg19.IsWhole) (arg20 : Memref sig .tc .vmem S2560x128 .bf16) (harg20 : arg20.IsWhole) (c0_i32 c1_i32 : BitVec 32) (t1 : Fin k0_t1_loop.trips) (v64 : Vec F S1x128 .f32) (x12 : Vec F S1x2560x128 .f32) (X15 : BufTy.Contents (Elt F) arg15.view.ty) (X17 : BufTy.Contents (Elt F) arg17.view.ty) (X18 : BufTy.Contents (Elt F) arg18.view.ty) (X19 : BufTy.Contents (Elt F) arg19.view.ty) (X20 : BufTy.Contents (Elt F) arg20.view.ty) (x14 : Vec F S2560x128 .f32) (x16 : Vec F S2560x8 .i32) :
    Idealize.ShloMosaic.LoopInv (M := 𝕄) Idealize.ShloMosaic.frame (wpE (defs₀ (F := F)) 𝒱₀ (c : Thread nD τ) none) Set.univ
      k0_t2_loop.lb k0_t2_loop.ub k0_t2_loop.st k0_t2_ok ⟨⟩ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cols rowsV slots c0_i32 c1_i32 t1 v64) where
  inv k acc := iprop((arg12.view.loc (c : Thread nD τ) ↦[arg12.view.set]{fullShare} arg12.view.rep x12) ∗ (arg14.view.loc (c : Thread nD τ) ↦[arg14.view.set]{fullShare} arg14.view.rep (tiles1 v64 x12 (arg15.view.read (Elt F) X15) (arg17.view.read (Elt F) X17) (arg18.view.read (Elt F) X18) (arg19.view.read (Elt F) X19) (arg20.view.read (Elt F) X20) x14 x16 k).1) ∗ (arg15.view.loc (c : Thread nD τ) ↦[arg15.view.set]{fullShare} X15) ∗ (arg16.view.loc (c : Thread nD τ) ↦[arg16.view.set]{fullShare} arg16.view.rep (tiles1 v64 x12 (arg15.view.read (Elt F) X15) (arg17.view.read (Elt F) X17) (arg18.view.read (Elt F) X18) (arg19.view.read (Elt F) X19) (arg20.view.read (Elt F) X20) x14 x16 k).2) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20))
  step k acc := by
    have hs : tiles1 v64 x12 (arg15.view.read (Elt F) X15) (arg17.view.read (Elt F) X17) (arg18.view.read (Elt F) X18) (arg19.view.read (Elt F) X19) (arg20.view.read (Elt F) X20) x14 x16 (k.val + 1) = tile1Step v64 x12 (arg15.view.read (Elt F) X15) (arg17.view.read (Elt F) X17) (arg18.view.read (Elt F) X18) (arg19.view.read (Elt F) X19) (arg20.view.read (Elt F) X20) k (tiles1 v64 x12 (arg15.view.read (Elt F) X15) (arg17.view.read (Elt F) X17) (arg18.view.read (Elt F) X18) (arg19.view.read (Elt F) X19) (arg20.view.read (Elt F) X20) x14 x16 k.val) := iter_succ _ _ k
    rw [hs]
    exact trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32 c1_i32 t1 v64 x12 X15 X17 X18 X19 X20 _ k acc

/-- One tile of the second convolution. -/
theorem trip6 (c : Dev nD) (i : grid0.Coords) (arg1 : Memref sig .tc .vmem S1x2560x128 .f32) (harg1 : arg1.IsWhole) (arg2 : Memref sig .tc .vmem S4x128x128 .f32) (harg2 : arg2.IsWhole) (arg3 : Memref sig .tc .vmem S4x128 .f32) (harg3 : arg3.IsWhole) (arg4 : Memref sig .tc .vmem S4x128x128 .f32) (harg4 : arg4.IsWhole) (arg5 : Memref sig .tc .vmem S4x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2560x128 .f32) (harg12 : arg12.IsWhole) (arg13 : Memref sig .tc .vmem S1x2560x8 .f32) (harg13 : arg13.IsWhole) (arg14 : Memref sig .tc .vmem S2560x128 .f32) (harg14 : arg14.IsWhole) (arg15 : Memref sig .tc .vmem S2560x128 .f32) (harg15 : arg15.IsWhole) (arg16 : Memref sig .tc .vmem S2560x8 .i32) (harg16 : arg16.IsWhole) (arg17 : Memref sig .tc .vmem S1x2560 .f32) (harg17 : arg17.IsWhole) (arg18 : Memref sig .tc .vmem S2560x128 .bf16) (harg18 : arg18.IsWhole) (arg19 : Memref sig .tc .vmem S2560x128 .bf16) (harg19 : arg19.IsWhole) (arg20 : Memref sig .tc .vmem S2560x128 .bf16) (harg20 : arg20.IsWhole) (c0_i32 c1_i32 : BitVec 32) (t1 : Fin k0_t1_loop.trips) (v66 : Vec F S1x128 .f32) (X15 : BufTy.Contents (Elt F) arg15.view.ty) (x16 : Vec F S2560x8 .i32) (X18 : BufTy.Contents (Elt F) arg18.view.ty) (X19 : BufTy.Contents (Elt F) arg19.view.ty) (X20 : BufTy.Contents (Elt F) arg20.view.ty) (x12 : Vec F S1x2560x128 .f32) (k : Fin k0_t6_loop.trips) (acc : Unit) :
    iprop((arg12.view.loc (c : Thread nD τ) ↦[arg12.view.set]{fullShare} arg12.view.rep x12) ∗ (arg15.view.loc (c : Thread nD τ) ↦[arg15.view.set]{fullShare} X15) ∗ (arg16.view.loc (c : Thread nD τ) ↦[arg16.view.set]{fullShare} arg16.view.rep x16) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20))
      ⊢ (wp frame (wpE (defs₀ (F := F)) 𝒱₀ (c : Thread nD τ) none) Set.univ (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cols rowsV slots c0_i32 c1_i32 t1 v66 k acc)
          (fun y => iprop((arg12.view.loc (c : Thread nD τ) ↦[arg12.view.set]{fullShare} arg12.view.rep (tile2Step v66 (arg15.view.read (Elt F) X15) x16 (arg18.view.read (Elt F) X18) (arg19.view.read (Elt F) X19) (arg20.view.read (Elt F) X20) k x12)) ∗ (arg15.view.loc (c : Thread nD τ) ↦[arg15.view.set]{fullShare} X15) ∗ (arg16.view.loc (c : Thread nD τ) ↦[arg16.view.set]{fullShare} arg16.view.rep x16) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20))) : sProp 𝕄) := by
  have hk : k.val < 4 := Nat.lt_of_lt_of_le k.isLt k0_t6_abs.2.1
  unfold k0_t6_body
  iintro ⟨H12, H15, H16, H18, H19, H20⟩
  sl_exec
  rw [View.readAt_rep_unit arg16.view x16 (k0_off9_inb k) rfl (k0_off9_inb k), View.readAt_unit arg15.view X15 (k0_off11_inb k) rfl (k0_off11_inb k),
    View.readAt_rep_unit arg12.view x12 (k0_off12_inb k) rfl (k0_off12_inb k)]
  sl_step
  isplitl [H12]; · iapply (own_put c arg12 x12 (k0_off12_inb k) _); iexact H12
  isplitl [H15]; · iexact H15
  isplitl [H16]; · iexact H16
  isplitl [H18]; · iexact H18
  isplitl [H19]; · iexact H19
  iexact H20

set_option warn.classDefReducibility false in
/-- The loop: the buffers it changes hold their values before tile `k`, the others are unchanged. -/
@[sl_loop] def loop6 (c : Dev nD) (i : grid0.Coords) (arg1 : Memref sig .tc .vmem S1x2560x128 .f32) (harg1 : arg1.IsWhole) (arg2 : Memref sig .tc .vmem S4x128x128 .f32) (harg2 : arg2.IsWhole) (arg3 : Memref sig .tc .vmem S4x128 .f32) (harg3 : arg3.IsWhole) (arg4 : Memref sig .tc .vmem S4x128x128 .f32) (harg4 : arg4.IsWhole) (arg5 : Memref sig .tc .vmem S4x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2560x128 .f32) (harg12 : arg12.IsWhole) (arg13 : Memref sig .tc .vmem S1x2560x8 .f32) (harg13 : arg13.IsWhole) (arg14 : Memref sig .tc .vmem S2560x128 .f32) (harg14 : arg14.IsWhole) (arg15 : Memref sig .tc .vmem S2560x128 .f32) (harg15 : arg15.IsWhole) (arg16 : Memref sig .tc .vmem S2560x8 .i32) (harg16 : arg16.IsWhole) (arg17 : Memref sig .tc .vmem S1x2560 .f32) (harg17 : arg17.IsWhole) (arg18 : Memref sig .tc .vmem S2560x128 .bf16) (harg18 : arg18.IsWhole) (arg19 : Memref sig .tc .vmem S2560x128 .bf16) (harg19 : arg19.IsWhole) (arg20 : Memref sig .tc .vmem S2560x128 .bf16) (harg20 : arg20.IsWhole) (c0_i32 c1_i32 : BitVec 32) (t1 : Fin k0_t1_loop.trips) (v66 : Vec F S1x128 .f32) (X15 : BufTy.Contents (Elt F) arg15.view.ty) (x16 : Vec F S2560x8 .i32) (X18 : BufTy.Contents (Elt F) arg18.view.ty) (X19 : BufTy.Contents (Elt F) arg19.view.ty) (X20 : BufTy.Contents (Elt F) arg20.view.ty) (x12 : Vec F S1x2560x128 .f32) :
    Idealize.ShloMosaic.LoopInv (M := 𝕄) Idealize.ShloMosaic.frame (wpE (defs₀ (F := F)) 𝒱₀ (c : Thread nD τ) none) Set.univ
      k0_t6_loop.lb k0_t6_loop.ub k0_t6_loop.st k0_t6_ok ⟨⟩ (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cols rowsV slots c0_i32 c1_i32 t1 v66) where
  inv k acc := iprop((arg12.view.loc (c : Thread nD τ) ↦[arg12.view.set]{fullShare} arg12.view.rep (tiles2 v66 (arg15.view.read (Elt F) X15) x16 (arg18.view.read (Elt F) X18) (arg19.view.read (Elt F) X19) (arg20.view.read (Elt F) X20) x12 k)) ∗ (arg15.view.loc (c : Thread nD τ) ↦[arg15.view.set]{fullShare} X15) ∗ (arg16.view.loc (c : Thread nD τ) ↦[arg16.view.set]{fullShare} arg16.view.rep x16) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20))
  step k acc := by
    have hs : tiles2 v66 (arg15.view.read (Elt F) X15) x16 (arg18.view.read (Elt F) X18) (arg19.view.read (Elt F) X19) (arg20.view.read (Elt F) X20) x12 (k.val + 1) = tile2Step v66 (arg15.view.read (Elt F) X15) x16 (arg18.view.read (Elt F) X18) (arg19.view.read (Elt F) X19) (arg20.view.read (Elt F) X20) k (tiles2 v66 (arg15.view.read (Elt F) X15) x16 (arg18.view.read (Elt F) X18) (arg19.view.read (Elt F) X19) (arg20.view.read (Elt F) X20) x12 k.val) := iter_succ _ _ k
    rw [hs]
    exact trip6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32 c1_i32 t1 v66 X15 x16 X18 X19 X20 _ k acc

end Cert.Proof.KernelIdeal
-- ==== Proof.Ideal.Body.lean ====
/- The kernel's loops, each with its invariant: the buffers it touches hold the values of Spec.lean. -/
module

public import proofs.«01_k».proof.Proof.Ideal.Loops26
public import Idealize.ShloMosaic.Lib.Tactic
public import Idealize.ShloMosaic.Lib.Pipeline.Kit

@[expose] public section

set_option maxRecDepth 8192
set_option maxHeartbeats 400000

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ
local notation "𝒱₀" => Variants.none

/-- One block. -/
theorem trip1 (c : Dev nD) (i : grid0.Coords) (arg1 : Memref sig .tc .vmem S1x2560x128 .f32) (harg1 : arg1.IsWhole) (arg2 : Memref sig .tc .vmem S4x128x128 .f32) (harg2 : arg2.IsWhole) (arg3 : Memref sig .tc .vmem S4x128 .f32) (harg3 : arg3.IsWhole) (arg4 : Memref sig .tc .vmem S4x128x128 .f32) (harg4 : arg4.IsWhole) (arg5 : Memref sig .tc .vmem S4x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2560x128 .f32) (harg12 : arg12.IsWhole) (arg13 : Memref sig .tc .vmem S1x2560x8 .f32) (harg13 : arg13.IsWhole) (arg14 : Memref sig .tc .vmem S2560x128 .f32) (harg14 : arg14.IsWhole) (arg15 : Memref sig .tc .vmem S2560x128 .f32) (harg15 : arg15.IsWhole) (arg16 : Memref sig .tc .vmem S2560x8 .i32) (harg16 : arg16.IsWhole) (arg17 : Memref sig .tc .vmem S1x2560 .f32) (harg17 : arg17.IsWhole) (arg18 : Memref sig .tc .vmem S2560x128 .bf16) (harg18 : arg18.IsWhole) (arg19 : Memref sig .tc .vmem S2560x128 .bf16) (harg19 : arg19.IsWhole) (arg20 : Memref sig .tc .vmem S2560x128 .bf16) (harg20 : arg20.IsWhole) (W1 : Vec F S4x128x128 .f32) (B1 : Vec F S4x128 .f32) (W2 : Vec F S4x128x128 .f32) (B2 : Vec F S4x128 .f32) (s : St F) (k : Fin k0_t1_loop.trips) (acc : Unit) :
    iprop((arg2.view.loc (c : Thread nD τ) ↦[arg2.view.set]{fullShare} arg2.view.rep W1) ∗ (arg3.view.loc (c : Thread nD τ) ↦[arg3.view.set]{fullShare} arg3.view.rep B1) ∗ (arg4.view.loc (c : Thread nD τ) ↦[arg4.view.set]{fullShare} arg4.view.rep W2) ∗ (arg5.view.loc (c : Thread nD τ) ↦[arg5.view.set]{fullShare} arg5.view.rep B2) ∗ (arg12.view.loc (c : Thread nD τ) ↦[arg12.view.set]{fullShare} arg12.view.rep s.x12) ∗ (arg14.view.loc (c : Thread nD τ) ↦[arg14.view.set]{fullShare} arg14.view.rep s.x14) ∗ (arg15.view.loc (c : Thread nD τ) ↦[arg15.view.set]{fullShare} arg15.view.rep s.x15) ∗ (arg16.view.loc (c : Thread nD τ) ↦[arg16.view.set]{fullShare} arg16.view.rep s.x16) ∗ (arg17.view.loc (c : Thread nD τ) ↦[arg17.view.set]{fullShare} arg17.view.rep s.x17) ∗ (arg18.view.loc (c : Thread nD τ) ↦[arg18.view.set]{fullShare} arg18.view.rep s.x18) ∗ (arg19.view.loc (c : Thread nD τ) ↦[arg19.view.set]{fullShare} arg19.view.rep s.x19) ∗ (arg20.view.loc (c : Thread nD τ) ↦[arg20.view.set]{fullShare} arg20.view.rep s.x20))
      ⊢ (wp frame (wpE (defs₀ (F := F)) 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cols rowsV slots k acc)
          (fun y => iprop((arg2.view.loc (c : Thread nD τ) ↦[arg2.view.set]{fullShare} arg2.view.rep W1) ∗ (arg3.view.loc (c : Thread nD τ) ↦[arg3.view.set]{fullShare} arg3.view.rep B1) ∗ (arg4.view.loc (c : Thread nD τ) ↦[arg4.view.set]{fullShare} arg4.view.rep W2) ∗ (arg5.view.loc (c : Thread nD τ) ↦[arg5.view.set]{fullShare} arg5.view.rep B2) ∗ (arg12.view.loc (c : Thread nD τ) ↦[arg12.view.set]{fullShare} arg12.view.rep (blockStep W1 B1 W2 B2 k s).x12) ∗ (arg14.view.loc (c : Thread nD τ) ↦[arg14.view.set]{fullShare} arg14.view.rep (blockStep W1 B1 W2 B2 k s).x14) ∗ (arg15.view.loc (c : Thread nD τ) ↦[arg15.view.set]{fullShare} arg15.view.rep (blockStep W1 B1 W2 B2 k s).x15) ∗ (arg16.view.loc (c : Thread nD τ) ↦[arg16.view.set]{fullShare} arg16.view.rep (blockStep W1 B1 W2 B2 k s).x16) ∗ (arg17.view.loc (c : Thread nD τ) ↦[arg17.view.set]{fullShare} arg17.view.rep (blockStep W1 B1 W2 B2 k s).x17) ∗ (arg18.view.loc (c : Thread nD τ) ↦[arg18.view.set]{fullShare} arg18.view.rep (blockStep W1 B1 W2 B2 k s).x18) ∗ (arg19.view.loc (c : Thread nD τ) ↦[arg19.view.set]{fullShare} arg19.view.rep (blockStep W1 B1 W2 B2 k s).x19) ∗ (arg20.view.loc (c : Thread nD τ) ↦[arg20.view.set]{fullShare} arg20.view.rep (blockStep W1 B1 W2 B2 k s).x20))) : sProp 𝕄) := by
  have hk : k.val < 4 := Nat.lt_of_lt_of_le k.isLt k0_t1_abs.2.1
  unfold k0_t1_body
  iintro ⟨H2, H3, H4, H5, H12, H14, H15, H16, H17, H18, H19, H20⟩
  sl_exec
  delta trip1.sl.v98 trip1.sl.H15_1 trip1.sl.H17_1 trip1.sl.H18_1 trip1.sl.H19_1 trip1.sl.H20_1 trip1.sl.r trip1.sl.r_1 trip1.sl.r_2 trip1.sl.r_3 trip1.sl.r_4
  rw [View.readAt_rep_full arg12.view, View.readAt_rep_unit arg2.view W1 (k0_off1_inb k) rfl (k0_off1_inb k), View.readAt_rep_unit arg4.view W2 (k0_off1_inb k) rfl (k0_off1_inb k),
    View.readAt_rep_unit arg3.view B1 (k0_off2_inb k) rfl (k0_off2_inb k), View.readAt_rep_unit arg5.view B2 (k0_off2_inb k) rfl (k0_off2_inb k)]
  repeat rw [View.readAt_rep_full arg14.view]
  repeat rw [View.read_writes_full arg15.view]
  repeat rw [View.read_writes_full arg17.view]
  repeat rw [View.read_writes_full arg18.view]
  repeat rw [View.read_writes_full arg19.view]
  repeat rw [View.read_writes_full arg20.view]
  sl_step
  isplitl [H2]; · iexact H2
  isplitl [H3]; · iexact H3
  isplitl [H4]; · iexact H4
  isplitl [H5]; · iexact H5
  isplitl [H12]; · iexact H12
  isplitl [H14]; · iexact H14
  isplitl [H15]; · iapply (own_full c arg15 _ inb_S2560x128_S2560x128_0_0 _ _); iexact H15
  isplitl [H16]; · iexact H16
  isplitl [H17]; · iapply (own_full c arg17 _ inb_S1x2560_S1x2560_0_0 _ _); iexact H17
  isplitl [H18]; · iapply (own_full c arg18 _ inb_S2560x128_S2560x128_0_0 _ _); iexact H18
  isplitl [H19]; · iapply (own_full c arg19 _ inb_S2560x128_S2560x128_0_0 _ _); iexact H19
  iapply (own_full c arg20 _ inb_S2560x128_S2560x128_0_0 _ _); iexact H20

set_option warn.classDefReducibility false in
/-- The loop over the blocks. -/
@[sl_loop] def loop1 (c : Dev nD) (i : grid0.Coords) (arg1 : Memref sig .tc .vmem S1x2560x128 .f32) (harg1 : arg1.IsWhole) (arg2 : Memref sig .tc .vmem S4x128x128 .f32) (harg2 : arg2.IsWhole) (arg3 : Memref sig .tc .vmem S4x128 .f32) (harg3 : arg3.IsWhole) (arg4 : Memref sig .tc .vmem S4x128x128 .f32) (harg4 : arg4.IsWhole) (arg5 : Memref sig .tc .vmem S4x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2560x128 .f32) (harg12 : arg12.IsWhole) (arg13 : Memref sig .tc .vmem S1x2560x8 .f32) (harg13 : arg13.IsWhole) (arg14 : Memref sig .tc .vmem S2560x128 .f32) (harg14 : arg14.IsWhole) (arg15 : Memref sig .tc .vmem S2560x128 .f32) (harg15 : arg15.IsWhole) (arg16 : Memref sig .tc .vmem S2560x8 .i32) (harg16 : arg16.IsWhole) (arg17 : Memref sig .tc .vmem S1x2560 .f32) (harg17 : arg17.IsWhole) (arg18 : Memref sig .tc .vmem S2560x128 .bf16) (harg18 : arg18.IsWhole) (arg19 : Memref sig .tc .vmem S2560x128 .bf16) (harg19 : arg19.IsWhole) (arg20 : Memref sig .tc .vmem S2560x128 .bf16) (harg20 : arg20.IsWhole) (W1 : Vec F S4x128x128 .f32) (B1 : Vec F S4x128 .f32) (W2 : Vec F S4x128x128 .f32) (B2 : Vec F S4x128 .f32) (s : St F) :
    Idealize.ShloMosaic.LoopInv (M := 𝕄) Idealize.ShloMosaic.frame (wpE (defs₀ (F := F)) 𝒱₀ (c : Thread nD τ) none) Set.univ
      k0_t1_loop.lb k0_t1_loop.ub k0_t1_loop.st k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cols rowsV slots) where
  inv k acc := iprop((arg2.view.loc (c : Thread nD τ) ↦[arg2.view.set]{fullShare} arg2.view.rep W1) ∗ (arg3.view.loc (c : Thread nD τ) ↦[arg3.view.set]{fullShare} arg3.view.rep B1) ∗ (arg4.view.loc (c : Thread nD τ) ↦[arg4.view.set]{fullShare} arg4.view.rep W2) ∗ (arg5.view.loc (c : Thread nD τ) ↦[arg5.view.set]{fullShare} arg5.view.rep B2) ∗ (arg12.view.loc (c : Thread nD τ) ↦[arg12.view.set]{fullShare} arg12.view.rep (blocks W1 B1 W2 B2 s k).x12) ∗ (arg14.view.loc (c : Thread nD τ) ↦[arg14.view.set]{fullShare} arg14.view.rep (blocks W1 B1 W2 B2 s k).x14) ∗ (arg15.view.loc (c : Thread nD τ) ↦[arg15.view.set]{fullShare} arg15.view.rep (blocks W1 B1 W2 B2 s k).x15) ∗ (arg16.view.loc (c : Thread nD τ) ↦[arg16.view.set]{fullShare} arg16.view.rep (blocks W1 B1 W2 B2 s k).x16) ∗ (arg17.view.loc (c : Thread nD τ) ↦[arg17.view.set]{fullShare} arg17.view.rep (blocks W1 B1 W2 B2 s k).x17) ∗ (arg18.view.loc (c : Thread nD τ) ↦[arg18.view.set]{fullShare} arg18.view.rep (blocks W1 B1 W2 B2 s k).x18) ∗ (arg19.view.loc (c : Thread nD τ) ↦[arg19.view.set]{fullShare} arg19.view.rep (blocks W1 B1 W2 B2 s k).x19) ∗ (arg20.view.loc (c : Thread nD τ) ↦[arg20.view.set]{fullShare} arg20.view.rep (blocks W1 B1 W2 B2 s k).x20))
  step k acc := by
    have hs : blocks W1 B1 W2 B2 s (k.val + 1) = blockStep W1 B1 W2 B2 k (blocks W1 B1 W2 B2 s k.val) := iter_succ _ _ k
    rw [hs]
    exact trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 W1 B1 W2 B2 _ k acc

end Cert.Proof.KernelIdeal
-- ==== Proof.Ideal.Tiles.lean ====
/- What the kernel computes, as plain functions of the contents of its buffers: one function per loop, an outer one
   citing the inner. Nothing here mentions memory; the run (Loops.lean, Body.lean) shows the buffers hold these values. -/
module

public import proofs.«01_k».proof.Proof.Ideal.Spec
public import Idealize.ShloMosaic.Lib.Exec
public import Idealize.ShloMosaic.Lib.VecWindow

@[expose] public section

noncomputable section

namespace Cert.Proof.KernelIdeal

open Idealize.ShloMosaic Idealize.ShloMosaic.TcCoe
open Cert.KernelIdeal Cert.KernelIdeal.Gen

section Windows

variable {n : ℕ} {s : Shape} {α : Type} (off : Fin n → Fin s.rank → ℕ) (size : Fin s.rank → ℕ) (inb : ∀ k, ∀ a, off k a + size a ≤ s.size a)

/-- After `m` steps, each replacing one of a family of disjoint windows by a function of it, a window of the family has been replaced when its turn has come
    and is as it was otherwise. -/
theorem window_iter (a : Fin s.rank) (hdis : ∀ j k : Fin n, j < k → off j a + size a ≤ off k a)
    (W : (k : Fin n) → ((Rect.unit (s := s) (off k) size (inb k)).shape.Idx → α) → ((a : Fin s.rank) → Fin (size a)) → α)
    (x : s.Idx → α) (k : Fin n) (m : ℕ) (hm : m ≤ n) :
    VecWindow.window (iter (fun t y => VecWindow.put y (off t) size (W t (VecWindow.window y (off t) size (inb t)))) x m) (off k) size (inb k)
      = if k.val < m then W k (VecWindow.window x (off k) size (inb k)) else VecWindow.window x (off k) size (inb k) := by
  induction m with
  | zero => rw [if_neg (by omega)]; rfl
  | succ m ih =>
    have hmn : m < n := hm
    have e := iter_succ (fun t y => VecWindow.put y (off t) size (W t (VecWindow.window y (off t) size (inb t)))) x ⟨m, hmn⟩
    rw [show m + 1 = (⟨m, hmn⟩ : Fin n).val + 1 from rfl, e]
    have ih := ih (by omega)
    rcases lt_trichotomy k.val m with h | h | h
    · rw [VecWindow.window_put_of_disjoint _ _ _ _ _ _ _ a (Or.inl (hdis k ⟨m, hmn⟩ h)), ih, if_pos h, if_pos (by show k.val < m + 1; omega)]
    · obtain rfl : k = ⟨m, hmn⟩ := Fin.ext h
      rw [VecWindow.window_put_same, if_pos (by show m < m + 1; omega)]
      rw [if_neg (by show ¬ m < m; omega)] at ih
      rw [ih]
    · rw [VecWindow.window_put_of_disjoint _ _ _ _ _ _ _ a (Or.inr (hdis ⟨m, hmn⟩ k h)), ih, if_neg (by omega), if_neg (by show ¬ k.val < m + 1; omega)]

/-- Contents that agree on every window of a covering family are equal. -/
theorem ext_windows (hcov : ∀ y : s.Idx, ∃ k : Fin n, ∀ a, off k a ≤ (y a).val ∧ (y a).val < off k a + size a) (x x' : s.Idx → α)
    (h : ∀ k, VecWindow.window x (off k) size (inb k) = VecWindow.window x' (off k) size (inb k)) : x = x' := by
  funext y
  obtain ⟨k, hk⟩ := hcov y
  have e := congrFun (h k) (Rect.unitLocal (s := s) (off := off k) (size := size) y hk)
  have ey : (Rect.unit (off k) size (inb k)).emb (Rect.unitLocal (s := s) (off := off k) (size := size) y hk) = y := funext fun a => Fin.ext (by
    show off k a + 1 * ((y a).val - off k a) = (y a).val
    have := hk a; omega)
  have e' : x ((Rect.unit (off k) size (inb k)).emb (Rect.unitLocal (s := s) (off := off k) (size := size) y hk))
      = x' ((Rect.unit (off k) size (inb k)).emb (Rect.unitLocal (s := s) (off := off k) (size := size) y hk)) := e
  rwa [ey] at e'

end Windows

/-- Steps on a pair whose components do not look at one another are steps on each component. -/
theorem iter_prod {n : ℕ} {α β : Type} (f : Fin n → α → α) (g : Fin n → β → β) (a : α) (b : β) (k : ℕ) :
    iter (fun t (p : α × β) => (f t p.1, g t p.2)) (a, b) k = (iter f a k, iter g b k) := by
  induction k with
  | zero => rfl
  | succ k ih =>
    rw [iter, iter, iter, ih]
    split <;> rfl

/-- The loop over the blocks takes 4 turns. -/
theorem trips1 : k0_t1_loop.trips = 4 := by decide +kernel
/-- The loop over the first pass's tiles takes 4 turns. -/
theorem trips2 : k0_t2_loop.trips = 4 := by decide +kernel
/-- The loop over the chunks of distances takes 5 turns. -/
theorem trips3 : k0_t3_loop.trips = 5 := by decide +kernel
/-- The loop over the selections takes 8 turns. -/
theorem trips4 : k0_t4_loop.trips = 8 := by decide +kernel
/-- The loop over the first pass's chunks of messages takes 5 turns. -/
theorem trips5 : k0_t5_loop.trips = 5 := by decide +kernel
/-- The loop over the second pass's tiles takes 4 turns. -/
theorem trips6 : k0_t6_loop.trips = 4 := by decide +kernel
/-- The loop over the second pass's chunks of messages takes 5 turns. -/
theorem trips7 : k0_t7_loop.trips = 5 := by decide +kernel

variable {F : FTy → Type} [FloatOps F] [Named F]

/-- The hidden rows that the first pass writes for two tiles don't meet. -/
theorem dis8 : ∀ j k : Fin k0_t2_loop.trips, j < k → k0_off8 j 0 + S640x128.size 0 ≤ k0_off8 k 0 := by decide +kernel
/-- The neighbours that the first pass writes for two tiles don't meet. -/
theorem dis6 : ∀ j k : Fin k0_t2_loop.trips, j < k → k0_off6 j 0 + S640x8.size 0 ≤ k0_off6 k 0 := by decide +kernel
/-- The rows that the second pass writes for two tiles don't meet. -/
theorem dis12 : ∀ j k : Fin k0_t6_loop.trips, j < k → k0_off12 j 1 + S1x640x128.size 1 ≤ k0_off12 k 1 := by decide +kernel

/-- Every hidden row is written by some tile of the first pass. -/
theorem cov8 (y : S2560x128.Idx) : ∃ k : Fin k0_t2_loop.trips, ∀ a, k0_off8 k a ≤ (y a).val ∧ (y a).val < k0_off8 k a + S640x128.size a := by
  have h0 : (y 0).val < 2560 := (y 0).isLt
  have h1 : (y 1).val < 128 := (y 1).isLt
  refine ⟨⟨(y 0).val / 640, by rw [trips2]; omega⟩, ?_⟩
  rw [k0_off8_eq]
  intro a
  match a with
  | 0 => show 640 * ((y 0).val / 640) ≤ (y 0).val ∧ (y 0).val < 640 * ((y 0).val / 640) + 640; omega
  | 1 => show 0 ≤ (y 1).val ∧ (y 1).val < 0 + 128; omega

/-- Every row of neighbours is written by some tile of the first pass. -/
theorem cov6 (y : S2560x8.Idx) : ∃ k : Fin k0_t2_loop.trips, ∀ a, k0_off6 k a ≤ (y a).val ∧ (y a).val < k0_off6 k a + S640x8.size a := by
  have h0 : (y 0).val < 2560 := (y 0).isLt
  have h1 : (y 1).val < 8 := (y 1).isLt
  refine ⟨⟨(y 0).val / 640, by rw [trips2]; omega⟩, ?_⟩
  rw [k0_off6_eq]
  intro a
  match a with
  | 0 => show 640 * ((y 0).val / 640) ≤ (y 0).val ∧ (y 0).val < 640 * ((y 0).val / 640) + 640; omega
  | 1 => show 0 ≤ (y 1).val ∧ (y 1).val < 0 + 8; omega

/-- The hidden rows of tile `k`. -/
def tileHidden (v64 : Vec F S1x128 .f32) (x12 : Vec F S1x2560x128 .f32) (x15 : Vec F S2560x128 .f32) (x17 : Vec F S1x2560 .f32) (x18 x19 x20 : Vec F S2560x128 .bf16)
    (t2 : Fin k0_t2_loop.trips) : FVec F S640x128 .f32 :=
  k0_pay37 v64 (agg1 (tileIds x12 x17 t2) x18 x19 x20 k0_t5_loop.trips) (VecWindow.window x15 (k0_off8 t2) S640x128.size (k0_off8_inb t2))

section
variable (v64 : Vec F S1x128 .f32) (x12 : Vec F S1x2560x128 .f32) (x15 : Vec F S2560x128 .f32) (x17 : Vec F S1x2560 .f32) (x18 x19 x20 : Vec F S2560x128 .bf16)
    (x14 : Vec F S2560x128 .f32) (x16 : Vec F S2560x8 .i32)

/-- The first pass's tiles, as two loops: one writes the hidden rows, the other the neighbours. -/
theorem tiles1_eq (k : ℕ) : tiles1 v64 x12 x15 x17 x18 x19 x20 x14 x16 k
    = (iter (fun t y => VecWindow.put (s := S2560x128) y (k0_off8 t) S640x128.size (tileHidden v64 x12 x15 x17 x18 x19 x20 t)) x14 k,
       iter (fun t y => VecWindow.put (s := S2560x8) y (k0_off6 t) S640x8.size (k0_pay34 (tileIds x12 x17 t))) x16 k) :=
  iter_prod (fun t y => VecWindow.put (s := S2560x128) y (k0_off8 t) S640x128.size (tileHidden v64 x12 x15 x17 x18 x19 x20 t))
    (fun t y => VecWindow.put (s := S2560x8) y (k0_off6 t) S640x8.size (k0_pay34 (tileIds x12 x17 t))) x14 x16 k

/-- After all tiles, the hidden rows of a tile; -/
theorem tiles1_hidden (t : Fin k0_t2_loop.trips) :
    VecWindow.window (tiles1 v64 x12 x15 x17 x18 x19 x20 x14 x16 k0_t2_loop.trips).1 (k0_off8 t) S640x128.size (k0_off8_inb t)
      = tileHidden v64 x12 x15 x17 x18 x19 x20 t := by
  rw [tiles1_eq]
  exact (window_iter (s := S2560x128) k0_off8 S640x128.size k0_off8_inb 0 dis8 (fun t _ => tileHidden v64 x12 x15 x17 x18 x19 x20 t) x14 t _ le_rfl).trans (if_pos t.isLt)

/-- and its lists. -/
theorem tiles1_ids (t : Fin k0_t2_loop.trips) :
    VecWindow.window (tiles1 v64 x12 x15 x17 x18 x19 x20 x14 x16 k0_t2_loop.trips).2 (k0_off6 t) S640x8.size (k0_off6_inb t) = k0_pay34 (tileIds x12 x17 t) := by
  rw [tiles1_eq]
  exact (window_iter (s := S2560x8) k0_off6 S640x8.size k0_off6_inb 0 dis6 (fun t _ => k0_pay34 (tileIds x12 x17 t)) x16 t _ le_rfl).trans (if_pos t.isLt)

/-- Nothing of what the buffers held before is left. -/
theorem tiles1_indep (x14' : Vec F S2560x128 .f32) (x16' : Vec F S2560x8 .i32) :
    tiles1 v64 x12 x15 x17 x18 x19 x20 x14 x16 k0_t2_loop.trips = tiles1 v64 x12 x15 x17 x18 x19 x20 x14' x16' k0_t2_loop.trips :=
  Prod.ext
    (ext_windows (s := S2560x128) k0_off8 S640x128.size k0_off8_inb cov8 _ _ fun t => (tiles1_hidden v64 x12 x15 x17 x18 x19 x20 x14 x16 t).trans (tiles1_hidden v64 x12 x15 x17 x18 x19 x20 x14' x16' t).symm)
    (ext_windows (s := S2560x8) k0_off6 S640x8.size k0_off6_inb cov6 _ _ fun t => (tiles1_ids v64 x12 x15 x17 x18 x19 x20 x14 x16 t).trans (tiles1_ids v64 x12 x15 x17 x18 x19 x20 x14' x16' t).symm)

end

/-- After all tiles of the second convolution, the rows of a tile. -/
theorem tiles2_rows (v66 : Vec F S1x128 .f32) (x15 : Vec F S2560x128 .f32) (x16 : Vec F S2560x8 .i32) (x18 x19 x20 : Vec F S2560x128 .bf16) (x12 : Vec F S1x2560x128 .f32)
    (t : Fin k0_t6_loop.trips) :
    VecWindow.window (tiles2 v66 x15 x16 x18 x19 x20 x12 k0_t6_loop.trips) (k0_off12 t) S1x640x128.size (k0_off12_inb t)
      = k0_pay48 v66 (agg2 (VecWindow.window x16 (k0_off9 t) S640x8.size (k0_off9_inb t)) x18 x19 x20 k0_t7_loop.trips)
          (VecWindow.window x15 (k0_off11 t) S640x128.size (k0_off11_inb t)) (VecWindow.window x12 (k0_off12 t) S1x640x128.size (k0_off12_inb t)) :=
  (window_iter (s := S1x2560x128) k0_off12 S1x640x128.size k0_off12_inb 1 dis12 (fun t w => k0_pay48 v66 (agg2 (VecWindow.window x16 (k0_off9 t) S640x8.size (k0_off9_inb t)) x18 x19 x20 k0_t7_loop.trips)
          (VecWindow.window x15 (k0_off11 t) S640x128.size (k0_off11_inb t)) w) x12 t _ le_rfl).trans (if_pos t.isLt)

/-- One block's new rows, from the rows `h` alone: contents the scratch buffers happen to hold do not matter. -/
def rowsStep (W1 : Vec F S4x128x128 .f32) (B1 : Vec F S4x128 .f32) (W2 : Vec F S4x128x128 .f32) (B2 : Vec F S4x128 .f32)
    (t1 : Fin k0_t1_loop.trips) (h : Vec F S1x2560x128 .f32) : Vec F S1x2560x128 .f32 :=
  let g := hidden (VecWindow.window W1 (k0_off1 t1) S1x128x128.size (k0_off1_inb t1)) (VecWindow.window B1 (k0_off2 t1) S1x128.size (k0_off2_inb t1)) h
    (fun _ => Scalar.ofBits .f32 0x00000000#32) (fun _ => 0#32)
  let w2 : FVec F S128x128 .f32 := k0_pay8 (VecWindow.window W2 (k0_off1 t1) S1x128x128.size (k0_off1_inb t1))
  tiles2 (VecWindow.window B2 (k0_off2 t1) S1x128.size (k0_off2_inb t1)) (k0_pay39 w2 g.1) g.2 (k0_pay43 w2 g.1) (k0_pay44 w2 g.1) (k0_pay45 w2 g.1) h k0_t6_loop.trips

/-- What a block does to the rows depends on the rows and the weights alone, not on the scratch buffers. -/
theorem blockStep_rows (W1 : Vec F S4x128x128 .f32) (B1 : Vec F S4x128 .f32) (W2 : Vec F S4x128x128 .f32) (B2 : Vec F S4x128 .f32)
    (t1 : Fin k0_t1_loop.trips) (s : St F) : (blockStep W1 B1 W2 B2 t1 s).x12 = rowsStep W1 B1 W2 B2 t1 s.x12 := by
  have e : hidden (VecWindow.window W1 (k0_off1 t1) S1x128x128.size (k0_off1_inb t1)) (VecWindow.window B1 (k0_off2 t1) S1x128.size (k0_off2_inb t1)) s.x12 s.x14 s.x16
      = hidden (VecWindow.window W1 (k0_off1 t1) S1x128x128.size (k0_off1_inb t1)) (VecWindow.window B1 (k0_off2 t1) S1x128.size (k0_off2_inb t1)) s.x12
          (fun _ => Scalar.ofBits .f32 0x00000000#32) (fun _ => 0#32) := tiles1_indep _ _ _ _ _ _ _ _ _ _ _
  unfold blockStep rowsStep
  dsimp only
  rw [e]

/-- The rows after `k` blocks, from the rows at the start alone. -/
def rowsAfter (W1 : Vec F S4x128x128 .f32) (B1 : Vec F S4x128 .f32) (W2 : Vec F S4x128x128 .f32) (B2 : Vec F S4x128 .f32) (h : Vec F S1x2560x128 .f32) :
    ℕ → Vec F S1x2560x128 .f32 :=
  iter (rowsStep W1 B1 W2 B2) h

/-- After some blocks the rows are those that the blocks' steps on the rows alone give. -/
theorem blocks_rows (W1 : Vec F S4x128x128 .f32) (B1 : Vec F S4x128 .f32) (W2 : Vec F S4x128x128 .f32) (B2 : Vec F S4x128 .f32) (s : St F) (k : ℕ) :
    (blocks W1 B1 W2 B2 s k).x12 = rowsAfter W1 B1 W2 B2 s.x12 k := by
  induction k with
  | zero => rfl
  | succ k ih =>
    unfold blocks rowsAfter
    rw [iter, iter]
    split
    · rw [blockStep_rows]; exact congrArg _ ih
    · exact ih

end Cert.Proof.KernelIdeal
-- ==== Proof.Ideal.Run.lean ====
/- The kernel's loops, each with its invariant: the buffers it touches hold the values of Spec.lean. -/
module

public import proofs.«01_k».proof.Proof.Ideal.Body
public import proofs.«01_k».proof.Proof.Ideal.Tiles
public import Idealize.ShloMosaic.Lib.Tactic
public import Idealize.ShloMosaic.Lib.Pipeline.Kit

@[expose] public section

set_option maxRecDepth 8192
set_option maxHeartbeats 400000

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ
local notation "𝒱₀" => Variants.none

/-- The rows after the four blocks. -/
def outRows (X1 : Vec F S1x2560x128 .f32) (W1 : Vec F S4x128x128 .f32) (B1 : Vec F S4x128 .f32) (W2 : Vec F S4x128x128 .f32) (B2 : Vec F S4x128 .f32) : Vec F S1x2560x128 .f32 :=
  rowsAfter W1 B1 W2 B2 (k0_pay49 X1) k0_t1_loop.trips

/-- The head's results on those rows. -/
def outHead (X1 : Vec F S1x2560x128 .f32) (W1 : Vec F S4x128x128 .f32) (B1 : Vec F S4x128 .f32) (W2 : Vec F S4x128x128 .f32) (B2 : Vec F S4x128 .f32) (X6 : Vec F S128x128 .f32) (X7 : Vec F S1x128 .f32) (X8 : Vec F S1x128 .f32) (X9 : Vec F S1x128 .f32) (X10 : Vec F S128x128 .f32) (X11 : Vec F S1x128 .f32) : Vec F S1x2560x8 .f32 :=
  k0_pay1 (k0_pay50 (outRows X1 W1 B1 W2 B2) X6 X7) X8 X9 X10 X11

/-- The whole kernel. -/
theorem kernel_run (c : Dev nD) (i : grid0.Coords) (arg1 : Memref sig .tc .vmem S1x2560x128 .f32) (harg1 : arg1.IsWhole) (arg2 : Memref sig .tc .vmem S4x128x128 .f32) (harg2 : arg2.IsWhole) (arg3 : Memref sig .tc .vmem S4x128 .f32) (harg3 : arg3.IsWhole) (arg4 : Memref sig .tc .vmem S4x128x128 .f32) (harg4 : arg4.IsWhole) (arg5 : Memref sig .tc .vmem S4x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x2560x128 .f32) (harg12 : arg12.IsWhole) (arg13 : Memref sig .tc .vmem S1x2560x8 .f32) (harg13 : arg13.IsWhole) (arg14 : Memref sig .tc .vmem S2560x128 .f32) (harg14 : arg14.IsWhole) (arg15 : Memref sig .tc .vmem S2560x128 .f32) (harg15 : arg15.IsWhole) (arg16 : Memref sig .tc .vmem S2560x8 .i32) (harg16 : arg16.IsWhole) (arg17 : Memref sig .tc .vmem S1x2560 .f32) (harg17 : arg17.IsWhole) (arg18 : Memref sig .tc .vmem S2560x128 .bf16) (harg18 : arg18.IsWhole) (arg19 : Memref sig .tc .vmem S2560x128 .bf16) (harg19 : arg19.IsWhole) (arg20 : Memref sig .tc .vmem S2560x128 .bf16) (harg20 : arg20.IsWhole) (X1 : Vec F S1x2560x128 .f32) (W1 : Vec F S4x128x128 .f32) (B1 : Vec F S4x128 .f32) (W2 : Vec F S4x128x128 .f32) (B2 : Vec F S4x128 .f32) (X6 : Vec F S128x128 .f32) (X7 : Vec F S1x128 .f32) (X8 : Vec F S1x128 .f32) (X9 : Vec F S1x128 .f32) (X10 : Vec F S128x128 .f32) (X11 : Vec F S1x128 .f32) (s : St F) (hs : s.x12 = k0_pay49 X1)
    (f12 : Buf (Elt F) (arg12.view.loc (c : Thread nD τ))) (f13 : Buf (Elt F) (arg13.view.loc (c : Thread nD τ))) :
    iprop((arg1.view.loc (c : Thread nD τ) ↦[arg1.view.set]{fullShare} arg1.view.rep X1) ∗ (arg2.view.loc (c : Thread nD τ) ↦[arg2.view.set]{fullShare} arg2.view.rep W1) ∗ (arg3.view.loc (c : Thread nD τ) ↦[arg3.view.set]{fullShare} arg3.view.rep B1) ∗ (arg4.view.loc (c : Thread nD τ) ↦[arg4.view.set]{fullShare} arg4.view.rep W2) ∗ (arg5.view.loc (c : Thread nD τ) ↦[arg5.view.set]{fullShare} arg5.view.rep B2) ∗ (arg6.view.loc (c : Thread nD τ) ↦[arg6.view.set]{fullShare} arg6.view.rep X6) ∗ (arg7.view.loc (c : Thread nD τ) ↦[arg7.view.set]{fullShare} arg7.view.rep X7) ∗ (arg8.view.loc (c : Thread nD τ) ↦[arg8.view.set]{fullShare} arg8.view.rep X8) ∗ (arg9.view.loc (c : Thread nD τ) ↦[arg9.view.set]{fullShare} arg9.view.rep X9) ∗ (arg10.view.loc (c : Thread nD τ) ↦[arg10.view.set]{fullShare} arg10.view.rep X10) ∗ (arg11.view.loc (c : Thread nD τ) ↦[arg11.view.set]{fullShare} arg11.view.rep X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} arg14.view.rep s.x14) ∗ (arg15.view.loc (c : Thread nD τ) ↦[arg15.view.set]{fullShare} arg15.view.rep s.x15) ∗ (arg16.view.loc (c : Thread nD τ) ↦[arg16.view.set]{fullShare} arg16.view.rep s.x16) ∗ (arg17.view.loc (c : Thread nD τ) ↦[arg17.view.set]{fullShare} arg17.view.rep s.x17) ∗ (arg18.view.loc (c : Thread nD τ) ↦[arg18.view.set]{fullShare} arg18.view.rep s.x18) ∗ (arg19.view.loc (c : Thread nD τ) ↦[arg19.view.set]{fullShare} arg19.view.rep s.x19) ∗ (arg20.view.loc (c : Thread nD τ) ↦[arg20.view.set]{fullShare} arg20.view.rep s.x20))
      ⊢ (wp frame (wpE (defs₀ (F := F)) 𝒱₀ (c : Thread nD τ) none) Set.univ (cc0__net_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => iprop((arg1.view.loc (c : Thread nD τ) ↦[arg1.view.set]{fullShare} arg1.view.rep X1) ∗ (arg2.view.loc (c : Thread nD τ) ↦[arg2.view.set]{fullShare} arg2.view.rep W1) ∗ (arg3.view.loc (c : Thread nD τ) ↦[arg3.view.set]{fullShare} arg3.view.rep B1) ∗ (arg4.view.loc (c : Thread nD τ) ↦[arg4.view.set]{fullShare} arg4.view.rep W2) ∗ (arg5.view.loc (c : Thread nD τ) ↦[arg5.view.set]{fullShare} arg5.view.rep B2) ∗ (arg6.view.loc (c : Thread nD τ) ↦[arg6.view.set]{fullShare} arg6.view.rep X6) ∗ (arg7.view.loc (c : Thread nD τ) ↦[arg7.view.set]{fullShare} arg7.view.rep X7) ∗ (arg8.view.loc (c : Thread nD τ) ↦[arg8.view.set]{fullShare} arg8.view.rep X8) ∗ (arg9.view.loc (c : Thread nD τ) ↦[arg9.view.set]{fullShare} arg9.view.rep X9) ∗ (arg10.view.loc (c : Thread nD τ) ↦[arg10.view.set]{fullShare} arg10.view.rep X10) ∗ (arg11.view.loc (c : Thread nD τ) ↦[arg11.view.set]{fullShare} arg11.view.rep X11) ∗ (arg12.view.loc (c : Thread nD τ) ↦[arg12.view.set]{fullShare} arg12.view.rep (outRows X1 W1 B1 W2 B2)) ∗ (arg13.view.loc (c : Thread nD τ) ↦[arg13.view.set]{fullShare} arg13.view.rep (outHead X1 W1 B1 W2 B2 X6 X7 X8 X9 X10 X11)) ∗ (∃ x, (arg14.view.loc (c : Thread nD τ) ↦[arg14.view.set]{fullShare} arg14.view.rep x)) ∗ (∃ x, (arg15.view.loc (c : Thread nD τ) ↦[arg15.view.set]{fullShare} arg15.view.rep x)) ∗ (∃ x, (arg16.view.loc (c : Thread nD τ) ↦[arg16.view.set]{fullShare} arg16.view.rep x)) ∗ (∃ x, (arg17.view.loc (c : Thread nD τ) ↦[arg17.view.set]{fullShare} arg17.view.rep x)) ∗ (∃ x, (arg18.view.loc (c : Thread nD τ) ↦[arg18.view.set]{fullShare} arg18.view.rep x)) ∗ (∃ x, (arg19.view.loc (c : Thread nD τ) ↦[arg19.view.set]{fullShare} arg19.view.rep x)) ∗ (∃ x, (arg20.view.loc (c : Thread nD τ) ↦[arg20.view.set]{fullShare} arg20.view.rep x)))) : sProp 𝕄) := by
  have hr : (blocks W1 B1 W2 B2 s (Scf.trips k0_t1_loop.lb k0_t1_loop.ub k0_t1_loop.st)).x12 = outRows X1 W1 B1 W2 B2 := by
    rw [blocks_rows, hs]; rfl
  rw [cc0__net_kernel_eq_skeleton]
  unfold cc0__net_kernel_skel
  rw [k0_part5_eq_skeleton]
  unfold k0_part5_skel
  iintro ⟨H1, H2, H3, H4, H5, H6, H7, H8, H9, H10, H11, H12, H13, H14, H15, H16, H17, H18, H19, H20⟩
  sl_exec
  rw [View.readAt_rep_full arg1.view, ← hs]
  ihave H12' := (own_full c arg12 f12 inb_S1x2560x128_S1x2560x128_0_0_0 s.x12 []) $$ H12
  rw [bind_assoc]
  sl_exec
  rw [View.readAt_rep_full arg12.view, View.readAt_rep_full arg6.view, View.readAt_rep_full arg7.view, View.readAt_rep_full arg8.view, View.readAt_rep_full arg9.view, View.readAt_rep_full arg10.view, View.readAt_rep_full arg11.view]
  rw [hr]
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12']; · iexact H12'
  isplitl [H13]; · iapply (own_full c arg13 f13 inb_S1x2560x8_S1x2560x8_0_0_0 (outHead X1 W1 B1 W2 B2 X6 X7 X8 X9 X10 X11) []); iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  iexists _; iexact H20

end Cert.Proof.KernelIdeal
-- ==== Proof.Ideal.Launch.lean ====
/- The launch: what every grid point leaves in its staging buffers, and the run of the whole program. -/
module

public import proofs.«01_k».proof.Proof.Ideal.Run
public import proofs.«01_k».proof.Proof.Gen.KernelIdeal.Frame
public import Idealize.ShloMosaic.Lib.Tactic
public import Idealize.ShloMosaic.Lib.Pipeline.Kit

@[expose] public section

set_option maxRecDepth 8192
set_option maxHeartbeats 400000

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ
local notation "𝒱₀" => Variants.none

/-- Owned at `X`: its buffer at the representative of `X`; -/
theorem rep_of_owns {s : Shape} {e : EltTy} (c : Dev nD) (M : Memref sig .tc .vmem s e) (X : s.Idx → Elt F e) :
    (owns (c : Thread nD τ) M fullShare X : sProp 𝕄) ⊢ M.view.loc (c : Thread nD τ) ↦[M.view.set]{fullShare} M.view.rep X := by
  unfold owns
  iintro ⟨%f, %hf, H⟩
  iapply (pointsTo_rep_of_read (c : Thread nD τ) M f fullShare X hf)
  iexact H

/-- and back. -/
theorem owns_of_rep {s : Shape} {e : EltTy} (c : Dev nD) (M : Memref sig .tc .vmem s e) (X : s.Idx → Elt F e) :
    (M.view.loc (c : Thread nD τ) ↦[M.view.set]{fullShare} M.view.rep X : sProp 𝕄) ⊢ owns (c : Thread nD τ) M fullShare X := by
  unfold owns
  iintro H
  iexists _
  isplitr
  swap
  · iexact H
  ipureintro
  exact View.read_rep _ _

/-- Owned at anything: its buffer at something. -/
theorem some_of_owns {s : Shape} {e : EltTy} (c : Dev nD) (M : Memref sig .tc .vmem s e) (X : s.Idx → Elt F e) :
    (owns (c : Thread nD τ) M fullShare X : sProp 𝕄) ⊢ iprop(∃ g, M.view.loc (c : Thread nD τ) ↦[M.view.set]{fullShare} g) := by
  unfold owns
  iintro ⟨%f, -, H⟩
  iexists f
  iexact H

/-- A scratch buffer at `f`: its whole view at the representative of `f`; -/
theorem rep_of_whole (c : Dev nD) (r : Ref sig .tc) (f : r.ty.Contents (Elt F)) :
    (((c : Thread nD τ).loc r) ↦{fullShare} f : sProp 𝕄)
      ⊢ (Memref.whole r).view.loc (c : Thread nD τ) ↦[(Memref.whole r).view.set]{fullShare} (Memref.whole r).view.rep f := by
  rw [← owns_whole (c : Thread nD τ) r fullShare f]
  unfold owns
  iintro ⟨%g, %hg, H⟩
  iapply (pointsTo_rep_of_read (c : Thread nD τ) (Memref.whole r) g fullShare f hg)
  iexact H

/-- and back. -/
theorem whole_of_rep (c : Dev nD) (r : Ref sig .tc) (f : r.ty.Contents (Elt F)) :
    ((Memref.whole r).view.loc (c : Thread nD τ) ↦[(Memref.whole r).view.set]{fullShare} (Memref.whole r).view.rep f : sProp 𝕄)
      ⊢ iprop(∃ g : Buf (Elt F) ((c : Thread nD τ).loc r), ((c : Thread nD τ).loc r) ↦{fullShare} g) := by
  iintro H
  iexists f
  rw [← owns_whole (c : Thread nD τ) r fullShare f]
  unfold owns
  iexists _
  isplitr
  swap
  · iexact H
  ipureintro
  exact View.read_rep _ _

variable (m : (ℓ : Loc nD τ sig) → Buf (Elt F) ℓ) (ρ : Dev nD → PrngReg)

/-- The rows grid point `t` leaves, from the blocks it read; -/
def outR (c : Dev nD) (t : Fin cfg0.N) : Vec F S1x2560x128 .f32 := outRows (iblk m c 0 t) (iblk m c 1 t) (iblk m c 2 t) (iblk m c 3 t) (iblk m c 4 t)

/-- the head's results it leaves. -/
def outH (c : Dev nD) (t : Fin cfg0.N) : Vec F S1x2560x8 .f32 := outHead (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- What each window's staging buffer holds after point `t`. -/
def afterW (c : Dev nD) : (w : Fin cfg0.W) → (t : Fin cfg0.N) → (cfg0.win w).block.Idx → Elt F (cfg0.win w).elt
  | ⟨0, _⟩ => fun t => iblk m c 0 t
  | ⟨1, _⟩ => fun t => iblk m c 1 t
  | ⟨2, _⟩ => fun t => iblk m c 2 t
  | ⟨3, _⟩ => fun t => iblk m c 3 t
  | ⟨4, _⟩ => fun t => iblk m c 4 t
  | ⟨5, _⟩ => fun t => iblk m c 5 t
  | ⟨6, _⟩ => fun t => iblk m c 6 t
  | ⟨7, _⟩ => fun t => iblk m c 7 t
  | ⟨8, _⟩ => fun t => iblk m c 8 t
  | ⟨9, _⟩ => fun t => iblk m c 9 t
  | ⟨10, _⟩ => fun t => iblk m c 10 t
  | ⟨11, _⟩ => fun t => outR m c t
  | ⟨12, _⟩ => fun t => outH m c t
  | ⟨k + 13, h⟩ => absurd h (Nat.not_lt.2 (Nat.le_add_left 13 k))

/-- The arrays at their entry contents, the staging buffers after a point, the scratch at anything, nothing owed. -/
def dats (_ : Fin 1) (c : Dev nD) : Dat τ (Elt F) Unit ℕ (UR sig nD τ) ℕ cfg0 c where
  A w := V m c (Pipeline.arrRef spec0 w)
  after w t := afterW m c w t
  Φ _ := Pipeline.ΦA spec0 c
  q _ := fullShare
  owed _ := 0

/-- Each window's array starts as the launch finds it. -/
theorem dats_A (c : Dev nD) (w : Fin cfg0.W) : (dats m 0 c).A w = V m c (Pipeline.arrRef spec0 w) := by dsimp only [dats]

/-- What is held between the steps is that the scratch buffers are owned, at whatever they hold. -/
theorem dats_Φ (c : Dev nD) (t : Fin (cfg0.N + 1)) : (dats m 0 c).Φ t = Pipeline.ΦA spec0 c := by dsimp only [dats]

/-- No step owes a semaphore anything more than the one before it. -/
theorem dats_owes (c : Dev nD) (t : Fin cfg0.N) : (dats m 0 c).owesAt () t.succ = (dats m 0 c).owesAt () t.castSucc := by
  unfold Pipeline.Dat.owesAt Pipeline.Dat.bound; dsimp only [dats]

/-- Every grid point's body, run on the blocks it is handed. -/
theorem body_obligation (c : Dev nD) : BodyObligation (dats m 0 c) (defs₀ (F := F)) 𝒱₀ () Set.univ := fun t => by
  have e0 := before0_0_of m (dats m 0 c) (dats_A m c 0) (fun _ => by dsimp only [dats, afterW]) t
  have e1 := before0_1_of m (dats m 0 c) (dats_A m c 1) (fun _ => by dsimp only [dats, afterW]) t
  have e2 := before0_2_of m (dats m 0 c) (dats_A m c 2) (fun _ => by dsimp only [dats, afterW]) t
  have e3 := before0_3_of m (dats m 0 c) (dats_A m c 3) (fun _ => by dsimp only [dats, afterW]) t
  have e4 := before0_4_of m (dats m 0 c) (dats_A m c 4) (fun _ => by dsimp only [dats, afterW]) t
  have e5 := before0_5_of m (dats m 0 c) (dats_A m c 5) (fun _ => by dsimp only [dats, afterW]) t
  have e6 := before0_6_of m (dats m 0 c) (dats_A m c 6) (fun _ => by dsimp only [dats, afterW]) t
  have e7 := before0_7_of m (dats m 0 c) (dats_A m c 7) (fun _ => by dsimp only [dats, afterW]) t
  have e8 := before0_8_of m (dats m 0 c) (dats_A m c 8) (fun _ => by dsimp only [dats, afterW]) t
  have e9 := before0_9_of m (dats m 0 c) (dats_A m c 9) (fun _ => by dsimp only [dats, afterW]) t
  have e10 := before0_10_of m (dats m 0 c) (dats_A m c 10) (fun _ => by dsimp only [dats, afterW]) t
  rw [bigSep_W0, bigSep_W0]
  rw [dats_Φ m c t.castSucc, dats_Φ m c t.succ, dats_owes m c t]
  unfold Pipeline.ΦA
  rw [scopedRest0_eq]
  show _ ⊢ wp frame (wpE (defs₀ (F := F)) 𝒱₀ (c : Thread nD τ) none) Set.univ (bodyAt0 t) _
  simp only [e0, e1, e2, e3, e4, e5, e6, e7, e8, e9, e10]
  iintro ⟨⟨⟨⟨%f0, S0⟩, ⟨%f1, S1⟩, ⟨%f2, S2⟩, ⟨%f3, S3⟩, ⟨%f4, S4⟩, ⟨%f5, S5⟩, ⟨%f6, S6⟩⟩, HP⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave G0 := (rep_of_owns c _ (iblk m c 0 t)) $$ H0
  ihave G1 := (rep_of_owns c _ (iblk m c 1 t)) $$ H1
  ihave G2 := (rep_of_owns c _ (iblk m c 2 t)) $$ H2
  ihave G3 := (rep_of_owns c _ (iblk m c 3 t)) $$ H3
  ihave G4 := (rep_of_owns c _ (iblk m c 4 t)) $$ H4
  ihave G5 := (rep_of_owns c _ (iblk m c 5 t)) $$ H5
  ihave G6 := (rep_of_owns c _ (iblk m c 6 t)) $$ H6
  ihave G7 := (rep_of_owns c _ (iblk m c 7 t)) $$ H7
  ihave G8 := (rep_of_owns c _ (iblk m c 8 t)) $$ H8
  ihave G9 := (rep_of_owns c _ (iblk m c 9 t)) $$ H9
  ihave G10 := (rep_of_owns c _ (iblk m c 10 t)) $$ H10
  ihave R0 := (rep_of_whole c cc0_scratch0 f0) $$ S0
  ihave R1 := (rep_of_whole c cc0_scratch1 f1) $$ S1
  ihave R2 := (rep_of_whole c cc0_scratch2 f2) $$ S2
  ihave R3 := (rep_of_whole c cc0_scratch3 f3) $$ S3
  ihave R4 := (rep_of_whole c cc0_scratch4 f4) $$ S4
  ihave R5 := (rep_of_whole c cc0_scratch5 f5) $$ S5
  ihave R6 := (rep_of_whole c cc0_scratch6 f6) $$ S6
  ihave H11' := (some_of_owns c _ _) $$ H11
  icases H11' with ⟨%g11, G11⟩
  ihave H12' := (some_of_owns c _ _) $$ H12
  icases H12' with ⟨%g12, G12⟩
  ihave Hrun := (kernel_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) ⟨k0_pay49 (iblk m c 0 t), f0, f1, f2, f3, f4, f5, f6⟩ rfl g11 g12) $$ [G0 G1 G2 G3 G4 G5 G6 G7 G8 G9 G10 G11 G12 R0 R1 R2 R3 R4 R5 R6]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [R0]; · iexact R0
    isplitl [R1]; · iexact R1
    isplitl [R2]; · iexact R2
    isplitl [R3]; · iexact R3
    isplitl [R4]; · iexact R4
    isplitl [R5]; · iexact R5
    iexact R6
  iapply (wp_wand_r _ _ _)
  isplitl [Hrun]; · iexact Hrun
  iintro %a ⟨K0, K1, K2, K3, K4, K5, K6, K7, K8, K9, K10, K11, K12, ⟨%x0, T0⟩, ⟨%x1, T1⟩, ⟨%x2, T2⟩, ⟨%x3, T3⟩, ⟨%x4, T4⟩, ⟨%x5, T5⟩, ⟨%x6, T6⟩⟩
  isplitl [HP T0 T1 T2 T3 T4 T5 T6]
  · isplitr [HP]
    · isplitl [T0]; · iapply (whole_of_rep c cc0_scratch0 x0); iexact T0
      isplitl [T1]; · iapply (whole_of_rep c cc0_scratch1 x1); iexact T1
      isplitl [T2]; · iapply (whole_of_rep c cc0_scratch2 x2); iexact T2
      isplitl [T3]; · iapply (whole_of_rep c cc0_scratch3 x3); iexact T3
      isplitl [T4]; · iapply (whole_of_rep c cc0_scratch4 x4); iexact T4
      isplitl [T5]; · iapply (whole_of_rep c cc0_scratch5 x5); iexact T5
      iapply (whole_of_rep c cc0_scratch6 x6); iexact T6
    · iexact HP
  isplitl [HO]; · iexact HO
  isplitl [K0]; · iapply (owns_of_rep c _ (iblk m c 0 t)); iexact K0
  isplitl [K1]; · iapply (owns_of_rep c _ (iblk m c 1 t)); iexact K1
  isplitl [K2]; · iapply (owns_of_rep c _ (iblk m c 2 t)); iexact K2
  isplitl [K3]; · iapply (owns_of_rep c _ (iblk m c 3 t)); iexact K3
  isplitl [K4]; · iapply (owns_of_rep c _ (iblk m c 4 t)); iexact K4
  isplitl [K5]; · iapply (owns_of_rep c _ (iblk m c 5 t)); iexact K5
  isplitl [K6]; · iapply (owns_of_rep c _ (iblk m c 6 t)); iexact K6
  isplitl [K7]; · iapply (owns_of_rep c _ (iblk m c 7 t)); iexact K7
  isplitl [K8]; · iapply (owns_of_rep c _ (iblk m c 8 t)); iexact K8
  isplitl [K9]; · iapply (owns_of_rep c _ (iblk m c 9 t)); iexact K9
  isplitl [K10]; · iapply (owns_of_rep c _ (iblk m c 10 t)); iexact K10
  isplitl [K11]; · iapply (owns_of_rep c _ (outR m c t)); iexact K11
  iapply (owns_of_rep c _ (outH m c t)); iexact K12

set_option backward.isDefEq.respectTransparency.types false in
/-- The run: every window's array at what the pipeline leaves, every other buffer at what the lines after it leave, the counters at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) 0 launch0 defs₀ 𝒱₀ m ρ main (fun c => (body_obligation m c).loose)
    (fun c => (dats m 0 c).share_full fun _ => rfl) (fun _ _ => rfl) (V0 m) [hostOps1] sfx_sub sfx_fresh sfx_keeps (hmain m 𝒱₀)
    (fun c w => dats_A m c w) (fun c t => dats_Φ m c t) _ (fun _ h => h)

end Cert.Proof.KernelIdeal
-- ==== Proof.Ideal.Quiet.lean ====
/- The frame with quiet counters: arguments unchanged and every counter zero at the end. -/
module

public import proofs.«01_k».proof.Proof.Ideal.Launch
public import proofs.«01_k».proof.Proof.Gen.KernelIdeal.Frame
public import Idealize.ShloMosaic.Lib.Tactic
public import Idealize.ShloMosaic.Lib.Pipeline.Kit

@[expose] public section

set_option maxRecDepth 8192
set_option maxHeartbeats 400000

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

/-- Every run ends with the arguments as they were and with every counter at zero. -/
theorem quiet (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r hr => by
    obtain ⟨h, hs⟩ := hr
    refine ⟨fun c => ?_, hs⟩
    exact ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((dats_A m c 1).trans (V_main_arg2 m c))),
      ((h c).1 2).trans (((dats m 0 c).arrAt_in 2 rfl _).trans ((dats_A m c 2).trans (V_main_arg3 m c))),
      ((h c).1 3).trans (((dats m 0 c).arrAt_in 3 rfl _).trans ((dats_A m c 3).trans (V_main_arg4 m c))),
      ((h c).1 4).trans (((dats m 0 c).arrAt_in 4 rfl _).trans ((dats_A m c 4).trans (V_main_arg5 m c))),
      ((h c).1 5).trans (((dats m 0 c).arrAt_in 5 rfl _).trans ((dats_A m c 5).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run m ρ)
-- ==== Proof.Val.Math.lean ====
/- The mathematics both programs compute, over the reals, and the selection of the eight nearest. -/
module

public import Idealize.ShloMosaic.PureOps.Float
public import Idealize.ShloMosaic.PureOps.Ideal
public import Idealize.ShloMosaic.Lib.SortNet.Extract
public import Mathlib.Data.Prod.Lex
public import Mathlib.Data.EReal.Operations

@[expose] public section

set_option maxHeartbeats 400000

noncomputable section

namespace Cert.Proof.Val

open Idealize.ShloMosaic

/-- Candidate `a` comes before candidate `b`: the smaller key, the smaller number where the keys are equal. -/
def before (key : ℕ → ℝ) (a b : ℕ) : Prop := toLex (key a, a) < toLex (key b, b)

/-- To come before: a lesser key, or the same key and a lesser number. -/
theorem before_iff {key : ℕ → ℝ} {a b : ℕ} : before key a b ↔ key a < key b ∨ (key a = key b ∧ a < b) := by
  unfold before; exact Prod.Lex.toLex_lt_toLex

/-- To come before is transitive. -/
theorem before_trans {key : ℕ → ℝ} {a b c : ℕ} (h : before key a b) (h' : before key b c) : before key a c := lt_trans h h'

/-- Of two numbers at most one comes before the other. -/
theorem before_asymm {key : ℕ → ℝ} {a b : ℕ} (h : before key a b) (h' : before key b a) : False := lt_asymm h h'

/-- `T` holds the eight first of `P`. -/
def IsTop (key : ℕ → ℝ) (P T : Finset ℕ) : Prop := T ⊆ P ∧ T.card = 8 ∧ ∀ a ∈ T, ∀ b ∈ P, b ∉ T → before key a b

/-- The eight first are determined. -/
theorem IsTop.unique {key : ℕ → ℝ} {P T T' : Finset ℕ} (h : IsTop key P T) (h' : IsTop key P T') : T = T' := by
  by_contra hne
  have h1 : ∃ a ∈ T, a ∉ T' := by
    by_contra hc
    push Not at hc
    exact hne (Finset.eq_of_subset_of_card_le hc (by rw [h.2.1, h'.2.1]))
  have h2 : ∃ b ∈ T', b ∉ T := by
    by_contra hc
    push Not at hc
    exact hne (Finset.eq_of_subset_of_card_le hc (by rw [h.2.1, h'.2.1])).symm
  obtain ⟨a, ha, ha'⟩ := h1
  obtain ⟨b, hb, hb'⟩ := h2
  exact before_asymm (h.2.2 a ha b (h'.1 hb) hb') (h'.2.2 b hb a (h.1 ha) ha')

/-- The first eight of the first eight of `A` and of `B` are the first eight of both. -/
theorem IsTop.merge {key : ℕ → ℝ} {A B T T' : Finset ℕ} (h : IsTop key A T) (h' : IsTop key (T ∪ B) T') : IsTop key (A ∪ B) T' := by
  refine ⟨h'.1.trans (Finset.union_subset_union_left h.1), h'.2.1, fun a ha b hb hb' => ?_⟩
  by_cases hbT : b ∈ T ∪ B
  · exact h'.2.2 a ha b hbT hb'
  have hbT1 : b ∉ T := fun hx => hbT (Finset.mem_union_left _ hx)
  have hbA : b ∈ A := (Finset.mem_union.mp hb).resolve_right fun hx => hbT (Finset.mem_union_right _ hx)
  by_cases haT : a ∈ T
  · exact h.2.2 a haT b hbA hbT1
  have : ∃ t ∈ T, t ∉ T' := by
    by_contra hc
    push Not at hc
    have := Finset.eq_of_subset_of_card_le hc (by rw [h.2.1, h'.2.1])
    exact haT (this ▸ ha)
  obtain ⟨t, ht, ht'⟩ := this
  exact before_trans (h'.2.2 a ha t (Finset.mem_union_left _ ht) ht') (h.2.2 t ht b hbA hbT1)

/-- The eight nearest among the 2500 points. -/
def near (key : ℕ → ℝ) : Finset ℕ :=
  open Classical in if h : ∃ T, IsTop key (Finset.range 2500) T then h.choose else ∅

/-- The eight nearest are the only eight numbers that come before all the others. -/
theorem near_eq {key : ℕ → ℝ} {T : Finset ℕ} (h : IsTop key (Finset.range 2500) T) : near key = T := by
  have hx : ∃ T, IsTop key (Finset.range 2500) T := ⟨T, h⟩
  unfold near
  rw [dif_pos hx]
  exact hx.choose_spec.unique h

/-- What is added to a point's distance from itself. -/
def pen : ℝ := (Ideal.ofBits .f32 0x501502F9#32).toReal

/-- The rows of a batch, the points beyond the last being of no account. -/
abbrev Rows := ℕ → Fin 128 → ℝ

/-- The squared distance of point `j` from point `i`, less the square of `i`. -/
def dist (h : Rows) (i j : ℕ) : ℝ :=
  (∑ d, h j d * h j d) - ((∑ d, h i d * h j d) + ∑ d, h i d * h j d) + if j = i then pen else 0

/-- The neighbours of point `i`. -/
def nbrs (h : Rows) (i : ℕ) : Finset ℕ := near (dist h i)

/-- The rows times a matrix. -/
def lin (h : Rows) (W : Fin 128 → Fin 128 → ℝ) : Rows := fun i d => ∑ k, h i k * W k d

/-- One graph convolution over the graph `N`: every point has eight neighbours and itself. -/
def gcn (h : Rows) (W : Fin 128 → Fin 128 → ℝ) (b : Fin 128 → ℝ) (N : ℕ → Finset ℕ) : Rows :=
  fun i d => (∑ j ∈ N i, lin h W j d * 9⁻¹) + lin h W i d * 9⁻¹ + b d

/-- One block. -/
def block (h : Rows) (W₁ : Fin 128 → Fin 128 → ℝ) (b₁ : Fin 128 → ℝ) (W₂ : Fin 128 → Fin 128 → ℝ) (b₂ : Fin 128 → ℝ) : Rows :=
  fun i d => gcn (fun i d => max (gcn h W₁ b₁ (nbrs h) i d) 0) W₂ b₂ (nbrs h) i d + h i d

/-! ## One row of the kernel's selection -/

/-- The smallest of the chunk and the list; -/
def rmin (c : Fin 512 → EReal) (v : Fin 8 → EReal) : EReal :=
  min (Finset.univ.fold min ⊤ c) (Finset.univ.fold min ⊤ v)

/-- its number. -/
def rarg (id : Fin 512 → BitVec 32) (ids : Fin 8 → BitVec 32) (c : Fin 512 → EReal) (v : Fin 8 → EReal) : BitVec 32 :=
  IntOp.minsi (Finset.univ.fold IntOp.minsi 2147483647#32 fun x => if c x = rmin c v then id x else 2560#32)
    (Finset.univ.fold IntOp.minsi 2147483647#32 fun s => if v s = rmin c v then ids s else 2560#32)

/-- A chunk holds the keys of the candidates `B`, at the numbers from `off` on. -/
def ChunkHas (key : ℕ → ℝ) (off : ℕ) (B : Finset ℕ) (c : Fin 512 → EReal) : Prop :=
  ∀ x, (off + x.val ∈ B → c x = key (off + x.val)) ∧ (off + x.val ∉ B → c x = ⊤)

/-- A list holds the keys of the candidates `L`, and nothing else of account. -/
def ListHas (key : ℕ → ℝ) (L : Finset ℕ) (ids : Fin 8 → BitVec 32) (v : Fin 8 → EReal) : Prop :=
  (∀ s, v s = ⊤ ∨ ∃ o ∈ L, ids s = BitVec.ofNat 32 o ∧ v s = key o) ∧ ∀ o ∈ L, ∃ s, ids s = BitVec.ofNat 32 o ∧ v s = key o

/-- A small number's word, read as a signed number, is that number. -/
theorem toInt_ofNat {n : ℕ} (h : n < 2 ^ 31) : (BitVec.ofNat 32 n).toInt = n := by
  rw [BitVec.toInt_eq_toNat_cond, BitVec.toNat_ofNat, Nat.mod_eq_of_lt (by omega), if_pos (by omega)]

/-- Small numbers with the same word are the same. -/
theorem ofNat_inj {a b : ℕ} (ha : a < 2 ^ 31) (hb : b < 2 ^ 31) : BitVec.ofNat 32 a = BitVec.ofNat 32 b ↔ a = b := by
  refine ⟨fun h => ?_, fun h => h ▸ rfl⟩
  have := congrArg BitVec.toInt h
  rw [toInt_ofNat ha, toInt_ofNat hb] at this
  omega

/-- The least of some words, read as a signed number, is the least of the numbers read. -/
theorem fold_minsi_toInt {n : ℕ} (f : Fin n → BitVec 32) (b : BitVec 32) :
    (Finset.univ.fold IntOp.minsi b f).toInt = Finset.univ.fold min b.toInt fun x => (f x).toInt :=
  (Finset.fold_hom (m := BitVec.toInt) (fun x y => SortNet.toInt_minsi x y)).symm

section Round
variable {key : ℕ → ℝ} {off : ℕ} {B L : Finset ℕ} {c : Fin 512 → EReal} {v : Fin 8 → EReal} {ids : Fin 8 → BitVec 32}

/-- With a candidate left, the smallest is the key of the first candidate, and its number is that candidate. -/
theorem round_first (hoff : off + 512 ≤ 2560) (hB : ∀ o ∈ B, o < 2500 ∧ off ≤ o ∧ o < off + 512) (hL : ∀ o ∈ L, o < 2500)
    (hc : ChunkHas key off B c) (hv : ListHas key L ids v) {o : ℕ} (ho : o ∈ L ∪ B) (hfirst : ∀ p ∈ L ∪ B, p ≠ o → before key o p) :
    rmin c v = key o ∧ rarg (fun x => BitVec.ofNat 32 (off + x.val)) ids c v = BitVec.ofNat 32 o := by
  have hP : ∀ p ∈ L ∪ B, p < 2500 := fun p hp => (Finset.mem_union.mp hp).elim (hL p) (fun h => (hB p h).1)
  have hle : ∀ p ∈ L ∪ B, key o ≤ key p := fun p hp => by
    by_cases hpo : p = o
    · rw [hpo]
    · rcases before_iff.mp (hfirst p hp hpo) with h | h
      · exact h.le
      · exact h.1.le
  have hcle : ∀ x, (key o : EReal) ≤ c x := fun x => by
    by_cases hx : off + x.val ∈ B
    · rw [(hc x).1 hx]; exact EReal.coe_le_coe_iff.mpr (hle _ (Finset.mem_union_right _ hx))
    · rw [(hc x).2 hx]; exact le_top
  have hvle : ∀ s, (key o : EReal) ≤ v s := fun s => by
    rcases hv.1 s with h | ⟨p, hp, -, h⟩
    · rw [h]; exact le_top
    · rw [h]; exact EReal.coe_le_coe_iff.mpr (hle _ (Finset.mem_union_left _ hp))
  -- where the first candidate lies
  have hat : (∃ x : Fin 512, off + x.val = o ∧ c x = key o) ∨ ∃ s, ids s = BitVec.ofNat 32 o ∧ v s = key o := by
    rcases Finset.mem_union.mp ho with h | h
    · exact .inr (hv.2 o h)
    · obtain ⟨-, h1, h2⟩ := hB o h
      refine .inl ⟨⟨o - off, by omega⟩, by simp only; omega, ?_⟩
      have := (hc ⟨o - off, by omega⟩).1 (by simp only; rwa [Nat.add_sub_cancel' h1])
      rw [this]; simp only; rw [Nat.add_sub_cancel' h1]
  have hm : rmin c v = key o := by
    apply le_antisymm
    · unfold rmin
      rcases hat with ⟨x, -, hx⟩ | ⟨s, -, hs⟩
      · exact (min_le_left _ _).trans (Finset.fold_min_le _ |>.mpr (.inr ⟨x, Finset.mem_univ _, hx.le⟩))
      · exact (min_le_right _ _).trans (Finset.fold_min_le _ |>.mpr (.inr ⟨s, Finset.mem_univ _, hs.le⟩))
    · exact le_min ((Finset.le_fold_min _).mpr ⟨le_top, fun x _ => hcle x⟩) ((Finset.le_fold_min _).mpr ⟨le_top, fun x _ => hvle x⟩)
  refine ⟨hm, BitVec.eq_of_toInt_eq ?_⟩
  have ho' : o < 2500 := hP o ho
  rw [toInt_ofNat (by omega)]
  unfold rarg
  rw [SortNet.toInt_minsi, fold_minsi_toInt, fold_minsi_toInt, hm]
  have hcand : ∀ p ∈ L ∪ B, (key p : EReal) = key o → (o : ℤ) ≤ p := fun p hp hk => by
    by_cases hpo : p = o
    · rw [hpo]
    · have hk' : key p = key o := by exact_mod_cast hk
      rcases before_iff.mp (hfirst p hp hpo) with h | h
      · exact absurd h (by rw [hk']; exact lt_irrefl _)
      · exact_mod_cast h.2.le
  have h2560 : (2560#32 : BitVec 32).toInt = 2560 := by decide
  have hbig : (2147483647#32 : BitVec 32).toInt = 2147483647 := by decide
  apply le_antisymm
  · rcases hat with ⟨x, hx, hx'⟩ | ⟨s, hs, hs'⟩
    · refine (min_le_left _ _).trans ((Finset.fold_min_le _).mpr (.inr ⟨x, Finset.mem_univ _, ?_⟩))
      dsimp only; rw [if_pos hx', hx, toInt_ofNat (by omega)]
    · refine (min_le_right _ _).trans ((Finset.fold_min_le _).mpr (.inr ⟨s, Finset.mem_univ _, ?_⟩))
      rw [if_pos hs', hs, toInt_ofNat (by omega)]
  · refine le_min ((Finset.le_fold_min _).mpr ⟨by rw [hbig]; omega, fun x _ => ?_⟩) ((Finset.le_fold_min _).mpr ⟨by rw [hbig]; omega, fun s _ => ?_⟩)
    · split
      · rename_i h
        rw [toInt_ofNat (by have := x.isLt; omega)]
        by_cases hx : off + x.val ∈ B
        · rw [(hc x).1 hx] at h
          exact hcand _ (Finset.mem_union_right _ hx) h
        · rw [(hc x).2 hx] at h
          exact absurd h.symm (EReal.coe_ne_top _)
      · rw [h2560]; omega
    · split
      · rename_i h
        rcases hv.1 s with h' | ⟨p, hp, hid, h'⟩
        · rw [h'] at h; exact absurd h.symm (EReal.coe_ne_top _)
        · rw [hid, toInt_ofNat (by have := hL p hp; omega)]
          rw [h'] at h
          exact hcand _ (Finset.mem_union_left _ hp) h
      · rw [h2560]; omega

/-- Masking a number takes that candidate away. -/
theorem chunk_mask (hoff : off + 512 ≤ 2560) (hc : ChunkHas key off B c) {o : ℕ} (ho : o < 2500) :
    ChunkHas key off (B.erase o) fun x => if BitVec.ofNat 32 (off + x.val) = BitVec.ofNat 32 o then ⊤ else c x := by
  intro x
  have hx := x.isLt
  have hiff : BitVec.ofNat 32 (off + x.val) = BitVec.ofNat 32 o ↔ off + x.val = o := ofNat_inj (by omega) (by omega)
  simp only [hiff]
  constructor
  · intro h
    rw [Finset.mem_erase] at h
    rw [if_neg h.1]; exact (hc x).1 h.2
  · intro h
    split
    · rfl
    · rename_i hne
      exact (hc x).2 fun hB => h (Finset.mem_erase.mpr ⟨hne, hB⟩)

/-- With a number put at infinity the list holds the set without that number. -/
theorem list_mask (hL : ∀ o ∈ L, o < 2500) (hv : ListHas key L ids v) {o : ℕ} (ho : o < 2500) :
    ListHas key (L.erase o) ids fun s => if ids s = BitVec.ofNat 32 o then ⊤ else v s := by
  constructor
  · intro s
    by_cases h : ids s = BitVec.ofNat 32 o
    · exact .inl (if_pos h)
    · simp only [if_neg h]
      rcases hv.1 s with h' | ⟨p, hp, hid, h'⟩
      · exact .inl h'
      · exact .inr ⟨p, Finset.mem_erase.mpr ⟨fun hpo => h (by rw [hid, hpo]), hp⟩, hid, h'⟩
  · intro p hp
    rw [Finset.mem_erase] at hp
    obtain ⟨s, hid, h'⟩ := hv.2 p hp.2
    refine ⟨s, hid, ?_⟩
    have : ids s ≠ BitVec.ofNat 32 o := by
      rw [hid]
      intro hx
      exact hp.1 ((ofNat_inj (by have := hL p hp.2; omega) (by omega)).mp hx)
    simp only [if_neg this]; exact h'

end Round

/-- The state of one row between two rounds. -/
structure Row where
  c : Fin 512 → EReal
  v : Fin 8 → EReal
  ov : Fin 8 → EReal
  oi : Fin 8 → BitVec 32

/-- One round on one row. -/
def Row.next (off : ℕ) (ids : Fin 8 → BitVec 32) (t : ℕ) (r : Row) : Row :=
  let j := rarg (fun x => BitVec.ofNat 32 (off + x.val)) ids r.c r.v
  { c := fun x => if BitVec.ofNat 32 (off + x.val) = j then ⊤ else r.c x
    v := fun s => if ids s = j then ⊤ else r.v s
    ov := fun s => if s.val = t then rmin r.c r.v else r.ov s
    oi := fun s => if s.val = t then j else r.oi s }

/-- After `t` rounds: `C` is chosen, and stands in the first `t` slots. -/
structure RowInv (key : ℕ → ℝ) (off : ℕ) (B L : Finset ℕ) (ids : Fin 8 → BitVec 32) (t : ℕ) (C : Finset ℕ) (r : Row) : Prop where
  card : C.card = t
  sub : C ⊆ L ∪ B
  first : ∀ a ∈ C, ∀ b ∈ L ∪ B, b ∉ C → before key a b
  chunk : ChunkHas key off (B \ C) r.c
  list : ListHas key (L \ C) ids r.v
  out : ∀ s : Fin 8, s.val < t → ∃ o ∈ C, r.oi s = BitVec.ofNat 32 o ∧ r.ov s = key o
  all : ∀ o ∈ C, ∃ s : Fin 8, s.val < t ∧ r.oi s = BitVec.ofNat 32 o ∧ r.ov s = key o

/-- One more selection keeps the invariant of a row's selection. -/
theorem RowInv.next {key : ℕ → ℝ} {off : ℕ} {B L : Finset ℕ} {ids : Fin 8 → BitVec 32} {t : ℕ} {C : Finset ℕ} {r : Row}
    (hoff : off + 512 ≤ 2560) (hB : ∀ o ∈ B, o < 2500 ∧ off ≤ o ∧ o < off + 512) (hL : ∀ o ∈ L, o < 2500)
    (ht : t < 8) (hcard : 8 ≤ (L ∪ B).card) (h : RowInv key off B L ids t C r) :
    ∃ C', RowInv key off B L ids (t + 1) C' (r.next off ids t) := by
  have hP : ∀ p ∈ L ∪ B, p < 2500 := fun p hp => (Finset.mem_union.mp hp).elim (hL p) (fun h => (hB p h).1)
  have hne : ((L ∪ B) \ C).Nonempty := by
    rw [← Finset.card_pos, Finset.card_sdiff_of_subset h.sub, h.card]
    omega
  obtain ⟨o, ho, hmin⟩ := Finset.exists_min_image _ (fun o => toLex (key o, o)) hne
  have hoP : o ∈ L ∪ B := (Finset.mem_sdiff.mp ho).1
  have hoC : o ∉ C := (Finset.mem_sdiff.mp ho).2
  have hfirst : ∀ p ∈ L ∪ B, p ∉ C → p ≠ o → before key o p := fun p hp hpC hpo =>
    lt_of_le_of_ne (hmin p (Finset.mem_sdiff.mpr ⟨hp, hpC⟩)) fun he => hpo ((Prod.ext_iff.mp (toLex_inj.mp he)).2).symm
  have hsd : (L \ C) ∪ (B \ C) = (L ∪ B) \ C := (Finset.union_sdiff_distrib L B C).symm
  obtain ⟨hm, hj⟩ := round_first (o := o) hoff (fun p hp => hB p (Finset.mem_sdiff.mp hp).1) (fun p hp => hL p (Finset.mem_sdiff.mp hp).1)
    h.chunk h.list (by rw [hsd]; exact ho) (fun p hp hpo => by
      rw [hsd] at hp
      exact hfirst p (Finset.mem_sdiff.mp hp).1 (Finset.mem_sdiff.mp hp).2 hpo)
  have hers : ∀ X : Finset ℕ, X \ insert o C = (X \ C).erase o := fun X => Finset.sdiff_insert X C o
  refine ⟨insert o C, ?_, ?_, ?_, ?_, ?_, ?_, ?_⟩
  · rw [Finset.card_insert_of_notMem hoC, h.card]
  · exact Finset.insert_subset hoP h.sub
  · intro a ha b hb hb'
    rw [Finset.mem_insert, not_or] at hb'
    rcases Finset.mem_insert.mp ha with rfl | ha
    · exact hfirst b hb hb'.2 hb'.1
    · exact h.first a ha b hb hb'.2
  · rw [hers]
    simp only [Row.next, hj]
    exact chunk_mask hoff h.chunk (hP o hoP)
  · rw [hers]
    simp only [Row.next, hj]
    exact list_mask (fun p hp => hL p (Finset.mem_sdiff.mp hp).1) h.list (hP o hoP)
  · intro s hs
    simp only [Row.next, hj, hm]
    by_cases hst : s.val = t
    · exact ⟨o, Finset.mem_insert_self _ _, if_pos hst, if_pos hst⟩
    · obtain ⟨p, hp, h1, h2⟩ := h.out s (by omega)
      exact ⟨p, Finset.mem_insert_of_mem hp, by rw [if_neg hst, h1], by rw [if_neg hst, h2]⟩
  · intro p hp
    simp only [Row.next, hj, hm]
    rcases Finset.mem_insert.mp hp with rfl | hp
    · exact ⟨⟨t, ht⟩, Nat.lt_succ_self t, if_pos rfl, if_pos rfl⟩
    · obtain ⟨s, hs, h1, h2⟩ := h.all p hp
      have hst : ¬ s.val = t := by omega
      exact ⟨s, by omega, by rw [if_neg hst, h1], by rw [if_neg hst, h2]⟩

/-- A full list: it holds eight candidates and nothing else. -/
def FullList (key : ℕ → ℝ) (T : Finset ℕ) (ids : Fin 8 → BitVec 32) (v : Fin 8 → EReal) : Prop :=
  (∀ s, ∃ o ∈ T, ids s = BitVec.ofNat 32 o ∧ v s = key o) ∧ ∀ o ∈ T, ∃ s, ids s = BitVec.ofNat 32 o ∧ v s = key o

/-- A full list holds the numbers of its set. -/
theorem FullList.listHas {key : ℕ → ℝ} {T : Finset ℕ} {ids : Fin 8 → BitVec 32} {v : Fin 8 → EReal} (h : FullList key T ids v) : ListHas key T ids v :=
  ⟨fun s => .inr (h.1 s), h.2⟩

/-- After the eighth round the slots hold the first eight of the list and the chunk. -/
theorem RowInv.full {key : ℕ → ℝ} {off : ℕ} {B L : Finset ℕ} {ids : Fin 8 → BitVec 32} {C : Finset ℕ} {r : Row}
    (h : RowInv key off B L ids 8 C r) : IsTop key (L ∪ B) C ∧ FullList key C r.oi r.ov :=
  ⟨⟨h.sub, h.card, h.first⟩, fun s => h.out s s.isLt, fun o ho => let ⟨s, _, h1⟩ := h.all o ho; ⟨s, h1⟩⟩

/-- A sum over the slots of a full list is a sum over its candidates. -/
theorem FullList.sum {key : ℕ → ℝ} {T : Finset ℕ} {ids : Fin 8 → BitVec 32} {v : Fin 8 → EReal} (h : FullList key T ids v) (hT : T.card = 8)
    (hlt : ∀ o ∈ T, o < 2500) (f : ℕ → ℝ) : ∑ s, f (ids s).toNat = ∑ o ∈ T, f o := by
  have htn : ∀ o ∈ T, (BitVec.ofNat 32 o).toNat = o := fun o ho => by
    rw [BitVec.toNat_ofNat]; have := hlt o ho; omega
  have hmaps : ∀ s, (ids s).toNat ∈ T := fun s => by
    obtain ⟨o, ho, h1, -⟩ := h.1 s; rw [h1, htn o ho]; exact ho
  have hsurj : T ⊆ Finset.univ.image fun s => (ids s).toNat := fun o ho => by
    obtain ⟨s, h1, -⟩ := h.2 o ho
    exact Finset.mem_image.mpr ⟨s, Finset.mem_univ _, by rw [h1, htn o ho]⟩
  have himg : (Finset.univ.image fun s => (ids s).toNat) = T :=
    (Finset.image_subset_iff.mpr fun s _ => hmaps s).antisymm hsurj
  have hinj : Set.InjOn (fun s => (ids s).toNat) (Finset.univ : Finset (Fin 8)) := by
    apply Finset.injOn_of_card_image_eq
    rw [himg, hT]; rfl
  rw [← himg, Finset.sum_image hinj]

end Cert.Proof.Val
-- ==== Proof.Val.Reals.lean ====
/- Real numbers among the extended ones. -/
module

public import proofs.«01_k».proof.Proof.Val.Math

@[expose] public section

noncomputable section

namespace Cert.Proof.Val

open Idealize.ShloMosaic

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals is a real. -/
theorem sum_mul_coe {ι : Type} [Fintype ι] {f g : ι → EReal} {f' g' : ι → ℝ} (hf : ∀ i, f i = f' i) (hg : ∀ i, g i = g' i) :
    ∑ i, f i * g i = ((∑ i, f' i * g' i : ℝ) : EReal) := by
  rw [coe_sum]
  exact Finset.sum_congr rfl fun i _ => by rw [hf, hg, EReal.coe_mul]

/-- What is added to a point's distance from itself is a real. -/
theorem pen_eq : Ideal.ofBits .f32 1343554297#32 = (pen : EReal) := by
  have h : ∃ x : ℝ, Ideal.ofBits .f32 1343554297#32 = (x : EReal) := by
    simp [Ideal.ofBits, Ideal.ieee, -EReal.coe_mul]
  obtain ⟨x, hx⟩ := h
  unfold pen
  rw [show (0x501502F9#32 : BitVec 32) = 1343554297#32 from rfl, hx, EReal.toReal_coe]

/-- The literal two is two. -/
theorem two_eq : Ideal.ofBits .f32 1073741824#32 = ((2 : ℝ) : EReal) := by
  simp [Ideal.ofBits, Ideal.ieee, -EReal.coe_mul]; try norm_num

/-- The greater of two reals, as an extended real. -/
theorem coe_max (a b : ℝ) : ((max a b : ℝ) : EReal) = max (a : EReal) b := by
  rcases le_total a b with h | h
  · rw [max_eq_right h, max_eq_right (EReal.coe_le_coe_iff.mpr h)]
  · rw [max_eq_left h, max_eq_left (EReal.coe_le_coe_iff.mpr h)]

end Cert.Proof.Val
-- ==== Proof.Val.Shared.lean ====
/- What both programs compute: the rows after the four blocks, and the offsets the head makes of a row. -/
module

public import proofs.«01_k».proof.Proof.Val.Reals

@[expose] public section

noncomputable section

namespace Cert.Proof.Val

open Idealize.ShloMosaic

/-- The rows of batch `b` as given, the points along the rows. -/
def startRows (x : Fin 4 → Fin 128 → Fin 2500 → ℝ) (b : Fin 4) : Rows := fun i d => if h : i < 2500 then x b d ⟨i, h⟩ else 0

/-- The rows that the blocks begin with are the features, transposed. -/
theorem startRows_at (x : Fin 4 → Fin 128 → Fin 2500 → ℝ) (b : Fin 4) (i : Fin 2500) (d : Fin 128) : startRows x b i.val d = x b d i := by
  unfold startRows
  rw [dif_pos i.isLt]

/-- One block at the `q`-th weights. -/
def blockAt (w₁ : Fin 4 → Fin 128 → Fin 128 → ℝ) (b₁ : Fin 4 → Fin 128 → ℝ) (w₂ : Fin 4 → Fin 128 → Fin 128 → ℝ) (b₂ : Fin 4 → Fin 128 → ℝ) (q : Fin 4) (h : Rows) : Rows :=
  block h (w₁ q) (b₁ q) (w₂ q) (b₂ q)

/-- The rows of a batch after the four blocks. -/
def endRows (w₁ : Fin 4 → Fin 128 → Fin 128 → ℝ) (b₁ : Fin 4 → Fin 128 → ℝ) (w₂ : Fin 4 → Fin 128 → Fin 128 → ℝ) (b₂ : Fin 4 → Fin 128 → ℝ) (h : Rows) : Rows :=
  blockAt w₁ b₁ w₂ b₂ 3 (blockAt w₁ b₁ w₂ b₂ 2 (blockAt w₁ b₁ w₂ b₂ 1 (blockAt w₁ b₁ w₂ b₂ 0 h)))

/-- A row through the head's first layer. -/
def headZ (h : Fin 128 → EReal) (w : Fin 128 → Fin 128 → EReal) (v : Fin 128 → EReal) (c : Fin 128) : EReal := ∑ x, h x * w x c + v c

/-- The mean of a row. -/
def headMean (z : Fin 128 → EReal) : EReal := Ideal.div (∑ x, z x) (Ideal.ofBits .f32 1124073472#32)

/-- A row with its mean taken off and divided by its deviation. -/
def headNorm (z : Fin 128 → EReal) (c : Fin 128) : EReal :=
  Ideal.div (z c - headMean z)
    (Ideal.sqrt (Ideal.div (∑ x, (z x - headMean z) * (z x - headMean z)) (Ideal.ofBits .f32 1124073472#32) + Ideal.ofBits .f32 925353388#32))

/-- One offset of a point, from its row. -/
def headOff (h : Fin 128 → EReal) (w : Fin 128 → Fin 128 → EReal) (v g b u : Fin 128 → EReal) (e : EReal) : EReal :=
  Ideal.tanh (∑ x, max (headNorm (headZ h w v) x * g x + b x) 0 * u x + e) * Ideal.ofBits .f32 1036831949#32

end Cert.Proof.Val
-- ==== Proof.Val.KerSel.lean ====
/- The kernel's selection, element by element: one row of the scores against one row of the running list. -/
module

public import proofs.«01_k».proof.Proof.Ideal.Tiles
public import proofs.«01_k».proof.Proof.Val.Math
public import Idealize.ShloMosaic.Lib.Pointwise

@[expose] public section

set_option maxRecDepth 8192
set_option maxHeartbeats 1000000

noncomputable section

namespace Cert.Proof.Val

open Idealize.ShloMosaic Idealize.ShloMosaic.Pointwise
open Cert.KernelIdeal Cert.KernelIdeal.Gen Cert.Proof.KernelIdeal

/-- The named constant the kernel masks with is the greatest value. -/
theorem big_eq : Named.named (F := Ideal) Cert.KernelIdeal.κ "big" (φ := .f32) 1900671690#32 = (⊤ : EReal) :=
  IdealRules.named_const.ideal_named_scalar _ _ _ _ rfl

/-- The named constant the kernel averages with is a ninth. -/
theorem ninth_eq : Named.named (F := Ideal) Cert.KernelIdeal.κ "ninth" (φ := .f32) 1038323257#32 = ((9⁻¹ : ℝ) : EReal) :=
  IdealRules.named_const.ideal_named_scalar _ _ _ _ rfl

/-- The word of infinity reads as infinity. -/
theorem inf_eq : Ideal.ofBits .f32 2139095040#32 = (⊤ : EReal) := by
  simp [Ideal.ofBits, Ideal.ieee]

/-- The number of a column or a row within all of them. -/
theorem gid (k a n : ℕ) : IntOp.addi (Scalar.muli (Scf.iv 0#32 1#32 k) (BitVec.ofNat 32 n)) (BitVec.ofNat 32 a) = BitVec.ofNat 32 (n * k + a) := by
  simp only [Scf.iv, IntOp.addi, Scalar.muli, IntOp.muli, BitVec.ofNat_mul, BitVec.ofNat_add, BitVec.zero_add, BitVec.mul_one]
  rw [BitVec.mul_comm]

/-- A choice by whether two words are equal. -/
theorem select_eq {α : Type} (a b : BitVec 32) (x y : α) : Scalar.select (IntOp.cmpi .eq a b) x y = if a = b then x else y := by
  unfold Scalar.select IntOp.cmpi
  by_cases h : a = b
  · simp [h]
  · have hb : (a == b) = false := beq_eq_false_iff_ne.mpr h
    simp only [hb, if_neg h]
    rfl

/-- A property that every step of a fold keeps holds after it. -/
theorem fold_keeps {n : ℕ} {σ : Type} (g : Fin n → σ → σ) (init : σ) (I : ℕ → σ → Prop) (h0 : I 0 init)
    (hs : ∀ (k : Fin n) a, I k.val a → I (k.val + 1) (g k a)) : I n (Scf.fold g init) := by
  rw [Scf.fold_eq]
  have : ∀ m (hm : m ≤ n), I m (((List.finRange n).take m).foldl (fun acc k => g k acc) init) := by
    intro m
    induction m with
    | zero => intro _; simpa using h0
    | succ m ih =>
      intro hm
      have hlen : m < (List.finRange n).length := by rw [List.length_finRange]; omega
      rw [List.take_succ_eq_append_getElem hlen, List.foldl_append, List.foldl_cons, List.foldl_nil, List.getElem_finRange]
      exact hs ⟨m, by omega⟩ _ (ih (by omega))
  have h := this n le_rfl
  rwa [List.take_of_length_le (by rw [List.length_finRange])] at h

/-- One row of the scores, the running list and the list being filled. -/
def rowOf (a : FVec Ideal S640x512 .f32 × FVec Ideal S640x8 .f32 × FVec Ideal S640x8 .f32 × IVec S640x8 32) (r : Fin 640) : Row where
  c := fun x => a.1 (ix2 r x)
  v := fun s => a.2.1 (ix2 r s)
  ov := fun s => a.2.2.1 (ix2 r s)
  oi := fun s => a.2.2.2 (ix2 r s)

/-- One selection's least value, over the chunk and the list kept so far. -/
theorem pay28_at (a : FVec Ideal S640x512 .f32) (b : FVec Ideal S640x8 .f32) (r : Fin 640) (l : Fin 1) :
    k0_pay28 a b (ix2 r l) = rmin (fun x => a (ix2 r x)) (fun s => b (ix2 r s)) := by
  pointwise [k0_pay28]
  rw [inf_eq]; rfl

/-- One selection's number: the least among those whose value is the least. -/
theorem pay29_at (t3 : Fin k0_t3_loop.trips) (ids : IVec S640x8 32) (a : FVec Ideal S640x512 .f32) (b : FVec Ideal S640x8 .f32) (r : Fin 640) (l : Fin 1) :
    k0_pay29 cols t3 ids a b (ix2 r l) =
      rarg (fun x => BitVec.ofNat 32 (512 * t3.val + x.val)) (fun s => ids (ix2 r s)) (fun x => a (ix2 r x)) (fun s => b (ix2 r s)) := by
  pointwise [k0_pay29, k0_pay23, cols]
  simp only [pay28_at, gid]
  rfl

/-- One selection puts the chosen column of the chunk at infinity. -/
theorem pay30_at (t3 : Fin k0_t3_loop.trips) (ids : IVec S640x8 32) (a : FVec Ideal S640x512 .f32) (b : FVec Ideal S640x8 .f32) (r : Fin 640) (l : Fin 512) :
    k0_pay30 cols t3 ids a b (ix2 r l) =
      if BitVec.ofNat 32 (512 * t3.val + l.val) = k0_pay29 cols t3 ids a b (ix2 r 0) then ⊤ else a (ix2 r l) := by
  pointwise [k0_pay30, k0_pay23, cols]
  rw [big_eq, gid, select_eq]

/-- One selection puts the chosen entry of the list at infinity. -/
theorem pay31_at (t3 : Fin k0_t3_loop.trips) (ids : IVec S640x8 32) (a : FVec Ideal S640x512 .f32) (b : FVec Ideal S640x8 .f32) (r : Fin 640) (l : Fin 8) :
    k0_pay31 cols t3 ids a b (ix2 r l) = if ids (ix2 r l) = k0_pay29 cols t3 ids a b (ix2 r 0) then ⊤ else b (ix2 r l) := by
  pointwise [k0_pay31, cols]
  rw [big_eq, select_eq]

/-- The test for a selection's slot is that the slot has the selection's number. -/
theorem slot_iff {l t : ℕ} (hl : l < 8) (ht : t < 8) : BitVec.ofNat 32 l = Scf.iv 0#32 1#32 t ↔ l = t := by
  have : Scf.iv 0#32 1#32 t = BitVec.ofNat 32 t := by
    simp only [Scf.iv, BitVec.zero_add, BitVec.mul_one]
  rw [this]; exact ofNat_inj (by omega) (by omega)

/-- One selection writes its value to its own slot. -/
theorem pay32_at (t4 : Fin k0_t4_loop.trips) (a : FVec Ideal S640x512 .f32) (b c : FVec Ideal S640x8 .f32) (r : Fin 640) (l : Fin 8) :
    k0_pay32 slots t4 a b c (ix2 r l) = if l.val = t4.val then k0_pay28 a b (ix2 r 0) else c (ix2 r l) := by
  pointwise [k0_pay32, slots]
  rw [select_eq]
  exact if_congr (slot_iff l.isLt (trips4 ▸ t4.isLt)) rfl rfl

/-- One selection writes its number to its own slot. -/
theorem pay33_at (t3 : Fin k0_t3_loop.trips) (ids : IVec S640x8 32) (t4 : Fin k0_t4_loop.trips) (a : FVec Ideal S640x512 .f32) (b : FVec Ideal S640x8 .f32)
    (c : IVec S640x8 32) (r : Fin 640) (l : Fin 8) :
    k0_pay33 cols slots t3 ids t4 a b c (ix2 r l) = if l.val = t4.val then k0_pay29 cols t3 ids a b (ix2 r 0) else c (ix2 r l) := by
  pointwise [k0_pay33, slots]
  rw [select_eq]
  exact if_congr (slot_iff l.isLt (trips4 ▸ t4.isLt)) rfl rfl

/-- A round of the kernel is a round on every row. -/
theorem rowOf_selStep (t3 : Fin k0_t3_loop.trips) (ids : IVec S640x8 32) (t4 : Fin k0_t4_loop.trips)
    (a : FVec Ideal S640x512 .f32 × FVec Ideal S640x8 .f32 × FVec Ideal S640x8 .f32 × IVec S640x8 32) (r : Fin 640) :
    rowOf (selStep t3 ids t4 a) r = (rowOf a r).next (512 * t3.val) (fun s => ids (ix2 r s)) t4.val := by
  simp only [rowOf, selStep, Row.next, pay30_at, pay31_at, pay32_at, pay33_at, pay28_at, pay29_at]
  rfl

/-- The rounds of one chunk: with eight candidates at hand, every row's list holds the first eight of them. -/
theorem sel_row {key : ℕ → ℝ} {B L : Finset ℕ} (t3 : Fin k0_t3_loop.trips) (s : FVec Ideal S640x512 .f32) (vals : FVec Ideal S640x8 .f32) (ids : IVec S640x8 32) (r : Fin 640)
    (hB : ∀ o ∈ B, o < 2500 ∧ 512 * t3.val ≤ o ∧ o < 512 * t3.val + 512) (hL : ∀ o ∈ L, o < 2500) (hcard : 8 ≤ (L ∪ B).card)
    (hc : ChunkHas key (512 * t3.val) B fun x => s (ix2 r x)) (hv : ListHas key L (fun q => ids (ix2 r q)) fun q => vals (ix2 r q)) :
    ∃ T, IsTop key (L ∪ B) T ∧ FullList key T (fun q => (sel t3 s vals ids).2.2.2 (ix2 r q)) (fun q => (sel t3 s vals ids).2.2.1 (ix2 r q)) := by
  have ht3 : t3.val < 5 := trips3 ▸ t3.isLt
  have key' : ∃ C, RowInv key (512 * t3.val) B L (fun q => ids (ix2 r q)) k0_t4_loop.trips C (rowOf (sel t3 s vals ids) r) := by
    unfold sel
    refine fold_keeps (n := k0_t4_loop.trips) _ _ (fun k a => ∃ C, RowInv key (512 * t3.val) B L (fun q => ids (ix2 r q)) k C (rowOf a r)) ?_ ?_
    · refine ⟨∅, rfl, Finset.empty_subset _, ?_, ?_, ?_, ?_, ?_⟩
      · intro a ha; exact absurd ha (Finset.notMem_empty a)
      · rw [Finset.sdiff_empty]; exact hc
      · rw [Finset.sdiff_empty]; exact hv
      · intro s hs; exact absurd hs (Nat.not_lt_zero _)
      · intro a ha; exact absurd ha (Finset.notMem_empty a)
    · rintro k a ⟨C, hC⟩
      rw [rowOf_selStep]
      exact hC.next (by omega) hB hL (trips4 ▸ k.isLt) hcard
  rw [trips4] at key'
  obtain ⟨C, hC⟩ := key'
  exact ⟨C, hC.full⟩

end Cert.Proof.Val
-- ==== Proof.Val.KerKnn.lean ====
/- The kernel's lists: after the five chunks a row's list holds the eight nearest points. -/
module

public import proofs.«01_k».proof.Proof.Val.KerSel
public import proofs.«01_k».proof.Proof.Val.Reals

@[expose] public section

set_option maxRecDepth 8192
set_option maxHeartbeats 1000000

noncomputable section

namespace Cert.Proof.Val

open Idealize.ShloMosaic Idealize.ShloMosaic.Pointwise
open Cert.KernelIdeal Cert.KernelIdeal.Gen Cert.Proof.KernelIdeal

/-- A property that every step of a counted loop keeps holds after it. -/
theorem iter_keeps {n : ℕ} {σ : Type} (g : Fin n → σ → σ) (init : σ) (I : ℕ → σ → Prop) (h0 : I 0 init)
    (hs : ∀ (k : Fin n) a, I k.val a → I (k.val + 1) (g k a)) : ∀ k, k ≤ n → I k (iter g init k) := by
  intro k
  induction k with
  | zero => intro _; exact h0
  | succ k ih =>
    intro hk
    have := iter_succ g init ⟨k, hk⟩
    rw [show k + 1 = (⟨k, hk⟩ : Fin n).val + 1 from rfl, this]
    exact hs ⟨k, hk⟩ _ (ih (by omega))

/-- The first 2500 rows of a block's buffer are the reals `h`. -/
def RowsAre (x : Vec Ideal S1x2560x128 .f32) (h : Rows) : Prop := ∀ (i : Fin 2560) d, i.val < 2500 → x (ix3 0 i d) = (h i.val d : EReal)

/-- A tile's window on the rows, in the first pass: 640 rows from 640 times the tile's number. -/
theorem win3_at (x : Vec Ideal S1x2560x128 .f32) (t2 : Fin k0_t2_loop.trips) (r : Fin 640) (d : Fin 128) (hr : 640 * t2.val + r.val < 2560) :
    VecWindow.window (s := S1x2560x128) x (k0_off3 t2) S1x640x128.size (k0_off3_inb t2) (ix3 0 r d) = x (ix3 0 ⟨640 * t2.val + r.val, hr⟩ d) := by
  unfold VecWindow.window
  congr 1
  funext a
  apply Fin.ext
  fin_cases a <;> simp [Rect.unit, Rect.emb, ix3, k0_off3_eq]

/-- A chunk's window on the rows: 512 entries from 512 times the chunk's number. -/
theorem win4_at (x : Vec Ideal S1x2560x128 .f32) (t3 : Fin k0_t3_loop.trips) (l : Fin 512) (d : Fin 128) (hl : 512 * t3.val + l.val < 2560) :
    VecWindow.window (s := S1x2560x128) x (k0_off4 t3) S1x512x128.size (k0_off4_inb t3) (ix3 0 l d) = x (ix3 0 ⟨512 * t3.val + l.val, hl⟩ d) := by
  unfold VecWindow.window
  congr 1
  funext a
  apply Fin.ext
  fin_cases a <;> simp [Rect.unit, Rect.emb, ix3, k0_off4_eq]

/-- A chunk's window on the rows' squares: 512 entries from 512 times the chunk's number. -/
theorem win5_at (x : Vec Ideal S1x2560 .f32) (t3 : Fin k0_t3_loop.trips) (l : Fin 512) (hl : 512 * t3.val + l.val < 2560) :
    VecWindow.window (s := S1x2560) x (k0_off5 t3) S1x512.size (k0_off5_inb t3) (ix2 0 l) = x (ix2 0 ⟨512 * t3.val + l.val, hl⟩) := by
  unfold VecWindow.window
  congr 1
  funext a
  apply Fin.ext
  fin_cases a <;> simp [Rect.unit, Rect.emb, ix2, k0_off5_eq]

/-- A row's square: the sum of the squares of its entries. -/
theorem pay10_at (x : Vec Ideal S1x2560x128 .f32) (l : Fin 2560) :
    k0_pay10 (F := Ideal) x (ix2 0 l) = ∑ d, x (ix3 0 l d) * x (ix3 0 l d) := by
  pointwise [k0_pay10, k0_pay9]

/-- A chunk's distances before the masks: the column's square less twice the product of the two rows. -/
theorem pay22_at (v124 : Vec Ideal S1x640x128 .f32) (v150 : Vec Ideal S1x512x128 .f32) (v154 : Vec Ideal S1x512 .f32) (r : Fin 640) (l : Fin 512) :
    k0_pay22 v124 v150 v154 (ix2 r l) =
      v154 (ix2 0 l) - (∑ x, v124 (ix3 0 r x) * v150 (ix3 0 l x) + ∑ x, v124 (ix3 0 r x) * v150 (ix3 0 l x)) := by
  pointwise [k0_pay22]

/-- The mask of the diagonal: where the column is the row itself the penalty is added. -/
theorem pay24_at (t2 : Fin k0_t2_loop.trips) (t3 : Fin k0_t3_loop.trips) (v124 : Vec Ideal S1x640x128 .f32) (v150 : Vec Ideal S1x512x128 .f32) (v154 : Vec Ideal S1x512 .f32) (r : Fin 640) (l : Fin 512) :
    k0_pay24 cols rowsV t2 v124 t3 v150 v154 (ix2 r l) =
      if BitVec.ofNat 32 (512 * t3.val + l.val) = BitVec.ofNat 32 (640 * t2.val + r.val) then k0_pay22 v124 v150 v154 (ix2 r l) + (pen : EReal)
      else k0_pay22 v124 v150 v154 (ix2 r l) := by
  pointwise [k0_pay24, k0_pay23, cols, rowsV]
  rw [gid, gid, select_eq, pen_eq]

/-- The test for the padding is that the column's number is 2500 or more. -/
theorem sge_iff {n : ℕ} (hn : n < 2560) : IntOp.cmpi .sge (BitVec.ofNat 32 n) 2500#32 = 1#1 ↔ 2500 ≤ n := by
  unfold IntOp.cmpi
  have h1 := toInt_ofNat (n := n) (by omega)
  have h2 : (2500#32 : BitVec 32).toInt = 2500 := by decide
  simp only [BitVec.sle, h1, h2]
  constructor
  · intro h
    by_contra hc
    rw [decide_eq_false (by omega)] at h
    exact absurd h (by decide)
  · intro h
    rw [decide_eq_true (by omega)]; rfl

/-- The mask of the padding: columns from 2500 on are at infinity. -/
theorem pay25_at (t3 : Fin k0_t3_loop.trips) (v : FVec Ideal S640x512 .f32) (r : Fin 640) (l : Fin 512) :
    k0_pay25 cols t3 v (ix2 r l) = if 2500 ≤ 512 * t3.val + l.val then (⊤ : EReal) else v (ix2 r l) := by
  have ht3 : t3.val < 5 := trips3 ▸ t3.isLt
  pointwise [k0_pay25, k0_pay23, cols]
  rw [big_eq, gid]
  unfold Scalar.select
  exact if_congr (sge_iff (by omega)) rfl rfl

/-- The test for the last chunk holds in the fifth chunk alone. -/
theorem isLast_iff (t3 : Fin k0_t3_loop.trips) : isLast t3 = 1#1 ↔ t3.val = 4 := by
  have : ∀ k : Fin 5, (Scalar.cmpi .ne (Scalar.extui (Scalar.cmpi .eq (Scf.iv 0#32 1#32 k.val) 4#32)) 0#32 = 1#1 ↔ k.val = 4) := by decide
  exact this ⟨t3.val, trips3 ▸ t3.isLt⟩

/-- The test for the diagonal holds where the tile's rows and the chunk's columns overlap. -/
theorem meets_iff (t2 : Fin k0_t2_loop.trips) (t3 : Fin k0_t3_loop.trips) :
    meets t2 t3 = 1#1 ↔ 640 * t2.val < 512 * t3.val + 512 ∧ 512 * t3.val < 640 * t2.val + 640 := by
  have : ∀ (j : Fin 4) (k : Fin 5), (Scalar.cmpi .ne (Scalar.extui (Scalar.andi
      (Scalar.cmpi .sgt (Scalar.addi (Scalar.muli (Scf.iv 0#32 1#32 k.val) 512#32) 512#32) (Scalar.muli (Scf.iv 0#32 1#32 j.val) 640#32))
      (Scalar.cmpi .slt (Scalar.muli (Scf.iv 0#32 1#32 k.val) 512#32) (Scalar.addi (Scalar.muli (Scf.iv 0#32 1#32 j.val) 640#32) 640#32)))) 0#32 = 1#1
      ↔ 640 * j.val < 512 * k.val + 512 ∧ 512 * k.val < 640 * j.val + 640) := by decide
  exact this ⟨t2.val, trips2 ▸ t2.isLt⟩ ⟨t3.val, trips3 ▸ t3.isLt⟩

section Rows
variable {x12 : Vec Ideal S1x2560x128 .f32} {h : Rows} (hx : RowsAre x12 h)
include hx

/-- The score of a point for a row of the tile. -/
theorem scores_at (t2 : Fin k0_t2_loop.trips) (t3 : Fin k0_t3_loop.trips) (r : Fin 640) (l : Fin 512) (hi : 640 * t2.val + r.val < 2500) :
    scores (F := Ideal) t2 t3 (VecWindow.window x12 (k0_off3 t2) S1x640x128.size (k0_off3_inb t2)) x12 (k0_pay10 x12) (ix2 r l) =
      if 512 * t3.val + l.val < 2500 then (dist h (640 * t2.val + r.val) (512 * t3.val + l.val) : EReal) else ⊤ := by
  have ht3 : t3.val < 5 := trips3 ▸ t3.isLt
  have hl := l.isLt
  have hr := r.isLt
  have e22 : 512 * t3.val + l.val < 2500 →
      k0_pay22 (F := Ideal) (VecWindow.window x12 (k0_off3 t2) S1x640x128.size (k0_off3_inb t2)) (VecWindow.window x12 (k0_off4 t3) S1x512x128.size (k0_off4_inb t3))
        (VecWindow.window (s := S1x2560) (k0_pay10 x12) (k0_off5 t3) S1x512.size (k0_off5_inb t3)) (ix2 r l) =
      (((∑ d, h (512 * t3.val + l.val) d * h (512 * t3.val + l.val) d) -
        ((∑ d, h (640 * t2.val + r.val) d * h (512 * t3.val + l.val) d) + ∑ d, h (640 * t2.val + r.val) d * h (512 * t3.val + l.val) d) : ℝ) : EReal) := by
    intro hj
    rw [pay22_at, win5_at _ _ _ (by omega), pay10_at]
    have ea : ∀ d, VecWindow.window (s := S1x2560x128) x12 (k0_off3 t2) S1x640x128.size (k0_off3_inb t2) (ix3 0 r d) = (h (640 * t2.val + r.val) d : EReal) := fun d => by
      rw [win3_at _ _ _ _ (by omega)]; exact hx _ _ hi
    have eb : ∀ d, VecWindow.window (s := S1x2560x128) x12 (k0_off4 t3) S1x512x128.size (k0_off4_inb t3) (ix3 0 l d) = (h (512 * t3.val + l.val) d : EReal) := fun d => by
      rw [win4_at _ _ _ _ (by omega)]; exact hx _ _ hj
    have ec : ∀ d, x12 (ix3 0 ⟨512 * t3.val + l.val, by omega⟩ d) = (h (512 * t3.val + l.val) d : EReal) := fun d => hx _ _ hj
    rw [sum_mul_coe ec ec, sum_mul_coe ea eb, ← EReal.coe_add, ← EReal.coe_sub]
  unfold scores dist
  simp only
  by_cases hj : 512 * t3.val + l.val < 2500
  · rw [if_pos hj]
    have e167 : (if meets t2 t3 = 1#1 then k0_pay24 (F := Ideal) cols rowsV t2 (VecWindow.window x12 (k0_off3 t2) S1x640x128.size (k0_off3_inb t2)) t3
          (VecWindow.window x12 (k0_off4 t3) S1x512x128.size (k0_off4_inb t3)) (VecWindow.window (s := S1x2560) (k0_pay10 x12) (k0_off5 t3) S1x512.size (k0_off5_inb t3))
        else k0_pay22 (F := Ideal) (VecWindow.window x12 (k0_off3 t2) S1x640x128.size (k0_off3_inb t2)) (VecWindow.window x12 (k0_off4 t3) S1x512x128.size (k0_off4_inb t3))
          (VecWindow.window (s := S1x2560) (k0_pay10 x12) (k0_off5 t3) S1x512.size (k0_off5_inb t3))) (ix2 r l) =
        (((∑ d, h (512 * t3.val + l.val) d * h (512 * t3.val + l.val) d) -
          ((∑ d, h (640 * t2.val + r.val) d * h (512 * t3.val + l.val) d) + ∑ d, h (640 * t2.val + r.val) d * h (512 * t3.val + l.val) d)
          + if 512 * t3.val + l.val = 640 * t2.val + r.val then pen else 0 : ℝ) : EReal) := by
      by_cases hm : meets t2 t3 = 1#1
      · rw [if_pos hm, pay24_at, e22 hj]
        by_cases hd : 512 * t3.val + l.val = 640 * t2.val + r.val
        · rw [if_pos (by rw [hd]), if_pos hd, EReal.coe_add]
        · rw [if_neg (fun he => hd ((ofNat_inj (by omega) (by omega)).mp he)), if_neg hd, add_zero]
      · rw [if_neg hm, e22 hj]
        rw [meets_iff] at hm
        rw [if_neg (by omega), add_zero]
    by_cases h4 : isLast t3 = 1#1
    · rw [if_pos h4, pay25_at, if_neg (by omega)]; exact e167
    · rw [if_neg h4]; exact e167
  · rw [if_neg hj, if_pos ((isLast_iff t3).mpr (by omega)), pay25_at, if_pos (by omega)]

/-- A row's list after all the chunks. -/
theorem tileIds_row (t2 : Fin k0_t2_loop.trips) (r : Fin 640) (hi : 640 * t2.val + r.val < 2500) :
    ∃ (T : Finset ℕ) (v : Fin 8 → EReal), IsTop (dist h (640 * t2.val + r.val)) (Finset.range 2500) T ∧
      FullList (dist h (640 * t2.val + r.val)) T (fun q => tileIds (F := Ideal) x12 (k0_pay10 x12) t2 (ix2 r q)) v := by
  let key := dist h (640 * t2.val + r.val)
  let I : ℕ → FVec Ideal S640x8 .f32 × IVec S640x8 32 → Prop := fun k a =>
    ∃ L : Finset ℕ, (∀ o ∈ L, o < 2500) ∧ ListHas key L (fun q => a.2 (ix2 r q)) (fun q => a.1 (ix2 r q)) ∧ (k = 0 → L = ∅) ∧
      (k ≠ 0 → IsTop key (Finset.range (min (512 * k) 2500)) L ∧ FullList key L (fun q => a.2 (ix2 r q)) (fun q => a.1 (ix2 r q)))
  have hI := iter_keeps (knnStep (F := Ideal) t2 (VecWindow.window x12 (k0_off3 t2) S1x640x128.size (k0_off3_inb t2)) x12 (k0_pay10 x12))
    (k0_pay20 (F := Ideal), k0_pay21) I ?_ ?_ k0_t3_loop.trips le_rfl
  · obtain ⟨L, -, -, -, hT⟩ := hI
    obtain ⟨h1, h2⟩ := hT (by rw [trips3]; decide)
    rw [trips3] at h1
    exact ⟨L, _, h1, h2⟩
  · refine ⟨∅, fun o ho => absurd ho (Finset.notMem_empty o), ⟨fun s => .inl ?_, fun o ho => absurd ho (Finset.notMem_empty o)⟩, fun _ => rfl, fun hk => absurd rfl hk⟩
    show k0_pay20 (F := Ideal) (ix2 r s) = ⊤
    unfold k0_pay20
    exact big_eq
  · rintro k a ⟨L, hL, hv, h0, h1⟩
    have hk : k.val < 5 := trips3 ▸ k.isLt
    let B : Finset ℕ := Finset.Ico (512 * k.val) (min (512 * k.val + 512) 2500)
    have hB : ∀ o ∈ B, o < 2500 ∧ 512 * k.val ≤ o ∧ o < 512 * k.val + 512 := fun o ho => by
      have := Finset.mem_Ico.mp ho; omega
    have hcard : 8 ≤ (L ∪ B).card := by
      refine le_trans ?_ (Finset.card_le_card Finset.subset_union_right)
      rw [Nat.card_Ico]; omega
    have hc : ChunkHas key (512 * k.val) B fun x =>
        scores (F := Ideal) t2 k (VecWindow.window x12 (k0_off3 t2) S1x640x128.size (k0_off3_inb t2)) x12 (k0_pay10 x12) (ix2 r x) := by
      intro x
      have hx' := x.isLt
      dsimp only
      rw [scores_at hx t2 k r x hi]
      constructor
      · intro hb
        rw [if_pos (hB _ hb).1]
      · intro hb
        rw [if_neg]
        intro hlt
        exact hb (Finset.mem_Ico.mpr (by omega))
    obtain ⟨T, hT, hF⟩ := sel_row k _ a.1 a.2 r hB hL hcard hc hv
    refine ⟨T, fun o ho => ?_, hF.listHas, fun hz => absurd hz (Nat.succ_ne_zero _), fun _ => ⟨?_, hF⟩⟩
    · rcases Finset.mem_union.mp (hT.1 ho) with h' | h'
      · exact hL o h'
      · exact (hB o h').1
    · have hu : Finset.range (min (512 * (k.val + 1)) 2500) = Finset.range (min (512 * k.val) 2500) ∪ B := by
        ext o
        simp only [Finset.mem_union, Finset.mem_range, Finset.mem_Ico, B]
        omega
      rw [hu]
      by_cases hz : k.val = 0
      · have hr0 : Finset.range (min (512 * k.val) 2500) = ∅ := by rw [hz]; rfl
        rw [hr0, ← h0 hz]; exact hT
      · exact (h1 hz).1.merge hT

/-- A row's list holds its neighbours. -/
theorem tileIds_nbrs (t2 : Fin k0_t2_loop.trips) (r : Fin 640) (hi : 640 * t2.val + r.val < 2500) :
    ∃ v : Fin 8 → EReal, IsTop (dist h (640 * t2.val + r.val)) (Finset.range 2500) (nbrs h (640 * t2.val + r.val)) ∧
      FullList (dist h (640 * t2.val + r.val)) (nbrs h (640 * t2.val + r.val)) (fun q => tileIds (F := Ideal) x12 (k0_pay10 x12) t2 (ix2 r q)) v := by
  obtain ⟨T, v, h1, h2⟩ := tileIds_row hx t2 r hi
  have : nbrs h (640 * t2.val + r.val) = T := near_eq h1
  rw [this]
  exact ⟨v, h1, h2⟩

end Rows

end Cert.Proof.Val
-- ==== Proof.Val.KerAgg.lean ====
/- The kernel's neighbour sums: the counts of a row's list times the rows are the sum over the list. -/
module

public import proofs.«01_k».proof.Proof.Val.KerKnn

@[expose] public section

set_option maxRecDepth 8192
set_option maxHeartbeats 1000000

noncomputable section

namespace Cert.Proof.Val

open Idealize.ShloMosaic Idealize.ShloMosaic.Pointwise
open Cert.KernelIdeal Cert.KernelIdeal.Gen Cert.Proof.KernelIdeal

/-- A test as a number. -/
theorem ind_eq (a b : BitVec 32) : FloatOps.sitofp (F := Ideal) .f32 (BitVec.setWidth 32 (IntOp.cmpi .eq a b)) = if a = b then (1 : EReal) else 0 := by
  by_cases h : a = b
  · rw [if_pos h]
    have : BitVec.setWidth 32 (IntOp.cmpi .eq a b) = 1#32 := by
      unfold IntOp.cmpi; rw [h]; simp
    rw [this]
    show (((1#32 : BitVec 32).toInt : ℝ) : EReal) = 1
    simp
  · rw [if_neg h]
    have : BitVec.setWidth 32 (IntOp.cmpi .eq a b) = 0#32 := by
      unfold IntOp.cmpi
      have hb : (a == b) = false := beq_eq_false_iff_ne.mpr h
      simp only [hb]; rfl
    rw [this]
    show (((0#32 : BitVec 32).toInt : ℝ) : EReal) = 0
    simp

/-- One chunk of a row's neighbour sum. -/
theorem agg_step {ids : Fin 8 → BitVec 32} (hid : ∀ s, ids s = BitVec.ofNat 32 (ids s).toNat) (ho : ∀ s, (ids s).toNat < 2500) {t : ℕ} (ht : t < 5)
    {w : ℕ → ℝ} {a : EReal} {cnt ya yb yc : Fin 512 → EReal}
    (ha : a = ((∑ s, (if (ids s).toNat < 512 * t then w (ids s).toNat else 0) : ℝ) : EReal))
    (hcnt : ∀ x, cnt x = ∑ s, if BitVec.ofNat 32 (512 * t + x.val) = ids s then (1 : EReal) else 0)
    (hya : ∀ x : Fin 512, 512 * t + x.val < 2500 → ya x = (w (512 * t + x.val) : EReal)) (hyb : ∀ x : Fin 512, 512 * t + x.val < 2500 → yb x = 0)
    (hyc : ∀ x : Fin 512, 512 * t + x.val < 2500 → yc x = 0) :
    a + (∑ x, cnt x * ya x + ∑ x, cnt x * yb x + ∑ x, cnt x * yc x) =
      ((∑ s, (if (ids s).toNat < 512 * (t + 1) then w (ids s).toNat else 0) : ℝ) : EReal) := by
  have hiff : ∀ (x : Fin 512) s, BitVec.ofNat 32 (512 * t + x.val) = ids s ↔ 512 * t + x.val = (ids s).toNat := fun x s => by
    have hx := x.isLt
    have := ho s
    conv_lhs => rw [hid s]
    exact ofNat_inj (by omega) (by omega)
  have hc : ∀ x, cnt x = ((∑ s, (if 512 * t + x.val = (ids s).toNat then 1 else 0) : ℝ) : EReal) := fun x => by
    rw [hcnt, coe_sum]
    refine Finset.sum_congr rfl fun s _ => ?_
    by_cases h : 512 * t + x.val = (ids s).toNat
    · rw [if_pos ((hiff x s).mpr h), if_pos h]; rfl
    · rw [if_neg (fun h' => h ((hiff x s).mp h')), if_neg h]; rfl
  have hz : ∀ x : Fin 512, ¬ 512 * t + x.val < 2500 → cnt x = 0 := fun x hx => by
    rw [hc, Finset.sum_eq_zero]
    · rfl
    · intro s _; rw [if_neg]; have := ho s; omega
  have h0 : ∀ y : Fin 512 → EReal, (∀ x : Fin 512, 512 * t + x.val < 2500 → y x = 0) → ∑ x, cnt x * y x = 0 := fun y hy =>
    Finset.sum_eq_zero fun x _ => by
      by_cases hx : 512 * t + x.val < 2500
      · rw [hy x hx, mul_zero]
      · rw [hz x hx, zero_mul]
  rw [h0 yb hyb, h0 yc hyc, add_zero, add_zero]
  have h1 : ∑ x, cnt x * ya x = ((∑ s, (if 512 * t ≤ (ids s).toNat ∧ (ids s).toNat < 512 * t + 512 then w (ids s).toNat else 0) : ℝ) : EReal) := by
    have h2 : ∀ x, cnt x * ya x = ((∑ s, (if 512 * t + x.val = (ids s).toNat then w (ids s).toNat else 0) : ℝ) : EReal) := fun x => by
      by_cases hx : 512 * t + x.val < 2500
      · rw [hc, hya x hx, ← EReal.coe_mul, Finset.sum_mul]
        refine congrArg _ (Finset.sum_congr rfl fun s _ => ?_)
        by_cases h : 512 * t + x.val = (ids s).toNat
        · rw [if_pos h, if_pos h, one_mul, h]
        · rw [if_neg h, if_neg h, zero_mul]
      · rw [hz x hx, zero_mul, Finset.sum_eq_zero]
        · rfl
        · intro s _; rw [if_neg]; have := ho s; omega
    rw [Finset.sum_congr rfl fun x _ => h2 x, ← coe_sum, Finset.sum_comm]
    refine congrArg _ (Finset.sum_congr rfl fun s _ => ?_)
    by_cases h : 512 * t ≤ (ids s).toNat ∧ (ids s).toNat < 512 * t + 512
    · rw [if_pos h, Finset.sum_eq_single ⟨(ids s).toNat - 512 * t, by omega⟩]
      · rw [if_pos (by show 512 * t + ((ids s).toNat - 512 * t) = _; omega)]
      · intro x _ hx
        rw [if_neg]
        intro he
        exact hx (Fin.ext (by show x.val = (ids s).toNat - 512 * t; omega))
      · intro hn; exact absurd (Finset.mem_univ _) hn
    · rw [if_neg h]
      refine Finset.sum_eq_zero fun x _ => if_neg ?_
      have := x.isLt
      omega
  rw [h1, ha, ← EReal.coe_add, ← Finset.sum_add_distrib]
  refine congrArg _ (Finset.sum_congr rfl fun s _ => ?_)
  by_cases h1 : (ids s).toNat < 512 * t
  · rw [if_pos h1, if_neg (by omega), if_pos (by omega), add_zero]
  · rw [if_neg h1, zero_add]
    by_cases h2 : (ids s).toNat < 512 * (t + 1)
    · rw [if_pos (by omega), if_pos h2]
    · rw [if_neg (by omega), if_neg h2]

/-- A tile's window on the hidden rows, in the first pass: 640 rows from 640 times the tile's number. -/
theorem win8_at (x : Vec Ideal S2560x128 .f32) (t : Fin k0_t2_loop.trips) (r : Fin 640) (d : Fin 128) (hr : 640 * t.val + r.val < 2560) :
    VecWindow.window (s := S2560x128) x (k0_off8 t) S640x128.size (k0_off8_inb t) (ix2 r d) = x (ix2 ⟨640 * t.val + r.val, hr⟩ d) := by
  unfold VecWindow.window
  congr 1
  funext a
  apply Fin.ext
  fin_cases a <;> simp [Rect.unit, Rect.emb, ix2, k0_off8_eq]

/-- A tile's window on the neighbours, in the first pass: 640 rows from 640 times the tile's number. -/
theorem win6_at (x : Vec Ideal S2560x8 .i32) (t : Fin k0_t2_loop.trips) (r : Fin 640) (d : Fin 8) (hr : 640 * t.val + r.val < 2560) :
    VecWindow.window (s := S2560x8) x (k0_off6 t) S640x8.size (k0_off6_inb t) (ix2 r d) = x (ix2 ⟨640 * t.val + r.val, hr⟩ d) := by
  unfold VecWindow.window
  congr 1
  funext a
  apply Fin.ext
  fin_cases a <;> simp [Rect.unit, Rect.emb, ix2, k0_off6_eq]

/-- A tile's window on the neighbours, in the second pass: 640 rows from 640 times the tile's number. -/
theorem win9_at (x : Vec Ideal S2560x8 .i32) (t : Fin k0_t6_loop.trips) (r : Fin 640) (d : Fin 8) (hr : 640 * t.val + r.val < 2560) :
    VecWindow.window (s := S2560x8) x (k0_off9 t) S640x8.size (k0_off9_inb t) (ix2 r d) = x (ix2 ⟨640 * t.val + r.val, hr⟩ d) := by
  unfold VecWindow.window
  congr 1
  funext a
  apply Fin.ext
  fin_cases a <;> simp [Rect.unit, Rect.emb, ix2, k0_off9_eq]

/-- A tile's window on the products, in the second pass: 640 rows from 640 times the tile's number. -/
theorem win11_at (x : Vec Ideal S2560x128 .f32) (t : Fin k0_t6_loop.trips) (r : Fin 640) (d : Fin 128) (hr : 640 * t.val + r.val < 2560) :
    VecWindow.window (s := S2560x128) x (k0_off11 t) S640x128.size (k0_off11_inb t) (ix2 r d) = x (ix2 ⟨640 * t.val + r.val, hr⟩ d) := by
  unfold VecWindow.window
  congr 1
  funext a
  apply Fin.ext
  fin_cases a <;> simp [Rect.unit, Rect.emb, ix2, k0_off11_eq]

/-- A chunk's window on the products, in the first pass: 512 entries from 512 times the chunk's number. -/
theorem win7_at (x : Vec Ideal S2560x128 .bf16) (t : Fin k0_t5_loop.trips) (l : Fin 512) (d : Fin 128) (hl : 512 * t.val + l.val < 2560) :
    VecWindow.window (s := S2560x128) x (k0_off7 t) S512x128.size (k0_off7_inb t) (ix2 l d) = x (ix2 ⟨512 * t.val + l.val, hl⟩ d) := by
  unfold VecWindow.window
  congr 1
  funext a
  apply Fin.ext
  fin_cases a <;> simp [Rect.unit, Rect.emb, ix2, k0_off7_eq]

/-- A chunk's window on the products, in the second pass: 512 entries from 512 times the chunk's number. -/
theorem win10_at (x : Vec Ideal S2560x128 .bf16) (t : Fin k0_t7_loop.trips) (l : Fin 512) (d : Fin 128) (hl : 512 * t.val + l.val < 2560) :
    VecWindow.window (s := S2560x128) x (k0_off10 t) S512x128.size (k0_off10_inb t) (ix2 l d) = x (ix2 ⟨512 * t.val + l.val, hl⟩ d) := by
  unfold VecWindow.window
  congr 1
  funext a
  apply Fin.ext
  fin_cases a <;> simp [Rect.unit, Rect.emb, ix2, k0_off10_eq]

/-- A tile's window on the rows, in the second pass: 640 rows from 640 times the tile's number. -/
theorem win12_at (x : Vec Ideal S1x2560x128 .f32) (t : Fin k0_t6_loop.trips) (r : Fin 640) (d : Fin 128) (hr : 640 * t.val + r.val < 2560) :
    VecWindow.window (s := S1x2560x128) x (k0_off12 t) S1x640x128.size (k0_off12_inb t) (ix3 0 r d) = x (ix3 0 ⟨640 * t.val + r.val, hr⟩ d) := by
  unfold VecWindow.window
  congr 1
  funext a
  apply Fin.ext
  fin_cases a <;> simp [Rect.unit, Rect.emb, ix3, k0_off12_eq]

/-- A block's window on the weights is the matrix of that block. -/
theorem win1_at (x : Vec Ideal S4x128x128 .f32) (t : Fin k0_t1_loop.trips) (k d : Fin 128) (ht : t.val < 4) :
    VecWindow.window (s := S4x128x128) x (k0_off1 t) S1x128x128.size (k0_off1_inb t) (ix3 0 k d) = x (ix3 ⟨t.val, ht⟩ k d) := by
  unfold VecWindow.window
  congr 1
  funext a
  apply Fin.ext
  fin_cases a <;> simp [Rect.unit, Rect.emb, ix3, k0_off1_eq]

/-- A block's window on the biases is the bias of that block. -/
theorem win2_at (x : Vec Ideal S4x128 .f32) (t : Fin k0_t1_loop.trips) (d : Fin 128) (ht : t.val < 4) :
    VecWindow.window (s := S4x128) x (k0_off2 t) S1x128.size (k0_off2_inb t) (ix2 0 d) = x (ix2 ⟨t.val, ht⟩ d) := by
  unfold VecWindow.window
  congr 1
  funext a
  apply Fin.ext
  fin_cases a <;> simp [Rect.unit, Rect.emb, ix2, k0_off2_eq]

/-- How often a column stands in a row's list. -/
theorem cnt1_at (ids : IVec S640x8 32) (t : Fin k0_t5_loop.trips) (r : Fin 640) (l : Fin 512) :
    k0_pay3 (F := Ideal) cols ids 0#32 1#32 t (ix2 r l) + FloatOps.sitofp (F := Ideal) .f32 (k0_pay4 cols ids 0#32 1#32 t (ix2 r l)) =
      ∑ s : Fin 8, if BitVec.ofNat 32 (512 * t.val + l.val) = ids (ix2 r s) then (1 : EReal) else 0 := by
  have e1 : k0_pay3 (F := Ideal) cols ids 0#32 1#32 t (ix2 r l) = ∑ s : Fin 7, if BitVec.ofNat 32 (512 * t.val + l.val) = ids (ix2 r s.castSucc) then (1 : EReal) else 0 := by
    pointwise [k0_pay3, k0_pay2, cols]
    simp only [gid, ind_eq]
    rw [Fin.sum_univ_seven]
    rfl
  have e2 : k0_pay4 cols ids 0#32 1#32 t (ix2 r l) = BitVec.setWidth 32 (IntOp.cmpi .eq (BitVec.ofNat 32 (512 * t.val + l.val)) (ids (ix2 r 7))) := by
    pointwise [k0_pay4, k0_pay2, cols]
    rw [gid]
  rw [e1, e2, ind_eq]
  exact (Fin.sum_univ_castSucc (n := 7) fun s => if BitVec.ofNat 32 (512 * t.val + l.val) = ids (ix2 r s) then (1 : EReal) else 0).symm

/-- How often a column stands in a row's list. -/
theorem cnt2_at (ids : IVec S640x8 32) (t : Fin k0_t7_loop.trips) (r : Fin 640) (l : Fin 512) :
    k0_pay6 (F := Ideal) cols ids 0#32 1#32 t (ix2 r l) + FloatOps.sitofp (F := Ideal) .f32 (k0_pay7 (F := Ideal) cols ids 0#32 1#32 t (ix2 r l)) =
      ∑ s : Fin 8, if BitVec.ofNat 32 (512 * t.val + l.val) = ids (ix2 r s) then (1 : EReal) else 0 := by
  have e1 : k0_pay6 (F := Ideal) cols ids 0#32 1#32 t (ix2 r l) = ∑ s : Fin 7, if BitVec.ofNat 32 (512 * t.val + l.val) = ids (ix2 r s.castSucc) then (1 : EReal) else 0 := by
    pointwise [k0_pay6, k0_pay5, cols]
    simp only [gid, ind_eq]
    rw [Fin.sum_univ_seven]
    rfl
  have e2 : k0_pay7 (F := Ideal) cols ids 0#32 1#32 t (ix2 r l) = BitVec.setWidth 32 (IntOp.cmpi .eq (BitVec.ofNat 32 (512 * t.val + l.val)) (ids (ix2 r 7))) := by
    pointwise [k0_pay7, k0_pay5, cols]
    rw [gid]
  rw [e1, e2, ind_eq]
  exact (Fin.sum_univ_castSucc (n := 7) fun s => if BitVec.ofNat 32 (512 * t.val + l.val) = ids (ix2 r s) then (1 : EReal) else 0).symm

/-- A row's neighbour sum. -/
theorem agg1_row (ids : IVec S640x8 32) (x18 x19 x20 : Vec Ideal S2560x128 .bf16) (w : ℕ → Fin 128 → ℝ) (r : Fin 640)
    (h18 : ∀ (j : Fin 2560) d, j.val < 2500 → x18 (ix2 j d) = (w j.val d : EReal)) (h19 : ∀ (j : Fin 2560) d, j.val < 2500 → x19 (ix2 j d) = (0 : EReal))
    (h20 : ∀ (j : Fin 2560) d, j.val < 2500 → x20 (ix2 j d) = (0 : EReal)) {key : ℕ → ℝ} {T : Finset ℕ} {v : Fin 8 → EReal}
    (hT : FullList key T (fun q => ids (ix2 r q)) v) (hcard : T.card = 8) (hlt : ∀ o ∈ T, o < 2500) (d : Fin 128) :
    agg1 (F := Ideal) ids x18 x19 x20 k0_t5_loop.trips (ix2 r d) = ((∑ j ∈ T, w j d : ℝ) : EReal) := by
  have hid : ∀ s, ids (ix2 r s) = BitVec.ofNat 32 (ids (ix2 r s)).toNat ∧ (ids (ix2 r s)).toNat < 2500 := fun s => by
    obtain ⟨o, ho, h1, -⟩ := hT.1 s
    have h1 : ids (ix2 r s) = BitVec.ofNat 32 o := h1
    have h2 := hlt o ho
    have h3 : (ids (ix2 r s)).toNat = o := by rw [h1, BitVec.toNat_ofNat]; omega
    rw [h3]; exact ⟨h1, h2⟩
  have hI := iter_keeps (agg1Step (F := Ideal) ids x18 x19 x20) (k0_pay35 (F := Ideal))
    (fun k a => a (ix2 r d) = ((∑ s : Fin 8, (if (ids (ix2 r s)).toNat < 512 * k then w (ids (ix2 r s)).toNat d else 0) : ℝ) : EReal)) ?_ ?_ k0_t5_loop.trips le_rfl
  · unfold agg1
    rw [hI, trips5, ← hT.sum hcard hlt fun j => w j d]
    exact congrArg _ (Finset.sum_congr rfl fun s _ => if_pos (by have := (hid s).2; omega))
  · pointwise [k0_pay35]
    simp
  · intro t a ha
    have ht : t.val < 5 := trips5 ▸ t.isLt
    show k0_pay36 (F := Ideal) a _ _ _ _ _ (ix2 r d) = _
    pointwise [k0_pay36]
    simp only [cnt1_at]
    refine agg_step (fun s => (hid s).1) (fun s => (hid s).2) ht (w := fun j => w j d) ha (fun x => rfl) ?_ ?_ ?_
    · intro x hx; rw [win7_at _ _ _ _ (by omega)]; exact h18 _ _ hx
    · intro x hx; rw [win7_at _ _ _ _ (by omega)]; exact h19 _ _ hx
    · intro x hx; rw [win7_at _ _ _ _ (by omega)]; exact h20 _ _ hx

/-- A row's neighbour sum. -/
theorem agg2_row (ids : IVec S640x8 32) (x18 x19 x20 : Vec Ideal S2560x128 .bf16) (w : ℕ → Fin 128 → ℝ) (r : Fin 640)
    (h18 : ∀ (j : Fin 2560) d, j.val < 2500 → x18 (ix2 j d) = (w j.val d : EReal)) (h19 : ∀ (j : Fin 2560) d, j.val < 2500 → x19 (ix2 j d) = (0 : EReal))
    (h20 : ∀ (j : Fin 2560) d, j.val < 2500 → x20 (ix2 j d) = (0 : EReal)) {key : ℕ → ℝ} {T : Finset ℕ} {v : Fin 8 → EReal}
    (hT : FullList key T (fun q => ids (ix2 r q)) v) (hcard : T.card = 8) (hlt : ∀ o ∈ T, o < 2500) (d : Fin 128) :
    agg2 (F := Ideal) ids x18 x19 x20 k0_t7_loop.trips (ix2 r d) = ((∑ j ∈ T, w j d : ℝ) : EReal) := by
  have hid : ∀ s, ids (ix2 r s) = BitVec.ofNat 32 (ids (ix2 r s)).toNat ∧ (ids (ix2 r s)).toNat < 2500 := fun s => by
    obtain ⟨o, ho, h1, -⟩ := hT.1 s
    have h1 : ids (ix2 r s) = BitVec.ofNat 32 o := h1
    have h2 := hlt o ho
    have h3 : (ids (ix2 r s)).toNat = o := by rw [h1, BitVec.toNat_ofNat]; omega
    rw [h3]; exact ⟨h1, h2⟩
  have hI := iter_keeps (agg2Step (F := Ideal) ids x18 x19 x20) (k0_pay46 (F := Ideal))
    (fun k a => a (ix2 r d) = ((∑ s : Fin 8, (if (ids (ix2 r s)).toNat < 512 * k then w (ids (ix2 r s)).toNat d else 0) : ℝ) : EReal)) ?_ ?_ k0_t7_loop.trips le_rfl
  · unfold agg2
    rw [hI, trips7, ← hT.sum hcard hlt fun j => w j d]
    exact congrArg _ (Finset.sum_congr rfl fun s _ => if_pos (by have := (hid s).2; omega))
  · pointwise [k0_pay46]
    simp
  · intro t a ha
    have ht : t.val < 5 := trips7 ▸ t.isLt
    show k0_pay47 (F := Ideal) a _ _ _ _ _ (ix2 r d) = _
    pointwise [k0_pay47]
    simp only [cnt2_at]
    refine agg_step (fun s => (hid s).1) (fun s => (hid s).2) ht (w := fun j => w j d) ha (fun x => rfl) ?_ ?_ ?_
    · intro x hx; rw [win10_at _ _ _ _ (by omega)]; exact h18 _ _ hx
    · intro x hx; rw [win10_at _ _ _ _ (by omega)]; exact h19 _ _ hx
    · intro x hx; rw [win10_at _ _ _ _ (by omega)]; exact h20 _ _ hx

end Cert.Proof.Val
-- ==== Proof.Val.KerBlock.lean ====
/- The kernel's blocks: on rows of reals each block leaves the block of those rows. -/
module

public import proofs.«01_k».proof.Proof.Val.KerAgg
public import proofs.«01_k».proof.Proof.Ideal.Run

@[expose] public section

set_option maxRecDepth 8192
set_option maxHeartbeats 1000000

noncomputable section

namespace Cert.Proof.Val

open Idealize.ShloMosaic Idealize.ShloMosaic.Pointwise
open Cert.KernelIdeal Cert.KernelIdeal.Gen Cert.Proof.KernelIdeal

/-- The first product of a block: the rows by the weights, over nine. -/
theorem pay12_at (w : Vec Ideal S1x128x128 .f32) (x : Vec Ideal S1x2560x128 .f32) (i : Fin 2560) (d : Fin 128) :
    k0_pay12 (F := Ideal) w x (ix2 i d) = (∑ k, x (ix3 0 i k) * w (ix3 0 k d)) * ((9⁻¹ : ℝ) : EReal) := by
  pointwise [k0_pay12, k0_pay11, k0_pay9]
  rw [ninth_eq]

/-- The first part of the first product's split is the product itself. -/
theorem pay17_at (w : Vec Ideal S1x128x128 .f32) (x : Vec Ideal S1x2560x128 .f32) (i : Fin 2560) (d : Fin 128) :
    k0_pay17 (F := Ideal) w x (ix2 i d) = k0_pay12 (F := Ideal) w x (ix2 i d) := by
  pointwise [k0_pay17, k0_pay13, k0_pay12]

/-- The second part of the first product's split is the product less itself. -/
theorem pay18_at (w : Vec Ideal S1x128x128 .f32) (x : Vec Ideal S1x2560x128 .f32) (i : Fin 2560) (d : Fin 128) :
    k0_pay18 (F := Ideal) (k0_pay15 w x) (ix2 i d) = k0_pay12 (F := Ideal) w x (ix2 i d) - k0_pay12 (F := Ideal) w x (ix2 i d) := by
  pointwise [k0_pay18, k0_pay15, k0_pay14, k0_pay13, k0_pay12]

/-- The third part of the first product's split is the second part less itself. -/
theorem pay19_at (w : Vec Ideal S1x128x128 .f32) (x : Vec Ideal S1x2560x128 .f32) (i : Fin 2560) (d : Fin 128) :
    k0_pay19 (F := Ideal) (k0_pay16 w x) (ix2 i d) =
      (k0_pay12 (F := Ideal) w x (ix2 i d) - k0_pay12 (F := Ideal) w x (ix2 i d)) - (k0_pay12 (F := Ideal) w x (ix2 i d) - k0_pay12 (F := Ideal) w x (ix2 i d)) := by
  pointwise [k0_pay19, k0_pay16, k0_pay15, k0_pay14, k0_pay13, k0_pay12]

/-- The second product of a block: the hidden rows by the weights, over nine. -/
theorem pay39_at (w : FVec Ideal S128x128 .f32) (x : Vec Ideal S2560x128 .f32) (i : Fin 2560) (d : Fin 128) :
    k0_pay39 (F := Ideal) w x (ix2 i d) = (∑ k, x (ix2 i k) * w (ix2 k d)) * ((9⁻¹ : ℝ) : EReal) := by
  pointwise [k0_pay39, k0_pay38]
  rw [ninth_eq]

/-- The first part of the second product's split is the product itself. -/
theorem pay43_at (w : FVec Ideal S128x128 .f32) (x : Vec Ideal S2560x128 .f32) (i : Fin 2560) (d : Fin 128) :
    k0_pay43 (F := Ideal) w x (ix2 i d) = k0_pay39 (F := Ideal) w x (ix2 i d) := by
  pointwise [k0_pay43, k0_pay40, k0_pay39]

/-- The second part of the second product's split is the product less itself. -/
theorem pay44_at (w : FVec Ideal S128x128 .f32) (x : Vec Ideal S2560x128 .f32) (i : Fin 2560) (d : Fin 128) :
    k0_pay44 (F := Ideal) w x (ix2 i d) = k0_pay39 (F := Ideal) w x (ix2 i d) - k0_pay39 (F := Ideal) w x (ix2 i d) := by
  pointwise [k0_pay44, k0_pay42, k0_pay41, k0_pay40, k0_pay39]

/-- The third part of the second product's split is the second part less itself. -/
theorem pay45_at (w : FVec Ideal S128x128 .f32) (x : Vec Ideal S2560x128 .f32) (i : Fin 2560) (d : Fin 128) :
    k0_pay45 (F := Ideal) w x (ix2 i d) =
      (k0_pay39 (F := Ideal) w x (ix2 i d) - k0_pay39 (F := Ideal) w x (ix2 i d)) - (k0_pay39 (F := Ideal) w x (ix2 i d) - k0_pay39 (F := Ideal) w x (ix2 i d)) := by
  pointwise [k0_pay45, k0_pay42, k0_pay41, k0_pay40, k0_pay39]

/-- A hidden row: the messages, the row's own product and the bias, cut at zero. -/
theorem pay37_at (a : Vec Ideal S1x128 .f32) (b : FVec Ideal S640x128 .f32) (c : Vec Ideal S640x128 .f32) (r : Fin 640) (d : Fin 128) :
    k0_pay37 (F := Ideal) a b c (ix2 r d) = max (b (ix2 r d) + c (ix2 r d) + a (ix2 0 d)) 0 := by
  pointwise [k0_pay37]

/-- A block's new row: the messages, the row's own product, the bias and the old row. -/
theorem pay48_at (a : Vec Ideal S1x128 .f32) (b : FVec Ideal S640x128 .f32) (c : Vec Ideal S640x128 .f32) (e : Vec Ideal S1x640x128 .f32) (r : Fin 640) (d : Fin 128) :
    k0_pay48 (F := Ideal) a b c e (ix3 0 r d) = b (ix2 r d) + c (ix2 r d) + a (ix2 0 d) + e (ix3 0 r d) := by
  pointwise [k0_pay48]

/-- The weights of a block, without their leading axis. -/
theorem pay8_at (a : Vec Ideal S1x128x128 .f32) (k d : Fin 128) : k0_pay8 (F := Ideal) a (ix2 k d) = a (ix3 0 k d) := by
  pointwise [k0_pay8]

/-- The rows the kernel begins with are copied as they are. -/
theorem pay49_at (a : Vec Ideal S1x2560x128 .f32) (i : Fin 2560) (d : Fin 128) : k0_pay49 (F := Ideal) a (ix3 0 i d) = a (ix3 0 i d) := by
  pointwise [k0_pay49]

/-- The neighbours are stored as they are. -/
theorem pay34_at (a : IVec S640x8 32) (r : Fin 640) (q : Fin 8) : k0_pay34 a (ix2 r q) = a (ix2 r q) := by
  pointwise [k0_pay34]

/-- A real less itself is zero. -/
theorem coe_sub_self (a : ℝ) : (a : EReal) - (a : EReal) = 0 := by rw [← EReal.coe_sub, sub_self]; rfl

section Block
variable {x12 : Vec Ideal S1x2560x128 .f32} {h : Rows} (hx : RowsAre x12 h)
  {W1 : Vec Ideal S1x128x128 .f32} {w₁ : Fin 128 → Fin 128 → ℝ} (hW1 : ∀ k d, W1 (ix3 0 k d) = (w₁ k d : EReal))
  {B1 : Vec Ideal S1x128 .f32} {b₁ : Fin 128 → ℝ} (hB1 : ∀ d, B1 (ix2 0 d) = (b₁ d : EReal))
include hx hW1

/-- On a row of the data the first product is the reference's linear map, over nine. -/
theorem hw1_at (i : Fin 2560) (d : Fin 128) (hi : i.val < 2500) :
    k0_pay12 (F := Ideal) W1 x12 (ix2 i d) = ((lin h w₁ i.val d * 9⁻¹ : ℝ) : EReal) := by
  rw [pay12_at, sum_mul_coe (fun k => hx i k hi) (fun k => hW1 k d), ← EReal.coe_mul]
  rfl

include hB1

/-- The hidden rows of a block. -/
theorem hidden_row (x14 : Vec Ideal S2560x128 .f32) (x16 : Vec Ideal S2560x8 .i32) (i : Fin 2560) (d : Fin 128) (hi : i.val < 2500) :
    (hidden (F := Ideal) W1 B1 x12 x14 x16).1 (ix2 i d) = ((max (gcn h w₁ b₁ (nbrs h) i.val d) 0 : ℝ) : EReal) := by
  have hdiv : 640 * (i.val / 640) + i.val % 640 = i.val := Nat.div_add_mod _ _
  let t : Fin k0_t2_loop.trips := ⟨i.val / 640, by rw [trips2]; omega⟩
  let r : Fin 640 := ⟨i.val % 640, Nat.mod_lt _ (by decide)⟩
  have hi' : 640 * t.val + r.val < 2500 := by show 640 * (i.val / 640) + i.val % 640 < 2500; omega
  have hir : (⟨640 * t.val + r.val, by omega⟩ : Fin 2560) = i := Fin.ext hdiv
  have hv : 640 * t.val + r.val = i.val := hdiv
  obtain ⟨v, hT, hF⟩ := tileIds_nbrs hx t r hi'
  rw [hv] at hT hF
  have e := congrFun (tiles1_hidden (F := Ideal) B1 x12 (k0_pay12 W1 x12) (k0_pay10 x12) (k0_pay17 W1 x12) (k0_pay18 (k0_pay15 W1 x12)) (k0_pay19 (k0_pay16 W1 x12)) x14 x16 t) (ix2 r d)
  rw [win8_at _ t r d (by omega), hir] at e
  unfold Cert.Proof.KernelIdeal.hidden
  rw [e]
  unfold tileHidden
  rw [pay37_at, win8_at _ t r d (by omega), hir, hw1_at hx hW1 i d hi, hB1,
    agg1_row (tileIds (F := Ideal) x12 (k0_pay10 x12) t) _ _ _ (fun j d => lin h w₁ j d * 9⁻¹) r
      (fun j d hj => by rw [pay17_at, hw1_at hx hW1 j d hj])
      (fun j d hj => by rw [pay18_at, hw1_at hx hW1 j d hj, coe_sub_self])
      (fun j d hj => by rw [pay19_at, hw1_at hx hW1 j d hj, coe_sub_self, sub_zero])
      hF hT.2.1 (fun o ho => Finset.mem_range.mp (hT.1 ho)) d,
    ← EReal.coe_add, ← EReal.coe_add, coe_max]
  rfl

/-- The lists of a block. -/
theorem ids_row (x14 : Vec Ideal S2560x128 .f32) (x16 : Vec Ideal S2560x8 .i32) (i : Fin 2560) (hi : i.val < 2500) :
    ∃ v : Fin 8 → EReal, IsTop (dist h i.val) (Finset.range 2500) (nbrs h i.val) ∧
      FullList (dist h i.val) (nbrs h i.val) (fun q => (hidden (F := Ideal) W1 B1 x12 x14 x16).2 (ix2 i q)) v := by
  have hdiv : 640 * (i.val / 640) + i.val % 640 = i.val := Nat.div_add_mod _ _
  let t : Fin k0_t2_loop.trips := ⟨i.val / 640, by rw [trips2]; omega⟩
  let r : Fin 640 := ⟨i.val % 640, Nat.mod_lt _ (by decide)⟩
  have hi' : 640 * t.val + r.val < 2500 := by show 640 * (i.val / 640) + i.val % 640 < 2500; omega
  have hir : (⟨640 * t.val + r.val, by omega⟩ : Fin 2560) = i := Fin.ext hdiv
  have hv : 640 * t.val + r.val = i.val := hdiv
  obtain ⟨v, hT, hF⟩ := tileIds_nbrs hx t r hi'
  rw [hv] at hT hF
  refine ⟨v, hT, ?_⟩
  have e : ∀ q, (hidden (F := Ideal) W1 B1 x12 x14 x16).2 (ix2 i q) = tileIds (F := Ideal) x12 (k0_pay10 x12) t (ix2 r q) := fun q => by
    have e := congrFun (tiles1_ids (F := Ideal) B1 x12 (k0_pay12 W1 x12) (k0_pay10 x12) (k0_pay17 W1 x12) (k0_pay18 (k0_pay15 W1 x12)) (k0_pay19 (k0_pay16 W1 x12)) x14 x16 t) (ix2 r q)
    rw [win6_at _ t r q (by omega), hir] at e
    unfold Cert.Proof.KernelIdeal.hidden
    rw [e]
    exact pay34_at _ r q
  rw [show (fun q => (hidden (F := Ideal) W1 B1 x12 x14 x16).2 (ix2 i q)) = fun q => tileIds (F := Ideal) x12 (k0_pay10 x12) t (ix2 r q) from funext e]
  exact hF

end Block

section Step
variable {x12 : Vec Ideal S1x2560x128 .f32} {h : Rows} (hx : RowsAre x12 h)
  {W1 : Vec Ideal S4x128x128 .f32} {w₁ : Fin 4 → Fin 128 → Fin 128 → ℝ} (hW1 : ∀ t k d, W1 (ix3 t k d) = (w₁ t k d : EReal))
  {B1 : Vec Ideal S4x128 .f32} {b₁ : Fin 4 → Fin 128 → ℝ} (hB1 : ∀ t d, B1 (ix2 t d) = (b₁ t d : EReal))
  {W2 : Vec Ideal S4x128x128 .f32} {w₂ : Fin 4 → Fin 128 → Fin 128 → ℝ} (hW2 : ∀ t k d, W2 (ix3 t k d) = (w₂ t k d : EReal))
  {B2 : Vec Ideal S4x128 .f32} {b₂ : Fin 4 → Fin 128 → ℝ} (hB2 : ∀ t d, B2 (ix2 t d) = (b₂ t d : EReal))
include hx hW1 hB1 hW2 hB2

/-- A block of the kernel on rows of reals. -/
theorem rowsStep_row (t1 : Fin k0_t1_loop.trips) (q : Fin 4) (hq : q.val = t1.val) :
    RowsAre (rowsStep (F := Ideal) W1 B1 W2 B2 t1 x12) (block h (w₁ q) (b₁ q) (w₂ q) (b₂ q)) := by
  intro i d hi
  have ht1 : t1.val < 4 := trips1 ▸ t1.isLt
  have hqe : (⟨t1.val, ht1⟩ : Fin 4) = q := Fin.ext hq.symm
  have eW1 : ∀ k d, VecWindow.window (s := S4x128x128) W1 (k0_off1 t1) S1x128x128.size (k0_off1_inb t1) (ix3 0 k d) = (w₁ q k d : EReal) := fun k d => by
    rw [win1_at _ _ _ _ ht1, hqe, hW1]
  have eW2 : ∀ k d, k0_pay8 (F := Ideal) (VecWindow.window (s := S4x128x128) W2 (k0_off1 t1) S1x128x128.size (k0_off1_inb t1)) (ix2 k d) = (w₂ q k d : EReal) := fun k d => by
    rw [pay8_at, win1_at _ _ _ _ ht1, hqe, hW2]
  have eB1 : ∀ d, VecWindow.window (s := S4x128) B1 (k0_off2 t1) S1x128.size (k0_off2_inb t1) (ix2 0 d) = (b₁ q d : EReal) := fun d => by
    rw [win2_at _ _ _ ht1, hqe, hB1]
  have eB2 : ∀ d, VecWindow.window (s := S4x128) B2 (k0_off2 t1) S1x128.size (k0_off2_inb t1) (ix2 0 d) = (b₂ q d : EReal) := fun d => by
    rw [win2_at _ _ _ ht1, hqe, hB2]
  unfold rowsStep
  dsimp only
  generalize hw2 : k0_pay8 (F := Ideal) (VecWindow.window (s := S4x128x128) W2 (k0_off1 t1) S1x128x128.size (k0_off1_inb t1)) = w2v at eW2 ⊢
  have hg1 := fun j d hj => hidden_row hx eW1 eB1 (fun _ => Scalar.ofBits (F := Ideal) .f32 0x00000000#32) (fun _ => 0#32) j d hj
  have hg2 := fun j hj => ids_row hx eW1 eB1 (fun _ => Scalar.ofBits (F := Ideal) .f32 0x00000000#32) (fun _ => 0#32) j hj
  generalize hidden (F := Ideal) (VecWindow.window W1 (k0_off1 t1) S1x128x128.size (k0_off1_inb t1)) (VecWindow.window B1 (k0_off2 t1) S1x128.size (k0_off2_inb t1)) x12
    (fun _ => Scalar.ofBits (F := Ideal) .f32 0x00000000#32) (fun _ => 0#32) = g at hg1 hg2 ⊢
  have hw : ∀ (j : Fin 2560) d, j.val < 2500 → k0_pay39 (F := Ideal) w2v g.1 (ix2 j d) =
      ((lin (fun i d => max (gcn h (w₁ q) (b₁ q) (nbrs h) i d) 0) (w₂ q) j.val d * 9⁻¹ : ℝ) : EReal) := fun j d hj => by
    rw [pay39_at, sum_mul_coe (fun k => hg1 j k hj) (fun k => eW2 k d), ← EReal.coe_mul]
    rfl
  have hdiv : 640 * (i.val / 640) + i.val % 640 = i.val := Nat.div_add_mod _ _
  let t : Fin k0_t6_loop.trips := ⟨i.val / 640, by rw [trips6]; omega⟩
  let r : Fin 640 := ⟨i.val % 640, Nat.mod_lt _ (by decide)⟩
  have hi' : 640 * t.val + r.val < 2500 := by show 640 * (i.val / 640) + i.val % 640 < 2500; omega
  have hir : (⟨640 * t.val + r.val, by omega⟩ : Fin 2560) = i := Fin.ext hdiv
  have e := congrFun (tiles2_rows (F := Ideal) (VecWindow.window (s := S4x128) B2 (k0_off2 t1) S1x128.size (k0_off2_inb t1)) (k0_pay39 w2v g.1) g.2 (k0_pay43 w2v g.1) (k0_pay44 w2v g.1) (k0_pay45 w2v g.1) x12 t) (ix3 0 r d)
  rw [win12_at _ t r d (by omega), hir] at e
  refine e.trans ?_
  obtain ⟨v, hT, hF⟩ := hg2 i hi
  rw [pay48_at, win11_at _ t r d (by omega), hir, win12_at _ t r d (by omega), hir, hw i d hi, hx i d hi, eB2,
    agg2_row _ _ _ _ (fun j d => lin (fun i d => max (gcn h (w₁ q) (b₁ q) (nbrs h) i d) 0) (w₂ q) j d * 9⁻¹) r
      (fun j d hj => by rw [pay43_at, hw j d hj])
      (fun j d hj => by rw [pay44_at, hw j d hj, coe_sub_self])
      (fun j d hj => by rw [pay45_at, hw j d hj, coe_sub_self, sub_zero])
      (key := dist h i.val) (T := nbrs h i.val) (v := v)
      (by
        rw [show (fun q => VecWindow.window (s := S2560x8) g.2 (k0_off9 t) S640x8.size (k0_off9_inb t) (ix2 r q)) = fun q => g.2 (ix2 i q) from
          funext fun q => by rw [win9_at _ t r q (by omega), hir]]
        exact hF) hT.2.1 (fun o ho => Finset.mem_range.mp (hT.1 ho)) d,
    ← EReal.coe_add, ← EReal.coe_add, ← EReal.coe_add]
  rfl

/-- The rows after the first `k` of the four blocks. -/
theorem rowsAfter_row (k : ℕ) (hk : k ≤ 4) :
    RowsAre (rowsAfter (F := Ideal) W1 B1 W2 B2 x12 k)
      (iter (n := 4) (fun q h => block h (w₁ q) (b₁ q) (w₂ q) (b₂ q)) h k) := by
  induction k with
  | zero => exact hx
  | succ k ih =>
    have h1 : k < k0_t1_loop.trips := by rw [trips1]; exact hk
    have e1 := iter_succ (rowsStep (F := Ideal) W1 B1 W2 B2) x12 ⟨k, h1⟩
    have e2 := iter_succ (n := 4) (fun q h => block h (w₁ q) (b₁ q) (w₂ q) (b₂ q)) h ⟨k, hk⟩
    unfold rowsAfter
    rw [show k + 1 = (⟨k, h1⟩ : Fin k0_t1_loop.trips).val + 1 from rfl, e1]
    rw [show (⟨k, h1⟩ : Fin k0_t1_loop.trips).val + 1 = (⟨k, hk⟩ : Fin 4).val + 1 from rfl, e2]
    exact rowsStep_row (ih (by omega)) hW1 hB1 hW2 hB2 ⟨k, h1⟩ ⟨k, hk⟩ rfl

end Step

end Cert.Proof.Val
-- ==== Proof.Val.KerHead.lean ====
/- The kernel's rows after its four blocks, and its head, read at their indices. -/
module

public import proofs.«01_k».proof.Proof.Val.Shared
public import proofs.«01_k».proof.Proof.Val.KerBlock

@[expose] public section

set_option maxRecDepth 8192
set_option maxHeartbeats 1000000

noncomputable section

namespace Cert.Proof.Val

open Idealize.ShloMosaic Idealize.ShloMosaic.Pointwise
open Cert.KernelIdeal Cert.KernelIdeal.Gen Cert.Proof.KernelIdeal

/-- Four blocks one after the other. -/
theorem iter4 (w₁ : Fin 4 → Fin 128 → Fin 128 → ℝ) (b₁ : Fin 4 → Fin 128 → ℝ) (w₂ : Fin 4 → Fin 128 → Fin 128 → ℝ) (b₂ : Fin 4 → Fin 128 → ℝ) (h : Rows) :
    iter (n := 4) (fun q h => block h (w₁ q) (b₁ q) (w₂ q) (b₂ q)) h 4 = endRows w₁ b₁ w₂ b₂ h := rfl

/-- The rows the kernel leaves of one batch. -/
theorem outRows_row {X1 : Vec Ideal S1x2560x128 .f32} {h : Rows} (hx : RowsAre X1 h)
    {W1 W2 : Vec Ideal S4x128x128 .f32} {B1 B2 : Vec Ideal S4x128 .f32} {w₁ w₂ : Fin 4 → Fin 128 → Fin 128 → ℝ} {b₁ b₂ : Fin 4 → Fin 128 → ℝ}
    (hW1 : ∀ t k d, W1 (ix3 t k d) = (w₁ t k d : EReal)) (hB1 : ∀ t d, B1 (ix2 t d) = (b₁ t d : EReal))
    (hW2 : ∀ t k d, W2 (ix3 t k d) = (w₂ t k d : EReal)) (hB2 : ∀ t d, B2 (ix2 t d) = (b₂ t d : EReal)) :
    RowsAre (outRows (F := Ideal) X1 W1 B1 W2 B2) (endRows w₁ b₁ w₂ b₂ h) := by
  have hx' : RowsAre (k0_pay49 (F := Ideal) X1) h := fun i d hi => (pay49_at X1 i d).trans (hx i d hi)
  have e := rowsAfter_row hx' hW1 hB1 hW2 hB2 4 (le_refl 4)
  rw [iter4] at e
  unfold outRows
  rw [show k0_t1_loop.trips = 4 from trips1]
  exact e

/-- The head's normalised row. -/
theorem pay50_at (h : Vec Ideal S1x2560x128 .f32) (w : Vec Ideal S128x128 .f32) (v : Vec Ideal S1x128 .f32) (i : Fin 2560) (c : Fin 128) :
    k0_pay50 (F := Ideal) h w v (ix2 i c) = headNorm (headZ (fun x => h (ix3 0 i x)) (fun x c => w (ix2 x c)) fun c => v (ix2 0 c)) c := by
  unfold headNorm headMean headZ
  pointwise [k0_pay50]

/-- The head's offsets, from the normalised rows: scale, shift, cut at zero, second map, tanh, a tenth. -/
theorem pay1_at (z : Vec Ideal S2560x128 .f32) (g b : Vec Ideal S1x128 .f32) (w : Vec Ideal S128x128 .f32) (v : Vec Ideal S1x128 .f32) (i : Fin 2560) (c : Fin 8) :
    k0_pay1 (F := Ideal) z g b w v (ix3 0 i c)
      = Ideal.tanh (∑ x, max (z (ix2 i x) * g (ix2 0 x) + b (ix2 0 x)) 0 * w (ix2 x ⟨c.val, by omega⟩) + v (ix2 0 ⟨c.val, by omega⟩)) * Ideal.ofBits .f32 1036831949#32 := by
  pointwise [k0_pay1]

/-- The kernel's offsets of one batch. -/
theorem outHead_at (X1 : Vec Ideal S1x2560x128 .f32) (W1 : Vec Ideal S4x128x128 .f32) (B1 : Vec Ideal S4x128 .f32) (W2 : Vec Ideal S4x128x128 .f32) (B2 : Vec Ideal S4x128 .f32)
    (X6 : Vec Ideal S128x128 .f32) (X7 X8 X9 : Vec Ideal S1x128 .f32) (X10 : Vec Ideal S128x128 .f32) (X11 : Vec Ideal S1x128 .f32) (i : Fin 2560) (c : Fin 8) :
    outHead (F := Ideal) X1 W1 B1 W2 B2 X6 X7 X8 X9 X10 X11 (ix3 0 i c)
      = headOff (fun x => outRows (F := Ideal) X1 W1 B1 W2 B2 (ix3 0 i x)) (fun x c => X6 (ix2 x c)) (fun c => X7 (ix2 0 c)) (fun c => X8 (ix2 0 c)) (fun c => X9 (ix2 0 c))
          (fun x => X10 (ix2 x ⟨c.val, by omega⟩)) (X11 (ix2 0 ⟨c.val, by omega⟩)) := by
  unfold outHead
  generalize outRows (F := Ideal) X1 W1 B1 W2 B2 = h
  rw [pay1_at]
  unfold headOff
  simp only [pay50_at]

end Cert.Proof.Val
-- ==== Proof.Val.KerHost.lean ====
/- The arrays the kernel finds, and the blocks of them each grid point reads. -/
module

public import proofs.«01_k».proof.Proof.Val.KerHead
public import proofs.«01_k».proof.Proof.Ideal.Launch

@[expose] public section

set_option maxRecDepth 8192
set_option maxHeartbeats 1000000

noncomputable section

namespace Cert.Proof.Val

open Idealize.ShloMosaic Idealize.ShloMosaic.Pointwise
open Idealize.ShloMosaic.TcCoe
open Cert.KernelIdeal Cert.KernelIdeal.Gen Cert.Proof.KernelIdeal

variable (m : (ℓ : Loc nD τ sig) → Buf (Elt Ideal) ℓ)

/-- The features the kernel finds: the points brought to the front, and padded. -/
theorem V_feat (c : Dev nD) : V m c main_call0_v1
    = pad S4x2560x128 ![0, 0, 0] ![0, 60, 0] ![0, 0, 0] (transpose S4x2500x128 [0, 2, 1] (m ((c : Thread nD τ).loc main_arg1) : FVec Ideal S4x128x2500 .f32) transposes_S4x128x2500_S4x2500x128_0_2_1)
        (sitofp (F := Ideal) .f32 (constantI S_ 32 0#32)) pads_S4x2500x128_S4x2560x128_000_0600_000 h_S_ := by
  show StableHlo.after hostOps0 _ _ = _
  after_results
  rfl

/-- The head's second weights, as the launch passes them: padded by zeros to 128 columns. -/
theorem V_w2 (c : Dev nD) : V m c main_call0_v2
    = pad S128x128 ![0, 0] ![0, 122] ![0, 0] (m ((c : Thread nD τ).loc main_arg10) : FVec Ideal S128x6 .f32) (sitofp (F := Ideal) .f32 (constantI S_ 32 0#32)) pads_S128x6_S128x128_000_01220 h_S_ := by
  show StableHlo.after hostOps0 _ _ = _
  after_results
  rfl

/-- The head's second bias, as the launch passes it: padded by zeros to 128 entries, as a row. -/
theorem V_b2 (c : Dev nD) : V m c main_call0_v4
    = broadcastInDim S1x128 ![1] bcast_S128_S1x128_1 (pad S128 ![0] ![122] ![0] (m ((c : Thread nD τ).loc main_arg11) : FVec Ideal S6 .f32) (sitofp (F := Ideal) .f32 (constantI S_ 32 0#32)) pads_S6_S128_01220 h_S_) := by
  show StableHlo.after hostOps0 _ _ = _
  after_results
  rfl

/-- The head's first bias, as the launch passes it: as a row. -/
theorem V_b1 (c : Dev nD) : V m c main_call0_v5 = broadcastInDim S1x128 ![1] bcast_S128_S1x128_1 (m ((c : Thread nD τ).loc main_arg7) : FVec Ideal S128 .f32) := by
  show StableHlo.after hostOps0 _ _ = _
  after_results
  rfl

/-- The normalisation's scale, as the launch passes it: as a row. -/
theorem V_g (c : Dev nD) : V m c main_call0_v6 = broadcastInDim S1x128 ![1] bcast_S128_S1x128_1 (m ((c : Thread nD τ).loc main_arg8) : FVec Ideal S128 .f32) := by
  show StableHlo.after hostOps0 _ _ = _
  after_results
  rfl

/-- The normalisation's shift, as the launch passes it: as a row. -/
theorem V_b (c : Dev nD) : V m c main_call0_v7 = broadcastInDim S1x128 ![1] bcast_S128_S1x128_1 (m ((c : Thread nD τ).loc main_arg9) : FVec Ideal S128 .f32) := by
  show StableHlo.after hostOps0 _ _ = _
  after_results
  rfl

/-- Every step reads the blocks' first weights at block zero. -/
theorem index1 : ∀ t : Fin cfg0.N, win0_1.index t (0 : Fin 3) = 0 ∧ win0_1.index t (1 : Fin 3) = 0 ∧ win0_1.index t (2 : Fin 3) = 0 := (by decide +kernel : ∀ t : Fin grid0.N, _)

/-- The block of the blocks' first weights is the array: an index stands for itself. -/
theorem emb1 (t : Fin cfg0.N) (j : S4x128x128.Idx) : ((cfg0.win 1).blk t).view.emb j = j := by
  obtain ⟨e0, e1, e2⟩ := index1 t
  funext a; apply Fin.ext
  match a with
  | ⟨0, _⟩ => show win0_1.index t (0 : Fin 3) * 4 + 1 * (j 0).val = (j 0).val; omega
  | ⟨1, _⟩ => show win0_1.index t (1 : Fin 3) * 128 + 1 * (j 1).val = (j 1).val; omega
  | ⟨2, _⟩ => show win0_1.index t (2 : Fin 3) * 128 + 1 * (j 2).val = (j 2).val; omega

/-- The block of the blocks' first weights is the whole array. -/
theorem blk1 (c : Dev nD) (t : Fin cfg0.N) : (iblk m c 1 t : Vec Ideal S4x128x128 .f32) = V m c main_arg2 := by
  funext j; show V m c main_arg2 (((cfg0.win 1).blk t).view.emb j) = V m c main_arg2 j; rw [emb1]

/-- Every step reads the blocks' first biases at block zero. -/
theorem index2 : ∀ t : Fin cfg0.N, win0_2.index t (0 : Fin 2) = 0 ∧ win0_2.index t (1 : Fin 2) = 0 := (by decide +kernel : ∀ t : Fin grid0.N, _)

/-- The block of the blocks' first biases is the array: an index stands for itself. -/
theorem emb2 (t : Fin cfg0.N) (j : S4x128.Idx) : ((cfg0.win 2).blk t).view.emb j = j := by
  obtain ⟨e0, e1⟩ := index2 t
  funext a; apply Fin.ext
  match a with
  | ⟨0, _⟩ => show win0_2.index t (0 : Fin 2) * 4 + 1 * (j 0).val = (j 0).val; omega
  | ⟨1, _⟩ => show win0_2.index t (1 : Fin 2) * 128 + 1 * (j 1).val = (j 1).val; omega

/-- The block of the blocks' first biases is the whole array. -/
theorem blk2 (c : Dev nD) (t : Fin cfg0.N) : (iblk m c 2 t : Vec Ideal S4x128 .f32) = V m c main_arg3 := by
  funext j; show V m c main_arg3 (((cfg0.win 2).blk t).view.emb j) = V m c main_arg3 j; rw [emb2]

/-- Every step reads the blocks' second weights at block zero. -/
theorem index3 : ∀ t : Fin cfg0.N, win0_3.index t (0 : Fin 3) = 0 ∧ win0_3.index t (1 : Fin 3) = 0 ∧ win0_3.index t (2 : Fin 3) = 0 := (by decide +kernel : ∀ t : Fin grid0.N, _)

/-- The block of the blocks' second weights is the array: an index stands for itself. -/
theorem emb3 (t : Fin cfg0.N) (j : S4x128x128.Idx) : ((cfg0.win 3).blk t).view.emb j = j := by
  obtain ⟨e0, e1, e2⟩ := index3 t
  funext a; apply Fin.ext
  match a with
  | ⟨0, _⟩ => show win0_3.index t (0 : Fin 3) * 4 + 1 * (j 0).val = (j 0).val; omega
  | ⟨1, _⟩ => show win0_3.index t (1 : Fin 3) * 128 + 1 * (j 1).val = (j 1).val; omega
  | ⟨2, _⟩ => show win0_3.index t (2 : Fin 3) * 128 + 1 * (j 2).val = (j 2).val; omega

/-- The block of the blocks' second weights is the whole array. -/
theorem blk3 (c : Dev nD) (t : Fin cfg0.N) : (iblk m c 3 t : Vec Ideal S4x128x128 .f32) = V m c main_arg4 := by
  funext j; show V m c main_arg4 (((cfg0.win 3).blk t).view.emb j) = V m c main_arg4 j; rw [emb3]

/-- Every step reads the blocks' second biases at block zero. -/
theorem index4 : ∀ t : Fin cfg0.N, win0_4.index t (0 : Fin 2) = 0 ∧ win0_4.index t (1 : Fin 2) = 0 := (by decide +kernel : ∀ t : Fin grid0.N, _)

/-- The block of the blocks' second biases is the array: an index stands for itself. -/
theorem emb4 (t : Fin cfg0.N) (j : S4x128.Idx) : ((cfg0.win 4).blk t).view.emb j = j := by
  obtain ⟨e0, e1⟩ := index4 t
  funext a; apply Fin.ext
  match a with
  | ⟨0, _⟩ => show win0_4.index t (0 : Fin 2) * 4 + 1 * (j 0).val = (j 0).val; omega
  | ⟨1, _⟩ => show win0_4.index t (1 : Fin 2) * 128 + 1 * (j 1).val = (j 1).val; omega

/-- The block of the blocks' second biases is the whole array. -/
theorem blk4 (c : Dev nD) (t : Fin cfg0.N) : (iblk m c 4 t : Vec Ideal S4x128 .f32) = V m c main_arg5 := by
  funext j; show V m c main_arg5 (((cfg0.win 4).blk t).view.emb j) = V m c main_arg5 j; rw [emb4]

/-- Every step reads the head's first weights at block zero. -/
theorem index5 : ∀ t : Fin cfg0.N, win0_5.index t (0 : Fin 2) = 0 ∧ win0_5.index t (1 : Fin 2) = 0 := (by decide +kernel : ∀ t : Fin grid0.N, _)

/-- The block of the head's first weights is the array: an index stands for itself. -/
theorem emb5 (t : Fin cfg0.N) (j : S128x128.Idx) : ((cfg0.win 5).blk t).view.emb j = j := by
  obtain ⟨e0, e1⟩ := index5 t
  funext a; apply Fin.ext
  match a with
  | ⟨0, _⟩ => show win0_5.index t (0 : Fin 2) * 128 + 1 * (j 0).val = (j 0).val; omega
  | ⟨1, _⟩ => show win0_5.index t (1 : Fin 2) * 128 + 1 * (j 1).val = (j 1).val; omega

/-- The block of the head's first weights is the whole array. -/
theorem blk5 (c : Dev nD) (t : Fin cfg0.N) : (iblk m c 5 t : Vec Ideal S128x128 .f32) = V m c main_arg6 := by
  funext j; show V m c main_arg6 (((cfg0.win 5).blk t).view.emb j) = V m c main_arg6 j; rw [emb5]

/-- Every step reads the head's first bias at block zero. -/
theorem index6 : ∀ t : Fin cfg0.N, win0_6.index t (0 : Fin 2) = 0 ∧ win0_6.index t (1 : Fin 2) = 0 := (by decide +kernel : ∀ t : Fin grid0.N, _)

/-- The block of the head's first bias is the array: an index stands for itself. -/
theorem emb6 (t : Fin cfg0.N) (j : S1x128.Idx) : ((cfg0.win 6).blk t).view.emb j = j := by
  obtain ⟨e0, e1⟩ := index6 t
  funext a; apply Fin.ext
  match a with
  | ⟨0, _⟩ => show win0_6.index t (0 : Fin 2) * 1 + 1 * (j 0).val = (j 0).val; omega
  | ⟨1, _⟩ => show win0_6.index t (1 : Fin 2) * 128 + 1 * (j 1).val = (j 1).val; omega

/-- The block of the head's first bias is the whole array. -/
theorem blk6 (c : Dev nD) (t : Fin cfg0.N) : (iblk m c 6 t : Vec Ideal S1x128 .f32) = V m c main_call0_v5 := by
  funext j; show V m c main_call0_v5 (((cfg0.win 6).blk t).view.emb j) = V m c main_call0_v5 j; rw [emb6]

/-- Every step reads the normalisation's scale at block zero. -/
theorem index7 : ∀ t : Fin cfg0.N, win0_7.index t (0 : Fin 2) = 0 ∧ win0_7.index t (1 : Fin 2) = 0 := (by decide +kernel : ∀ t : Fin grid0.N, _)

/-- The block of the normalisation's scale is the array: an index stands for itself. -/
theorem emb7 (t : Fin cfg0.N) (j : S1x128.Idx) : ((cfg0.win 7).blk t).view.emb j = j := by
  obtain ⟨e0, e1⟩ := index7 t
  funext a; apply Fin.ext
  match a with
  | ⟨0, _⟩ => show win0_7.index t (0 : Fin 2) * 1 + 1 * (j 0).val = (j 0).val; omega
  | ⟨1, _⟩ => show win0_7.index t (1 : Fin 2) * 128 + 1 * (j 1).val = (j 1).val; omega

/-- The block of the normalisation's scale is the whole array. -/
theorem blk7 (c : Dev nD) (t : Fin cfg0.N) : (iblk m c 7 t : Vec Ideal S1x128 .f32) = V m c main_call0_v6 := by
  funext j; show V m c main_call0_v6 (((cfg0.win 7).blk t).view.emb j) = V m c main_call0_v6 j; rw [emb7]

/-- Every step reads the normalisation's shift at block zero. -/
theorem index8 : ∀ t : Fin cfg0.N, win0_8.index t (0 : Fin 2) = 0 ∧ win0_8.index t (1 : Fin 2) = 0 := (by decide +kernel : ∀ t : Fin grid0.N, _)

/-- The block of the normalisation's shift is the array: an index stands for itself. -/
theorem emb8 (t : Fin cfg0.N) (j : S1x128.Idx) : ((cfg0.win 8).blk t).view.emb j = j := by
  obtain ⟨e0, e1⟩ := index8 t
  funext a; apply Fin.ext
  match a with
  | ⟨0, _⟩ => show win0_8.index t (0 : Fin 2) * 1 + 1 * (j 0).val = (j 0).val; omega
  | ⟨1, _⟩ => show win0_8.index t (1 : Fin 2) * 128 + 1 * (j 1).val = (j 1).val; omega

/-- The block of the normalisation's shift is the whole array. -/
theorem blk8 (c : Dev nD) (t : Fin cfg0.N) : (iblk m c 8 t : Vec Ideal S1x128 .f32) = V m c main_call0_v7 := by
  funext j; show V m c main_call0_v7 (((cfg0.win 8).blk t).view.emb j) = V m c main_call0_v7 j; rw [emb8]

/-- Every step reads the head's second weights at block zero. -/
theorem index9 : ∀ t : Fin cfg0.N, win0_9.index t (0 : Fin 2) = 0 ∧ win0_9.index t (1 : Fin 2) = 0 := (by decide +kernel : ∀ t : Fin grid0.N, _)

/-- The block of the head's second weights is the array: an index stands for itself. -/
theorem emb9 (t : Fin cfg0.N) (j : S128x128.Idx) : ((cfg0.win 9).blk t).view.emb j = j := by
  obtain ⟨e0, e1⟩ := index9 t
  funext a; apply Fin.ext
  match a with
  | ⟨0, _⟩ => show win0_9.index t (0 : Fin 2) * 128 + 1 * (j 0).val = (j 0).val; omega
  | ⟨1, _⟩ => show win0_9.index t (1 : Fin 2) * 128 + 1 * (j 1).val = (j 1).val; omega

/-- The block of the head's second weights is the whole array. -/
theorem blk9 (c : Dev nD) (t : Fin cfg0.N) : (iblk m c 9 t : Vec Ideal S128x128 .f32) = V m c main_call0_v2 := by
  funext j; show V m c main_call0_v2 (((cfg0.win 9).blk t).view.emb j) = V m c main_call0_v2 j; rw [emb9]

/-- Every step reads the head's second bias at block zero. -/
theorem index10 : ∀ t : Fin cfg0.N, win0_10.index t (0 : Fin 2) = 0 ∧ win0_10.index t (1 : Fin 2) = 0 := (by decide +kernel : ∀ t : Fin grid0.N, _)

/-- The block of the head's second bias is the array: an index stands for itself. -/
theorem emb10 (t : Fin cfg0.N) (j : S1x128.Idx) : ((cfg0.win 10).blk t).view.emb j = j := by
  obtain ⟨e0, e1⟩ := index10 t
  funext a; apply Fin.ext
  match a with
  | ⟨0, _⟩ => show win0_10.index t (0 : Fin 2) * 1 + 1 * (j 0).val = (j 0).val; omega
  | ⟨1, _⟩ => show win0_10.index t (1 : Fin 2) * 128 + 1 * (j 1).val = (j 1).val; omega

/-- The block of the head's second bias is the whole array. -/
theorem blk10 (c : Dev nD) (t : Fin cfg0.N) : (iblk m c 10 t : Vec Ideal S1x128 .f32) = V m c main_call0_v4 := by
  funext j; show V m c main_call0_v4 (((cfg0.win 10).blk t).view.emb j) = V m c main_call0_v4 j; rw [emb10]

/-- A step reads the features of its own batch. -/
theorem index0 : ∀ t : Fin cfg0.N, win0_0.index t (0 : Fin 3) = t.val ∧ win0_0.index t (1 : Fin 3) = 0 ∧ win0_0.index t (2 : Fin 3) = 0 := (by decide +kernel : ∀ t : Fin grid0.N, _)

/-- A block of the array is one batch. -/
theorem emb0 (t : Fin cfg0.N) (b : Fin 4) (hb : b.val = t.val) (i : Fin 2560) (d : Fin 128) :
    ((cfg0.win 0).blk t).view.emb (ix3 0 i d : S1x2560x128.Idx) = (ix3 b i d : S4x2560x128.Idx) := by
  obtain ⟨e0, e1, e2⟩ := index0 t
  funext a; apply Fin.ext
  match a with
  | ⟨0, _⟩ => show win0_0.index t (0 : Fin 3) * 1 + 1 * 0 = b.val; omega
  | ⟨1, _⟩ => show win0_0.index t (1 : Fin 3) * 2560 + 1 * i.val = i.val; omega
  | ⟨2, _⟩ => show win0_0.index t (2 : Fin 3) * 128 + 1 * d.val = d.val; omega

/-- A step writes the rows of its own batch. -/
theorem index11 : ∀ t : Fin cfg0.N, win0_11.index t (0 : Fin 3) = t.val ∧ win0_11.index t (1 : Fin 3) = 0 ∧ win0_11.index t (2 : Fin 3) = 0 := (by decide +kernel : ∀ t : Fin grid0.N, _)

/-- A block of the array is one batch. -/
theorem emb11 (t : Fin cfg0.N) (b : Fin 4) (hb : b.val = t.val) (i : Fin 2560) (d : Fin 128) :
    ((cfg0.win 11).blk t).view.emb (ix3 0 i d : S1x2560x128.Idx) = (ix3 b i d : S4x2560x128.Idx) := by
  obtain ⟨e0, e1, e2⟩ := index11 t
  funext a; apply Fin.ext
  match a with
  | ⟨0, _⟩ => show win0_11.index t (0 : Fin 3) * 1 + 1 * 0 = b.val; omega
  | ⟨1, _⟩ => show win0_11.index t (1 : Fin 3) * 2560 + 1 * i.val = i.val; omega
  | ⟨2, _⟩ => show win0_11.index t (2 : Fin 3) * 128 + 1 * d.val = d.val; omega

/-- A step writes the offsets of its own batch. -/
theorem index12 : ∀ t : Fin cfg0.N, win0_12.index t (0 : Fin 3) = t.val ∧ win0_12.index t (1 : Fin 3) = 0 ∧ win0_12.index t (2 : Fin 3) = 0 := (by decide +kernel : ∀ t : Fin grid0.N, _)

/-- A block of the array is one batch. -/
theorem emb12 (t : Fin cfg0.N) (b : Fin 4) (hb : b.val = t.val) (i : Fin 2560) (d : Fin 8) :
    ((cfg0.win 12).blk t).view.emb (ix3 0 i d : S1x2560x8.Idx) = (ix3 b i d : S4x2560x8.Idx) := by
  obtain ⟨e0, e1, e2⟩ := index12 t
  funext a; apply Fin.ext
  match a with
  | ⟨0, _⟩ => show win0_12.index t (0 : Fin 3) * 1 + 1 * 0 = b.val; omega
  | ⟨1, _⟩ => show win0_12.index t (1 : Fin 3) * 2560 + 1 * i.val = i.val; omega
  | ⟨2, _⟩ => show win0_12.index t (2 : Fin 3) * 8 + 1 * d.val = d.val; omega

/-- The features the grid point of batch `b` reads. -/
theorem blk0_at (c : Dev nD) (t : Fin cfg0.N) (b : Fin 4) (hb : b.val = t.val) (i : Fin 2560) (hi : i.val < 2500) (d : Fin 128) :
    (iblk m c 0 t : Vec Ideal S1x2560x128 .f32) (ix3 0 i d) = (m ((c : Thread nD τ).loc main_arg1) : FVec Ideal S4x128x2500 .f32) (ix3 b d ⟨i.val, hi⟩) := by
  show V m c main_call0_v1 (((cfg0.win 0).blk t).view.emb (ix3 0 i d)) = _
  rw [emb0 t b hb, V_feat]
  generalize (m ((c : Thread nD τ).loc main_arg1) : FVec Ideal S4x128x2500 .f32) = y
  pointwise []
  rw [dif_pos hi]

/-- The padding leaves the first six columns of the head's second weights as they are. -/
theorem padW_at (y : FVec Ideal S128x6 .f32) (z : FVec Ideal S_ .f32) (x : Fin 128) (q : Fin 128) (hq : q.val < 6) :
    pad S128x128 ![0, 0] ![0, 122] ![0, 0] y z pads_S128x6_S128x128_000_01220 h_S_ (ix2 x q) = y (ix2 x ⟨q.val, hq⟩) := by
  pointwise []
  rw [dif_pos hq]

/-- The padding leaves the first six entries of the head's second bias as they are. -/
theorem padB_at (y : FVec Ideal S6 .f32) (z : FVec Ideal S_ .f32) (q : Fin 128) (hq : q.val < 6) :
    broadcastInDim S1x128 ![1] bcast_S128_S1x128_1 (pad S128 ![0] ![122] ![0] y z pads_S6_S128_01220 h_S_) (ix2 0 q) = y (ix1 ⟨q.val, hq⟩) := by
  pointwise []
  rw [dif_pos hq]

/-- The padded second layer's weights, on the columns there were. -/
theorem V_w2_at (c : Dev nD) (x : Fin 128) (q : Fin 128) (hq : q.val < 6) :
    (V m c main_call0_v2 : FVec Ideal S128x128 .f32) (ix2 x q) = (m ((c : Thread nD τ).loc main_arg10) : FVec Ideal S128x6 .f32) (ix2 x ⟨q.val, hq⟩) := by
  rw [V_w2]
  exact padW_at _ _ x q hq

/-- An entry of the head's second bias, among the first six. -/
theorem V_b2_at (c : Dev nD) (q : Fin 128) (hq : q.val < 6) :
    (V m c main_call0_v4 : FVec Ideal S1x128 .f32) (ix2 0 q) = (m ((c : Thread nD τ).loc main_arg11) : FVec Ideal S6 .f32) (ix1 ⟨q.val, hq⟩) := by
  rw [V_b2]
  exact padB_at _ _ q hq

/-- An entry of the head's first bias. -/
theorem V_b1_at (c : Dev nD) (q : Fin 128) :
    (V m c main_call0_v5 : FVec Ideal S1x128 .f32) (ix2 0 q) = (m ((c : Thread nD τ).loc main_arg7) : FVec Ideal S128 .f32) (ix1 q) := by
  rw [V_b1]
  generalize (m ((c : Thread nD τ).loc main_arg7) : FVec Ideal S128 .f32) = y
  pointwise []

/-- An entry of the normalisation's scale. -/
theorem V_g_at (c : Dev nD) (q : Fin 128) :
    (V m c main_call0_v6 : FVec Ideal S1x128 .f32) (ix2 0 q) = (m ((c : Thread nD τ).loc main_arg8) : FVec Ideal S128 .f32) (ix1 q) := by
  rw [V_g]
  generalize (m ((c : Thread nD τ).loc main_arg8) : FVec Ideal S128 .f32) = y
  pointwise []

/-- An entry of the normalisation's shift. -/
theorem V_b_at (c : Dev nD) (q : Fin 128) :
    (V m c main_call0_v7 : FVec Ideal S1x128 .f32) (ix2 0 q) = (m ((c : Thread nD τ).loc main_arg9) : FVec Ideal S128 .f32) (ix1 q) := by
  rw [V_b]
  generalize (m ((c : Thread nD τ).loc main_arg9) : FVec Ideal S128 .f32) = y
  pointwise []

end Cert.Proof.Val
-- ==== Proof.Val.KerRes.lean ====
/- The kernel's results: what its grid points leave, laid out as the program returns it. -/
module

public import proofs.«01_k».proof.Proof.Val.KerHost
public import Idealize.ShloMosaic.Lib.Pipeline.FrameValue

@[expose] public section

set_option maxRecDepth 8192
set_option maxHeartbeats 1000000

noncomputable section

namespace Cert.Proof.Val

open Idealize.ShloMosaic Idealize.ShloMosaic.Pointwise
open Idealize.ShloMosaic.TcCoe
open Cert.KernelIdeal Cert.KernelIdeal.Gen Cert.Proof.KernelIdeal

variable (m : (ℓ : Loc nD τ sig) → Buf (Elt Ideal) ℓ)

/-- The grid point of a batch. -/
def pointOf (b : Fin 4) : Fin cfg0.N := ⟨b.val, b.isLt⟩

/-- All the rows, batch by batch. -/
def allRows (c : Dev nD) : Vec Ideal S4x2560x128 .f32 := fun j => outR m c (pointOf (j 0)) (ix3 0 (j 1) (j 2))

/-- All the offsets, batch by batch. -/
def allHead (c : Dev nD) : Vec Ideal S4x2560x8 .f32 := fun j => outH m c (pointOf (j 0)) (ix3 0 (j 1) (j 2))

/-- After a step its block of the first output holds the rows of its batch. -/
theorem after11 (c : Dev nD) (t : Fin cfg0.N) : (dats m 0 c).after 11 t = outR m c t := by dsimp only [dats, afterW]

/-- After a step its block of the second output holds the offsets of its batch. -/
theorem after12 (c : Dev nD) (t : Fin cfg0.N) : (dats m 0 c).after 12 t = outH m c t := by dsimp only [dats, afterW]

/-- What a step writes back to the first output is its part of the rows of all batches. -/
theorem flushed11 (c : Dev nD) (t : Fin cfg0.N) : (dats m 0 c).flushed 11 t = ((cfg0.win 11).blk t).view.read (Elt Ideal) (allRows m c) := by
  funext j
  show (dats m 0 c).after 11 t j = allRows m c (((cfg0.win 11).blk t).view.emb j)
  rw [after11]
  obtain ⟨i, d, rfl⟩ : ∃ (i : Fin 2560) (d : Fin 128), j = ix3 0 i d := ⟨j 1, j 2, by
    funext a; apply Fin.ext
    match a with
    | ⟨0, _⟩ => have := (j 0).isLt; show (j 0).val = 0; exact Nat.lt_one_iff.mp this
    | ⟨1, _⟩ => rfl
    | ⟨2, _⟩ => rfl⟩
  rw [emb11 t ⟨t.val, t.isLt⟩ rfl i d]
  rfl

/-- What a step writes back to the second output is its part of the offsets of all batches. -/
theorem flushed12 (c : Dev nD) (t : Fin cfg0.N) : (dats m 0 c).flushed 12 t = ((cfg0.win 12).blk t).view.read (Elt Ideal) (allHead m c) := by
  funext j
  show (dats m 0 c).after 12 t j = allHead m c (((cfg0.win 12).blk t).view.emb j)
  rw [after12]
  obtain ⟨i, d, rfl⟩ : ∃ (i : Fin 2560) (d : Fin 8), j = ix3 0 i d := ⟨j 1, j 2, by
    funext a; apply Fin.ext
    match a with
    | ⟨0, _⟩ => have := (j 0).isLt; show (j 0).val = 0; exact Nat.lt_one_iff.mp this
    | ⟨1, _⟩ => rfl
    | ⟨2, _⟩ => rfl⟩
  rw [emb12 t ⟨t.val, t.isLt⟩ rfl i d]
  rfl

/-- Every entry of the first output is written back by some step. -/
theorem covered11 (j : S4x2560x128.Idx) : ∃ t : Fin cfg0.N, (cfg0.win 11).flush t = true ∧ j ∈ ((cfg0.win 11).blk t).view.set :=
  ⟨pointOf (j 0), flush0_11 _, by
    have h := ((cfg0.win 11).blk (pointOf (j 0))).view.emb_mem_set (ix3 0 (j 1) (j 2) : S1x2560x128.Idx)
    rw [emb11 (pointOf (j 0)) (j 0) rfl (j 1) (j 2)] at h
    rwa [eq_ix3 j]⟩

/-- Every entry of the second output is written back by some step. -/
theorem covered12 (j : S4x2560x8.Idx) : ∃ t : Fin cfg0.N, (cfg0.win 12).flush t = true ∧ j ∈ ((cfg0.win 12).blk t).view.set :=
  ⟨pointOf (j 0), flush0_12 _, by
    have h := ((cfg0.win 12).blk (pointOf (j 0))).view.emb_mem_set (ix3 0 (j 1) (j 2) : S1x2560x8.Idx)
    rw [emb12 (pointOf (j 0)) (j 0) rfl (j 1) (j 2)] at h
    rwa [eq_ix3 j]⟩

/-- The array of rows the grid leaves. -/
theorem arr11 (c : Dev nD) : (dats m 0 c).arrAt 11 cfg0.N = allRows m c :=
  (dats m 0 c).arrAt_eq_of_cover 11 (allRows m c) (fun t _ => flushed11 m c t) covered11

/-- The array of offsets the grid leaves. -/
theorem arr12 (c : Dev nD) : (dats m 0 c).arrAt 12 cfg0.N = allHead m c :=
  (dats m 0 c).arrAt_eq_of_cover 12 (allHead m c) (fun t _ => flushed12 m c t) covered12

/-- The offsets laid out by batch, point, axis and copy. -/
def kerOff (y : FVec Ideal S4x2560x8 .f32) : FVec Ideal S4x2500x3x2 .f32 :=
  shapeCast S4x2500x3x2 (extractStridedSlice S4x2500x6 ![0, 0, 0] y slices_S4x2560x8_S4x2500x6_0_0_0) shapeCasts_S4x2500x6_S4x2500x3x2

/-- The offsets added to the points. -/
def layOut (x : FVec Ideal S4x3x2500 .f32) (y : FVec Ideal S4x2500x3x2 .f32) : FVec Ideal S4x3x5000 .f32 :=
  shapeCast S4x3x5000 (addf (broadcastInDim S4x3x2x2500 ![0, 1, 2, 3] bcast_S4x3x1x2500_S4x3x2x2500_0_1_2_3 (broadcastInDim S4x3x1x2500 ![0, 1, 3] bcast_S4x3x2500_S4x3x1x2500_0_1_3 x))
    (transpose S4x3x2x2500 [0, 2, 3, 1] y transposes_S4x2500x3x2_S4x3x2x2500_0_2_3_1)) shapeCasts_S4x3x2x2500_S4x3x5000

/-- The rows without their padding, the points along the rows. -/
def kerRows (y : FVec Ideal S4x2560x128 .f32) : FVec Ideal S4x128x2500 .f32 :=
  transpose S4x128x2500 [0, 2, 1] (extractStridedSlice S4x2500x128 ![0, 0, 0] y slices_S4x2560x128_S4x2500x128_0_0_0) transposes_S4x2500x128_S4x128x2500_0_2_1

/-- The lines after the call make the first result from the positions and the offsets. -/
theorem tail1 (W : Valuation τ sig (Elt Ideal)) : StableHlo.after hostOps1 W (Proc.devRef .tc main_v0_0)
    = layOut (W (Proc.devRef .tc main_arg0)) (kerOff (W (Proc.devRef .tc main_call0_v8_1))) := by
  after_results
  rfl

/-- The lines after the call make the second result from the rows. -/
theorem tail2 (W : Valuation τ sig (Elt Ideal)) : StableHlo.after hostOps1 W (Proc.devRef .tc main_v0_1) = kerRows (W (Proc.devRef .tc main_call0_v8_0)) := by
  after_results
  rfl

/-- The windows stand for distinct arrays. -/
theorem arrRef_inj : Function.Injective (Pipeline.arrRef spec0) := by decide

/-- What the program returns first. -/
theorem res1 (c : Dev nD) : Pipeline.afterTail₀ cfgs (dats m) 0 (V0 m) [hostOps1] c main_v0_0
    = layOut (m ((c : Thread nD τ).loc main_arg0)) (kerOff (allHead m c)) := by
  refine (tail1 _).trans (congrArg₂ layOut ?_ (congrArg kerOff ?_))
  · exact (Pipeline.withArrays_of_ne _ c (V0 m c) _ main_arg0 (by exact (by decide : ∀ w, Pipeline.arrRef spec0 w ≠ main_arg0))).trans (V_main_arg0 m c)
  · exact (Pipeline.withArrays_arr spec0 arrRef_inj c (V0 m c) _ 12).trans (arr12 m c)

/-- What the program returns second. -/
theorem res2 (c : Dev nD) : Pipeline.afterTail₀ cfgs (dats m) 0 (V0 m) [hostOps1] c main_v0_1 = kerRows (allRows m c) := by
  refine (tail2 _).trans (congrArg kerRows ?_)
  exact (Pipeline.withArrays_arr spec0 arrRef_inj c (V0 m c) _ 11).trans (arr11 m c)

/-- An entry of the second result: the rows without the padding, transposed. -/
theorem kerRows_at (y : FVec Ideal S4x2560x128 .f32) (b : Fin 4) (d : Fin 128) (i : Fin 2500) : kerRows y (ix3 b d i) = y (ix3 b ⟨i.val, by omega⟩ d) := by
  pointwise [kerRows]

/-- An entry of the offsets, without the padding, as three coordinates for two points. -/
theorem kerOff_at (y : FVec Ideal S4x2560x8 .f32) (b : Fin 4) (i : Fin 2500) (a : Fin 3) (s : Fin 2) :
    kerOff y (ix4 b i a s) = y (ix3 b ⟨i.val, by omega⟩ ⟨a.val * 2 + s.val, by omega⟩) := by
  pointwise [kerOff]

end Cert.Proof.Val
-- ==== Proof.Val.KerAll.lean ====
/- What the kernel's arrays hold, from the arrays it is given. -/
module

public import proofs.«01_k».proof.Proof.Val.KerRes

@[expose] public section

set_option maxRecDepth 8192
set_option maxHeartbeats 1000000

noncomputable section

namespace Cert.Proof.Val

open Idealize.ShloMosaic Idealize.ShloMosaic.Pointwise
open Idealize.ShloMosaic.TcCoe
open Cert.KernelIdeal Cert.KernelIdeal.Gen Cert.Proof.KernelIdeal

variable (m : (ℓ : Loc nD τ sig) → Buf (Elt Ideal) ℓ)

/-- The rows the kernel leaves are those after the four blocks. -/
theorem allRows_at (c : Dev nD) {x : Fin 4 → Fin 128 → Fin 2500 → ℝ} {w₁ w₂ : Fin 4 → Fin 128 → Fin 128 → ℝ} {b₁ b₂ : Fin 4 → Fin 128 → ℝ}
    (hx : ∀ b d i, (m ((c : Thread nD τ).loc main_arg1) : FVec Ideal S4x128x2500 .f32) (ix3 b d i) = (x b d i : EReal))
    (hw₁ : ∀ q k d, (m ((c : Thread nD τ).loc main_arg2) : FVec Ideal S4x128x128 .f32) (ix3 q k d) = (w₁ q k d : EReal))
    (hb₁ : ∀ q d, (m ((c : Thread nD τ).loc main_arg3) : FVec Ideal S4x128 .f32) (ix2 q d) = (b₁ q d : EReal))
    (hw₂ : ∀ q k d, (m ((c : Thread nD τ).loc main_arg4) : FVec Ideal S4x128x128 .f32) (ix3 q k d) = (w₂ q k d : EReal))
    (hb₂ : ∀ q d, (m ((c : Thread nD τ).loc main_arg5) : FVec Ideal S4x128 .f32) (ix2 q d) = (b₂ q d : EReal))
    (b : Fin 4) (i : Fin 2500) (d : Fin 128) :
    allRows m c (ix3 b ⟨i.val, by omega⟩ d) = (endRows w₁ b₁ w₂ b₂ (startRows x b) i.val d : EReal) := by
  show outR m c (pointOf b) (ix3 0 ⟨i.val, by omega⟩ d) = _
  unfold outR
  have e1 := (blk1 m c (pointOf b)).trans (V_main_arg2 m c)
  have e2 := (blk2 m c (pointOf b)).trans (V_main_arg3 m c)
  have e3 := (blk3 m c (pointOf b)).trans (V_main_arg4 m c)
  have e4 := (blk4 m c (pointOf b)).trans (V_main_arg5 m c)
  refine outRows_row (h := startRows x b) ?_ (fun q k d => (congrFun e1 _).trans (hw₁ q k d)) (fun q d => (congrFun e2 _).trans (hb₁ q d))
    (fun q k d => (congrFun e3 _).trans (hw₂ q k d)) (fun q d => (congrFun e4 _).trans (hb₂ q d)) ⟨i.val, by omega⟩ d i.isLt
  intro i d hi
  exact (blk0_at m c (pointOf b) b rfl i hi d).trans ((hx b d ⟨i.val, hi⟩).trans (congrArg _ (startRows_at x b ⟨i.val, hi⟩ d).symm))

/-- The offsets the kernel leaves are the head's of those rows. -/
theorem allHead_at (c : Dev nD) (b : Fin 4) (i : Fin 2560) (q : Fin 6) :
    allHead m c (ix3 b i ⟨q.val, by omega⟩)
      = headOff (fun x => allRows m c (ix3 b i x)) (fun x y => (m ((c : Thread nD τ).loc main_arg6) : FVec Ideal S128x128 .f32) (ix2 x y))
          (fun y => (m ((c : Thread nD τ).loc main_arg7) : FVec Ideal S128 .f32) (ix1 y)) (fun y => (m ((c : Thread nD τ).loc main_arg8) : FVec Ideal S128 .f32) (ix1 y))
          (fun y => (m ((c : Thread nD τ).loc main_arg9) : FVec Ideal S128 .f32) (ix1 y)) (fun x => (m ((c : Thread nD τ).loc main_arg10) : FVec Ideal S128x6 .f32) (ix2 x q))
          ((m ((c : Thread nD τ).loc main_arg11) : FVec Ideal S6 .f32) (ix1 q)) := by
  show outH m c (pointOf b) (ix3 0 i ⟨q.val, by omega⟩) = _
  unfold outH
  refine (outHead_at _ _ _ _ _ _ _ _ _ _ _ i ⟨q.val, by omega⟩).trans ?_
  have e6 : (fun x y => (iblk m c 5 (pointOf b) : Vec Ideal S128x128 .f32) (ix2 x y)) = fun x y => (m ((c : Thread nD τ).loc main_arg6) : FVec Ideal S128x128 .f32) (ix2 x y) :=
    funext fun x => funext fun y => congrFun ((blk5 m c (pointOf b)).trans (V_main_arg6 m c)) _
  have e7 : (fun y => (iblk m c 6 (pointOf b) : Vec Ideal S1x128 .f32) (ix2 0 y)) = fun y => (m ((c : Thread nD τ).loc main_arg7) : FVec Ideal S128 .f32) (ix1 y) :=
    funext fun y => (congrFun (blk6 m c (pointOf b)) _).trans (V_b1_at m c y)
  have e8 : (fun y => (iblk m c 7 (pointOf b) : Vec Ideal S1x128 .f32) (ix2 0 y)) = fun y => (m ((c : Thread nD τ).loc main_arg8) : FVec Ideal S128 .f32) (ix1 y) :=
    funext fun y => (congrFun (blk7 m c (pointOf b)) _).trans (V_g_at m c y)
  have e9 : (fun y => (iblk m c 8 (pointOf b) : Vec Ideal S1x128 .f32) (ix2 0 y)) = fun y => (m ((c : Thread nD τ).loc main_arg9) : FVec Ideal S128 .f32) (ix1 y) :=
    funext fun y => (congrFun (blk8 m c (pointOf b)) _).trans (V_b_at m c y)
  have e10 : (fun x => (iblk m c 9 (pointOf b) : Vec Ideal S128x128 .f32) (ix2 x ⟨q.val, by omega⟩)) = fun x => (m ((c : Thread nD τ).loc main_arg10) : FVec Ideal S128x6 .f32) (ix2 x q) :=
    funext fun x => (congrFun (blk9 m c (pointOf b)) _).trans (V_w2_at m c x ⟨q.val, by omega⟩ q.isLt)
  have e11 : (iblk m c 10 (pointOf b) : Vec Ideal S1x128 .f32) (ix2 0 ⟨q.val, by omega⟩) = (m ((c : Thread nD τ).loc main_arg11) : FVec Ideal S6 .f32) (ix1 q) :=
    (congrFun (blk10 m c (pointOf b)) _).trans (V_b2_at m c ⟨q.val, by omega⟩ q.isLt)
  exact congr (congr (congr (congr (congr (congrArg (headOff _) e6) e7) e8) e9) e10) e11

end Cert.Proof.Val
-- ==== Proof.Val.RefTop.lean ====
/- What the sort of the reference's scores puts first: the eight nearest. -/
module

public import proofs.«01_k».proof.Proof.Val.Math
public import Idealize.ShloMosaic.Lib.SortFacts
public import Idealize.ShloMosaic.Lib.Pointwise

@[expose] public section

set_option maxRecDepth 8192
set_option maxHeartbeats 1000000

noncomputable section

namespace Cert.Proof.Val

open Idealize.ShloMosaic Idealize.ShloMosaic.Pointwise

/-- On numbers in order the sort asks its question only of a later number against an earlier one. -/
theorem stableSort_later {n : ℕ} (R R' : Fin n → Fin n → Bool) (h : ∀ a b, a < b → R b a = R' b a) (l : List (Fin n)) (hl : l.Pairwise (· < ·)) :
    stableSort R l = stableSort R' l := by
  induction l with
  | nil => rfl
  | cons a l ih =>
    rw [List.pairwise_cons] at hl
    show insertBefore R a (stableSort R l) = insertBefore R' a (stableSort R' l)
    rw [ih hl.2]
    exact insertBefore_congr R R' a _ fun b hb => h a b (hl.1 b ((perm_stableSort R' l).mem_iff.mp hb))

/-- The order of the candidates, as a test. -/
def test {n : ℕ} (key : ℕ → ℝ) (a b : Fin n) : Bool := @decide (before key a.val b.val) (Classical.propDecidable _)

/-- The test is that the first number comes before the second. -/
theorem test_iff {n : ℕ} {key : ℕ → ℝ} {a b : Fin n} : test key a b = true ↔ before key a.val b.val :=
  @decide_eq_true_iff _ (Classical.propDecidable _)

/-- The test fails where the first number does not come before the second. -/
theorem test_false {n : ℕ} {key : ℕ → ℝ} {a b : Fin n} : test key a b = false ↔ ¬ before key a.val b.val :=
  @decide_eq_false_iff_not _ (Classical.propDecidable _)

/-- Of two distinct numbers one comes before the other. -/
theorem before_total {key : ℕ → ℝ} {a b : ℕ} (hne : a ≠ b) (h : ¬ before key b a) : before key a b := by
  rw [before_iff] at h ⊢
  rcases lt_trichotomy (key a) (key b) with h1 | h1 | h1
  · exact Or.inl h1
  · exact Or.inr ⟨h1, lt_of_le_of_ne (not_lt.mp fun h2 => h (Or.inr ⟨h1.symm, h2⟩)) hne⟩
  · exact absurd (Or.inl h1) h

/-- A sort by smaller keys is a sort by the order of the candidates. -/
theorem sortedFrom_test {n : ℕ} (key : ℕ → ℝ) (R : Fin n → Fin n → Bool) (hR : ∀ a b, R a b = true ↔ key a.val < key b.val) :
    sortedFrom R = sortedFrom (test key) := by
  have hs : sortPositions n R = sortPositions n (test key) := by
    refine stableSort_later _ _ (fun a b hab => ?_) _ (List.pairwise_lt_finRange n)
    rw [Bool.eq_iff_iff, hR]
    rw [test_iff, before_iff]
    have : ¬ b.val < a.val := not_lt.mpr (le_of_lt hab)
    constructor
    · exact fun h => Or.inl h
    · rintro (h | h)
      · exact h
      · exact absurd h.2 this
  funext k
  unfold sortedFrom
  simp only [List.get_eq_getElem, hs, Fin.val_cast]

/-- The first eight of the sort are the eight nearest, each once. -/
theorem sort_top {key : ℕ → ℝ} (R : Fin 2500 → Fin 2500 → Bool) (hR : ∀ a b, R a b = true ↔ key a.val < key b.val) (e : Fin 8 → Fin 2500)
    (he : ∀ q, (e q).val = q.val) :
    IsTop key (Finset.range 2500) (Finset.univ.image fun q : Fin 8 => (sortedFrom R (e q)).val) ∧
      Function.Injective fun q : Fin 8 => (sortedFrom R (e q)).val := by
  have hinj : Function.Injective fun q : Fin 8 => (sortedFrom R (e q)).val := fun a b hab => by
    have h1 := sortedFrom_injective R (Fin.ext hab)
    exact Fin.ext (by rw [← he a, ← he b, h1])
  refine ⟨⟨fun x hx => ?_, ?_, fun a ha b hb hbT => ?_⟩, hinj⟩
  · obtain ⟨q, -, rfl⟩ := Finset.mem_image.mp hx
    exact Finset.mem_range.mpr (Fin.isLt _)
  · rw [Finset.card_image_of_injective _ hinj]; rfl
  · obtain ⟨q, -, rfl⟩ := Finset.mem_image.mp ha
    obtain ⟨j, hj⟩ := sortedFrom_surjective R ⟨b, Finset.mem_range.mp hb⟩
    have hjq : (e q) < j := by
      by_contra hc
      have hjlt : j.val < 8 := lt_of_le_of_lt (show j.val ≤ (e q).val from not_lt.mp hc) (by rw [he]; exact q.isLt)
      refine hbT (Finset.mem_image.mpr ⟨⟨j.val, hjlt⟩, Finset.mem_univ _, ?_⟩)
      have : e ⟨j.val, hjlt⟩ = j := Fin.ext (he _)
      rw [this, hj]
    have htr : test key (sortedFrom R j) (sortedFrom R (e q)) = false := by
      have := sortedFrom_noInversion (test key) (test (n := 2500) key)
        (fun a b hab => test_false.mpr fun h => before_asymm (test_iff.mp hab) h) (fun _ _ h => h)
        (fun a b c hab hbc => test_false.mpr fun h => by
          rw [test_false] at hab hbc
          by_cases hba : b = a
          · exact hbc (hba ▸ h)
          · exact hbc (before_trans (before_total (fun e => hba (Fin.ext e)) hab) h)) (e q) j hjq
      rwa [← sortedFrom_test key R hR] at this
    have hne : (sortedFrom R (e q)).val ≠ b := fun h => hbT (Finset.mem_image.mpr ⟨q, Finset.mem_univ _, h⟩)
    rw [hj] at htr
    exact before_total hne (test_false.mp htr)

end Cert.Proof.Val
-- ==== Proof.Val.RefDefs.lean ====
/- The reference's block as functions of the rows and the weights, and the reference's terms as these. -/
module

public import proofs.«01_k».proof.Proof.Gen.ReferenceIdeal.Run
public import Idealize.ShloMosaic.PureOps.Ideal

@[expose] public section

set_option maxRecDepth 8192
set_option maxHeartbeats 1000000

noncomputable section

namespace Cert.Proof.Val

open Idealize.ShloMosaic
open Cert.ReferenceIdeal Cert.ReferenceIdeal.Gen Cert.ReferenceIdeal.Value

/-- The rows by batch. -/
def rRows (h : FVec Ideal S10000x128 .f32) : FVec Ideal S4x2500x128 .f32 := shapeCast _ h shapeCasts_S10000x128_S4x2500x128

/-- The squares of the rows. -/
def rSq (h : FVec Ideal S10000x128 .f32) : FVec Ideal S4x2500 .f32 :=
  Host.reduceAdd (mulf (rRows h) (rRows h)) (constant S_ .f32 0x00000000#32) reducesTo_S4x2500x128_S4x2500_d2 h_S_

/-- The products of the rows, twice. -/
def rDot (h : FVec Ideal S10000x128 .f32) : FVec Ideal S4x2500x2500 .f32 :=
  mulf (broadcastInDim S4x2500x2500 ![] bcast_S_S4x2500x2500 (constant S_ .f32 0x40000000#32)) (Host.dotGeneral dot_S4x2500x128_S4x2500x128_S4x2500x2500_2_2_1_1_0_0 none (rRows h) (rRows h))

/-- What keeps a point from being its own neighbour. -/
def rPen : FVec Ideal S4x2500x2500 .f32 :=
  broadcastInDim S4x2500x2500 ![0, 1, 2] bcast_S1x2500x2500_S4x2500x2500_0_1_2 (mulf (broadcastInDim S1x2500x2500 ![1, 2] bcast_S2500x2500_S1x2500x2500_1_2 (uitofp .f32 (cmpi .eq (addi (iotaInDim S2500x2500 32 0) (broadcastInDim S2500x2500 ![] bcast_S_S2500x2500 (constantI S_ 32 0#32))) (iotaInDim S2500x2500 32 1)))) (broadcastInDim S1x2500x2500 ![] bcast_S_S1x2500x2500 (constant S_ .f32 0x501502F9#32)))

/-- The distances, negated. -/
def rScore (h : FVec Ideal S10000x128 .f32) : FVec Ideal S4x2500x2500 .f32 :=
  Host.negf (addf (subf (addf (broadcastInDim S4x2500x2500 ![0, 1, 2] bcast_S4x2500x1_S4x2500x2500_0_1_2 (broadcastInDim S4x2500x1 ![0, 1] bcast_S4x2500_S4x2500x1_0_1 (rSq h))) (broadcastInDim S4x2500x2500 ![0, 1, 2] bcast_S4x1x2500_S4x2500x2500_0_1_2 (broadcastInDim S4x1x2500 ![0, 2] bcast_S4x2500_S4x1x2500_0_2 (rSq h)))) (rDot h)) rPen)

/-- The first row of each batch. -/
def rBase : IVec S4x1x1 32 :=
  broadcastInDim S4x1x1 ![0] bcast_S4_S4x1x1_0 (muli (iotaInDim S4 32 0) (broadcastInDim S4 ![] bcast_S_S4 (constantI S_ 32 2500#32)))

/-- The eight of each row. -/
def rIds (x : FVec Ideal S4x2500x2500 .f32) : IVec S4x2500x8 32 :=
  (Host.topK S4x2500x8 2 (FloatOps.cmpfTotal .gt) x sliceFits_S4x2500x2500_S4x2500x8).2

/-- The edges from the neighbours. -/
def rNear (ids : IVec S4x2500x8 32) : IVec S1x80000 32 :=
  broadcastInDim S1x80000 ![1] bcast_S80000_S1x80000_1 (shapeCast _ (addi ids (broadcastInDim S4x2500x8 ![0, 1, 2] bcast_S4x1x1_S4x2500x8_0_1_2 rBase)) shapeCasts_S4x2500x8_S80000)

/-- The points those edges go to. -/
def rSelf : IVec S1x80000 32 :=
  broadcastInDim S1x80000 ![1] bcast_S80000_S1x80000_1 (shapeCast _ (broadcastInDim S4x2500x8 ![0, 1, 2] bcast_S4x2500x1_S4x2500x8_0_1_2 (addi (broadcastInDim S4x2500x1 ![0, 1, 2] bcast_S1x2500x1_S4x2500x1_0_1_2 (broadcastInDim S1x2500x1 ![1] bcast_S2500_S1x2500x1_1 (iotaInDim S2500 32 0))) (broadcastInDim S4x2500x1 ![0, 1, 2] bcast_S4x1x1_S4x2500x1_0_1_2 rBase))) shapeCasts_S4x2500x8_S80000)

/-- Both. -/
def rEdges (ids : IVec S4x2500x8 32) : IVec S2x80000 32 :=
  concatenate S2x80000 0 [⟨S1x80000, rNear ids⟩, ⟨S1x80000, rSelf⟩] concatenates_S1x80000_S1x80000_S2x80000_d0

/-- Where each edge starts, a loop at every point added; -/
def rSrc (ids : IVec S4x2500x8 32) : IVec S90000 32 :=
  concatenate S90000 0 [⟨S80000, (shapeCast _ (extractStridedSlice S1x80000 ![0, 0] (rEdges ids) slices_S2x80000_S1x80000_0_0) shapeCasts_S1x80000_S80000)⟩, ⟨S10000, iotaInDim S10000 32 0⟩] concatenates_S80000_S10000_S90000_d0

/-- where it ends. -/
def rDst (ids : IVec S4x2500x8 32) : IVec S90000 32 :=
  concatenate S90000 0 [⟨S80000, (shapeCast _ (extractStridedSlice S1x80000 ![1, 0] (rEdges ids) slices_S2x80000_S1x80000_1_0) shapeCasts_S1x80000_S80000)⟩, ⟨S10000, iotaInDim S10000 32 0⟩] concatenates_S80000_S10000_S90000_d0

/-- Numbers as start indices, those below zero counted from the end. -/
def rWrap (v : IVec S90000 32) : IVec S90000x1 32 :=
  broadcastInDim S90000x1 ![0] bcast_S90000_S90000x1_0 (select (cmpi .slt v (broadcastInDim S90000 ![] bcast_S_S90000 (constantI S_ 32 0#32))) (addi v (broadcastInDim S90000 ![] bcast_S_S90000 (constantI S_ 32 10000#32))) v)

/-- The number of edges that end at each point. -/
def rDeg (dst : IVec S90000 32) : FVec Ideal S10000 .f32 :=
  Host.scatterAdd scatter_S10000_S90000x1_S90000_n_0_0_1 (broadcastInDim S10000 ![] bcast_S_S10000 (constant S_ .f32 0x00000000#32)) (rWrap dst) (broadcastInDim S90000 ![] bcast_S_S90000 (constant S_ .f32 0x3F800000#32))

/-- One over its root. -/
def rInv (dst : IVec S90000 32) : FVec Ideal S10000 .f32 :=
  Host.rsqrt (maximumf (rDeg dst) (broadcastInDim S10000 ![] bcast_S_S10000 (constant S_ .f32 0x3F800000#32)))

/-- The weight of each edge. -/
def rNorm (src dst : IVec S90000 32) : FVec Ideal S90000 .f32 :=
  mulf (Host.gather gather_S10000_S90000x1_S90000_n_0_n_n_0_1_1 (rInv dst) (rWrap src)) (Host.gather gather_S10000_S90000x1_S90000_n_0_n_n_0_1_1 (rInv dst) (rWrap dst))

/-- What each edge carries. -/
def rMsg (z : FVec Ideal S10000x128 .f32) (src dst : IVec S90000 32) : FVec Ideal S90000x128 .f32 :=
  mulf (Host.gather gather_S10000x128_S90000x1_S90000x128_1_0_n_n_0_1_1128 z (rWrap src)) (broadcastInDim S90000x128 ![0, 1] bcast_S90000x1_S90000x128_0_1 (broadcastInDim S90000x1 ![0] bcast_S90000_S90000x1_0 (rNorm src dst)))

/-- What the edges bring to each point. -/
def rProp (z : FVec Ideal S10000x128 .f32) (src dst : IVec S90000 32) : FVec Ideal S10000x128 .f32 :=
  Host.scatterAdd scatter_S10000x128_S90000x1_S90000x128_1_0_0_1 (broadcastInDim S10000x128 ![] bcast_S_S10000x128 (constant S_ .f32 0x00000000#32)) (rWrap dst) (rMsg z src dst)

/-- One graph convolution. -/
def rGcn (h : FVec Ideal S10000x128 .f32) (w : FVec Ideal S128x128 .f32) (b : FVec Ideal S128 .f32) (src dst : IVec S90000 32) : FVec Ideal S10000x128 .f32 :=
  addf (rProp (Host.dotGeneral dot_S10000x128_S128x128_S10000x128_1_0_0_1_n_n none h w) src dst) (broadcastInDim S10000x128 ![0, 1] bcast_S1x128_S10000x128_0_1 (broadcastInDim S1x128 ![1] bcast_S128_S1x128_1 b))

/-- One block over a graph. -/
def rConv (h : FVec Ideal S10000x128 .f32) (w₁ : FVec Ideal S128x128 .f32) (b₁ : FVec Ideal S128 .f32) (w₂ : FVec Ideal S128x128 .f32) (b₂ : FVec Ideal S128 .f32)
    (src dst : IVec S90000 32) : FVec Ideal S10000x128 .f32 :=
  addf (rGcn (maximumf (rGcn h w₁ b₁ src dst) (broadcastInDim S10000x128 ![] bcast_S_S10000x128 (constant S_ .f32 0x00000000#32))) w₂ b₂ src dst) h

/-- One block. -/
def rBlock (h : FVec Ideal S10000x128 .f32) (w₁ : FVec Ideal S128x128 .f32) (b₁ : FVec Ideal S128 .f32) (w₂ : FVec Ideal S128x128 .f32) (b₂ : FVec Ideal S128 .f32) :
    FVec Ideal S10000x128 .f32 :=
  rConv h w₁ b₁ w₂ b₂ (rSrc (rIds (rScore h))) (rDst (rIds (rScore h)))

/-- The reference's rows after block 1. -/
theorem after1 (V0 : Valuation τ sig (Elt Ideal)) :
    res_main_v164 V0 = rBlock (res_main_v1 V0) (shapeCast _ (extractStridedSlice S1x128x128 ![0, 0, 0] (V0 (Proc.devRef .tc main_arg2)) slices_S4x128x128_S1x128x128_0_0_0) shapeCasts_S1x128x128_S128x128) (shapeCast _ (extractStridedSlice S1x128 ![0, 0] (V0 (Proc.devRef .tc main_arg3)) slices_S4x128_S1x128_0_0) shapeCasts_S1x128_S128) (shapeCast _ (extractStridedSlice S1x128x128 ![0, 0, 0] (V0 (Proc.devRef .tc main_arg4)) slices_S4x128x128_S1x128x128_0_0_0) shapeCasts_S1x128x128_S128x128) (shapeCast _ (extractStridedSlice S1x128 ![0, 0] (V0 (Proc.devRef .tc main_arg5)) slices_S4x128_S1x128_0_0) shapeCasts_S1x128_S128) := rfl

/-- The reference's rows after block 2. -/
theorem after2 (V0 : Valuation τ sig (Elt Ideal)) :
    res_main_v327 V0 = rBlock (res_main_v164 V0) (shapeCast _ (extractStridedSlice S1x128x128 ![1, 0, 0] (V0 (Proc.devRef .tc main_arg2)) slices_S4x128x128_S1x128x128_1_0_0) shapeCasts_S1x128x128_S128x128) (shapeCast _ (extractStridedSlice S1x128 ![1, 0] (V0 (Proc.devRef .tc main_arg3)) slices_S4x128_S1x128_1_0) shapeCasts_S1x128_S128) (shapeCast _ (extractStridedSlice S1x128x128 ![1, 0, 0] (V0 (Proc.devRef .tc main_arg4)) slices_S4x128x128_S1x128x128_1_0_0) shapeCasts_S1x128x128_S128x128) (shapeCast _ (extractStridedSlice S1x128 ![1, 0] (V0 (Proc.devRef .tc main_arg5)) slices_S4x128_S1x128_1_0) shapeCasts_S1x128_S128) := rfl

/-- The reference's rows after block 3. -/
theorem after3 (V0 : Valuation τ sig (Elt Ideal)) :
    res_main_v490 V0 = rBlock (res_main_v327 V0) (shapeCast _ (extractStridedSlice S1x128x128 ![2, 0, 0] (V0 (Proc.devRef .tc main_arg2)) slices_S4x128x128_S1x128x128_2_0_0) shapeCasts_S1x128x128_S128x128) (shapeCast _ (extractStridedSlice S1x128 ![2, 0] (V0 (Proc.devRef .tc main_arg3)) slices_S4x128_S1x128_2_0) shapeCasts_S1x128_S128) (shapeCast _ (extractStridedSlice S1x128x128 ![2, 0, 0] (V0 (Proc.devRef .tc main_arg4)) slices_S4x128x128_S1x128x128_2_0_0) shapeCasts_S1x128x128_S128x128) (shapeCast _ (extractStridedSlice S1x128 ![2, 0] (V0 (Proc.devRef .tc main_arg5)) slices_S4x128_S1x128_2_0) shapeCasts_S1x128_S128) := rfl

/-- The reference's rows after block 4. -/
theorem after4 (V0 : Valuation τ sig (Elt Ideal)) :
    res_main_v653 V0 = rBlock (res_main_v490 V0) (shapeCast _ (extractStridedSlice S1x128x128 ![3, 0, 0] (V0 (Proc.devRef .tc main_arg2)) slices_S4x128x128_S1x128x128_3_0_0) shapeCasts_S1x128x128_S128x128) (shapeCast _ (extractStridedSlice S1x128 ![3, 0] (V0 (Proc.devRef .tc main_arg3)) slices_S4x128_S1x128_3_0) shapeCasts_S1x128_S128) (shapeCast _ (extractStridedSlice S1x128x128 ![3, 0, 0] (V0 (Proc.devRef .tc main_arg4)) slices_S4x128x128_S1x128x128_3_0_0) shapeCasts_S1x128x128_S128x128) (shapeCast _ (extractStridedSlice S1x128 ![3, 0] (V0 (Proc.devRef .tc main_arg5)) slices_S4x128_S1x128_3_0) shapeCasts_S1x128_S128) := rfl

end Cert.Proof.Val
-- ==== Proof.Val.RefKnn.lean ====
/- The reference's neighbours: on rows of reals, the eight nearest of each point. -/
module

public import proofs.«01_k».proof.Proof.Val.RefTop
public import proofs.«01_k».proof.Proof.Val.RefDefs
public import proofs.«01_k».proof.Proof.Val.Reals

@[expose] public section

set_option maxRecDepth 8192
set_option maxHeartbeats 1000000

noncomputable section

namespace Cert.Proof.Val

open Idealize.ShloMosaic Idealize.ShloMosaic.Pointwise
open Cert.ReferenceIdeal Cert.ReferenceIdeal.Gen

/-- The row of point `i` of batch `b`. -/
def refRow (b : Fin 4) (i : Fin 2500) : Fin 10000 := ⟨b.val * 2500 + i.val, by omega⟩

/-- The reference's rows hold the rows of the four batches. -/
def RefRows (x : FVec Ideal S10000x128 .f32) (h : Fin 4 → Rows) : Prop := ∀ b i d, x (ix2 (refRow b i) d) = (h b i.val d : EReal)

/-- The rows by batch are the rows of the flat array. -/
theorem rRows_at (x : FVec Ideal S10000x128 .f32) (b : Fin 4) (i : Fin 2500) (d : Fin 128) : rRows x (ix3 b i d) = x (ix2 (refRow b i) d) := by
  pointwise [rRows]
  rfl

/-- A row's square: the sum of the squares of its entries. -/
theorem rSq_at (x : FVec Ideal S10000x128 .f32) (b : Fin 4) (i : Fin 2500) : rSq x (ix2 b i) = ∑ d, rRows x (ix3 b i d) * rRows x (ix3 b i d) := by
  pointwise [rSq]

/-- Twice the product of two rows of a batch. -/
theorem rDot_at (x : FVec Ideal S10000x128 .f32) (b : Fin 4) (i j : Fin 2500) : rDot x (ix3 b i j) = ((2:ℝ):EReal) * ∑ d, rRows x (ix3 b i d) * rRows x (ix3 b j d) := by
  pointwise [rDot]
  rw [two_eq]

/-- The penalty on the diagonal, and zero elsewhere. -/
theorem rPen_at (b : Fin 4) (i j : Fin 2500) : rPen (ix3 b i j) = ((if j.val = i.val then pen else 0 : ℝ) : EReal) := by
  pointwise [rPen]
  rw [pen_eq]
  have h0 : IntOp.addi (BitVec.ofNat 32 i.val) 0#32 = BitVec.ofNat 32 i.val := by simp [IntOp.addi]
  rw [h0]
  by_cases h : j.val = i.val
  · rw [if_pos h, h]
    have : IntOp.cmpi .eq (BitVec.ofNat 32 i.val) (BitVec.ofNat 32 i.val) = 1#1 := by simp [IntOp.cmpi]
    rw [this]
    show (((1#1 : BitVec 1).toNat : ℝ) : EReal) * _ = _
    simp
  · rw [if_neg h]
    have : IntOp.cmpi .eq (BitVec.ofNat 32 i.val) (BitVec.ofNat 32 j.val) = 0#1 := by
      have hne : BitVec.ofNat 32 i.val ≠ BitVec.ofNat 32 j.val := fun e => h ((ofNat_inj (by omega) (by omega)).mp e).symm
      simp only [IntOp.cmpi]
      rw [beq_eq_false_iff_ne.mpr hne]
      rfl
    rw [this]
    show (((0#1 : BitVec 1).toNat : ℝ) : EReal) * _ = _
    simp

/-- The score: less the two squares, plus twice the product, less the penalty. -/
theorem rScore_at (x : FVec Ideal S10000x128 .f32) (b : Fin 4) (i j : Fin 2500) :
    rScore x (ix3 b i j) = -(rSq x (ix2 b i) + rSq x (ix2 b j) - rDot x (ix3 b i j) + rPen (ix3 b i j)) := by
  pointwise [rScore]

/-- On rows of reals the score is the distance negated, but for what all candidates of a point share. -/
theorem rScore_eq {x : FVec Ideal S10000x128 .f32} {h : Fin 4 → Rows} (hx : RefRows x h) (b : Fin 4) (i j : Fin 2500) :
    rScore x (ix3 b i j) = ((-((∑ d, h b i.val d * h b i.val d) + dist (h b) i.val j.val) : ℝ) : EReal) := by
  have hr : ∀ i d, rRows x (ix3 b i d) = (h b i.val d : EReal) := fun i d => by rw [rRows_at, hx]
  rw [rScore_at, rSq_at, rSq_at, rDot_at, rPen_at, sum_mul_coe (hr i) (hr i), sum_mul_coe (hr j) (hr j), sum_mul_coe (hr i) (hr j)]
  rw [← EReal.coe_mul, ← EReal.coe_add, ← EReal.coe_sub, ← EReal.coe_add, ← EReal.coe_neg]
  unfold dist
  congr 1
  ring

/-- Moving along the last axis changes the last number of an index. -/
theorem along_ix3 {A B C : ℕ} (a : Fin A) (b : Fin B) (c k : Fin C) : Shape.Idx.along (s := ⟨3, ![A, B, C]⟩) (ix3 a b c) 2 k = ix3 a b k := by
  funext d
  unfold Shape.Idx.along
  match d with
  | ⟨0, _⟩ => rfl
  | ⟨1, _⟩ => rfl
  | ⟨2, _⟩ => rfl

/-- A sort along the last of three axes, at one element. -/
theorem sort2_at {A B C : ℕ} {α β : Type} (cmp : α × β → α × β → BitVec 1) (x : (⟨3, ![A, B, C]⟩ : Shape).Idx → α) (y : (⟨3, ![A, B, C]⟩ : Shape).Idx → β) (a : Fin A) (b : Fin B) (c : Fin C) :
    (Host.sort2 ⟨3, ![A, B, C]⟩ 2 cmp x y).2 (ix3 a b c) =
      y (ix3 a b (sortedFrom (fun k k' => cmp (x (ix3 a b k), y (ix3 a b k)) (x (ix3 a b k'), y (ix3 a b k')) == 1#1) c)) := by
  unfold Host.sort2
  rw [dif_pos (show 2 < (⟨3, ![A, B, C]⟩ : Shape).rank from Nat.lt_succ_self 2)]
  refine (congrArg y (along_ix3 a b c (sortedFrom (fun k k' => cmp (x (Shape.Idx.along (s := ⟨3, ![A, B, C]⟩) (ix3 a b c) 2 k), y (Shape.Idx.along (s := ⟨3, ![A, B, C]⟩) (ix3 a b c) 2 k))
    (x (Shape.Idx.along (s := ⟨3, ![A, B, C]⟩) (ix3 a b c) 2 k'), y (Shape.Idx.along (s := ⟨3, ![A, B, C]⟩) (ix3 a b c) 2 k')) == 1#1) c))).trans ?_
  simp only [along_ix3]

/-- The numbers that the top of a row gives are those of the sorted row. -/
theorem topK_at {A B C K : ℕ} (gt : EReal → EReal → BitVec 1) (x : FVec Ideal ⟨3, ![A, B, C]⟩ .f32) (hs : (⟨3, ![A, B, C]⟩ : Shape).Slices (fun _ => 0) ⟨3, ![A, B, K]⟩) (a : Fin A) (b : Fin B) (q : Fin K) (hq : 0 + q.val < C) :
    (Host.topK ⟨3, ![A, B, K]⟩ 2 gt x hs).2 (ix3 a b q) = BitVec.ofNat 32
      (sortedFrom (fun k k' => gt (x (ix3 a b k)) (x (ix3 a b k')) == 1#1) (⟨0 + q.val, hq⟩ : Fin C)).val := by
  unfold Host.topK extractStridedSlice
  dsimp only
  have hj : (fun d : Fin (⟨3, ![A, B, C]⟩ : Shape).rank => (⟨0 + ((ix3 a b q : (⟨3, ![A, B, K]⟩ : Shape).Idx) (d.cast hs.1.symm)).val,
      Nat.lt_of_lt_of_le (Nat.add_lt_add_left (Fin.isLt _) _) (hs.2 d)⟩ : Fin ((⟨3, ![A, B, C]⟩ : Shape).size d))) = ix3 a b (⟨0 + q.val, hq⟩ : Fin C) := by
    funext d
    match d with
    | ⟨0, _⟩ => exact Fin.ext (Nat.zero_add _)
    | ⟨1, _⟩ => exact Fin.ext (Nat.zero_add _)
    | ⟨2, _⟩ => rfl
  rw [hj, sort2_at]
  rfl

/-- The neighbours' numbers are those of the row sorted by score. -/
theorem rIds_at (x : FVec Ideal S4x2500x2500 .f32) (b : Fin 4) (i : Fin 2500) (q : Fin 8) :
    rIds x (ix3 b i q) = BitVec.ofNat 32
      (sortedFrom (fun k k' => FloatOps.cmpfTotal (F := Ideal) (φ := .f32) .gt (x (ix3 b i k)) (x (ix3 b i k')) == 1#1) (⟨0 + q.val, by omega⟩ : Fin 2500)).val :=
  topK_at (A := 4) (B := 2500) (C := 2500) (K := 8) _ x _ b i q (by omega)

/-- The numbers at hand are those of the eight neighbours, each once. -/
def NbrIds (ids : IVec S4x2500x8 32) (N : Fin 4 → ℕ → Finset ℕ) : Prop :=
  ∀ (b : Fin 4) (i : Fin 2500), ∃ e : Fin 8 → ℕ, Function.Injective e ∧ Finset.univ.image e = N b i.val ∧ ∀ q, e q < 2500 ∧ ids (ix3 b i q) = BitVec.ofNat 32 (e q)

/-- The order the scores are sorted by is that of the reals. -/
theorem gt_iff (a c : ℝ) : (FloatOps.cmpfTotal (F := Ideal) (φ := .f32) .gt (a : EReal) (c : EReal) == 1#1) = true ↔ c < a := by
  show (Ideal.cmpTotal .gt (a : EReal) (c : EReal) == 1#1) = true ↔ _
  simp only [Ideal.cmpTotal, Ideal.cmp, CmpDirection.ordered, EReal.coe_lt_coe_iff]
  rw [beq_iff_eq]
  have hb : ∀ c : Bool, BitVec.ofBool c = 1#1 ↔ c = true := by decide
  rw [hb, decide_eq_true_iff]

/-- On rows of reals the reference takes each point's eight nearest. -/
theorem rIds_nbrs {x : FVec Ideal S10000x128 .f32} {h : Fin 4 → Rows} (hx : RefRows x h) : NbrIds (rIds (rScore x)) fun b => nbrs (h b) := by
  intro b i
  have h3 := rIds_at (rScore x) b i
  generalize hRd : (fun k k' => FloatOps.cmpfTotal (F := Ideal) (φ := .f32) .gt (rScore x (ix3 b i k)) (rScore x (ix3 b i k')) == 1#1) = R at h3
  have hR : ∀ a c : Fin 2500, R a c = true ↔ dist (h b) i.val a.val < dist (h b) i.val c.val := fun a c => by
    rw [← hRd]
    dsimp only
    rw [rScore_eq hx, rScore_eq hx, gt_iff, neg_lt_neg_iff, add_lt_add_iff_left]
  obtain ⟨h1, h2⟩ := sort_top R hR (fun q => (⟨0 + q.val, by omega⟩ : Fin 2500)) fun q => Nat.zero_add _
  refine ⟨fun q => (sortedFrom R (⟨0 + q.val, by omega⟩ : Fin 2500)).val, h2, (near_eq h1).symm, fun q => ⟨Fin.isLt _, h3 q⟩⟩

end Cert.Proof.Val
-- ==== Proof.Val.RefScat.lean ====
/- Where the reference's scattered rows land, and what its gathers read. -/
module

public import proofs.«01_k».proof.Proof.Val.RefDefs
public import Idealize.ShloMosaic.Lib.Routing.OpsPair
public import Idealize.ShloMosaic.Lib.Routing.OpsSet
public import Idealize.ShloMosaic.Lib.Pointwise
public import Idealize.ShloMosaic.Lib.Pointwise.IndexBridge

@[expose] public section

set_option maxRecDepth 8192
set_option maxHeartbeats 1000000

noncomputable section

namespace Cert.Proof.Val

open Idealize.ShloMosaic Idealize.ShloMosaic.Pointwise
open Cert.ReferenceIdeal Cert.ReferenceIdeal.Gen

/-- A number scattered alone lands at its index. -/
theorem lands_one (idx : IVec S90000x1 32) (e : Fin 90000) (r : Fin 10000) :
    scatter_S10000_S90000x1_S90000_n_0_0_1.resultIdx? (ix1 e) idx = some (ix1 r) ↔ (idx (ix2 e 0)).toInt = (r.val : Int) := by
  have hs : scatter_S10000_S90000x1_S90000_n_0_0_1.start (ix1 e) idx 0 = (idx (ix2 e 0)).toInt := by
    unfold ScatterDims.start
    rw [dif_pos (by decide)]
    congr 2
    funext b
    match b with
    | ⟨0, _⟩ => rfl
    | ⟨1, _⟩ => rfl
  have hw : scatter_S10000_S90000x1_S90000_n_0_0_1.window (ix1 e) 0 = 0 := by
    unfold ScatterDims.window
    rw [dif_neg (by decide)]
  rw [ix1_eq_valueIdx r, Routing.resultIdx?_ix1, hs, hw]
  simp

/-- A row lands at its index. -/
theorem lands_row (idx : IVec S90000x1 32) (e : Fin 90000) (c : Fin 128) (r : Fin 10000) (d : Fin 128) :
    scatter_S10000x128_S90000x1_S90000x128_1_0_0_1.resultIdx? (ix2 e c) idx = some (ix2 r d) ↔ (idx (ix2 e 0)).toInt = (r.val : Int) ∧ c = d := by
  have hs : scatter_S10000x128_S90000x1_S90000x128_1_0_0_1.start (ix2 e c) idx 0 = (idx (ix2 e 0)).toInt := by
    unfold ScatterDims.start
    rw [dif_pos (by decide)]
    congr 2
    funext b
    match b with
    | ⟨0, _⟩ => rfl
    | ⟨1, _⟩ => rfl
  have hs1 : scatter_S10000x128_S90000x1_S90000x128_1_0_0_1.start (ix2 e c) idx 1 = 0 := by
    unfold ScatterDims.start
    rw [dif_neg (by decide)]
  have hw : scatter_S10000x128_S90000x1_S90000x128_1_0_0_1.window (ix2 e c) 0 = 0 := by
    unfold ScatterDims.window
    rw [dif_neg (by decide)]
  have hw1 : scatter_S10000x128_S90000x1_S90000x128_1_0_0_1.window (ix2 e c) 1 = c.val := by
    unfold ScatterDims.window
    rw [dif_pos (by decide)]
    rfl
  rw [ix2_eq_valueIdx r, Routing.resultIdx?_ix2, hs, hw, hs1, hw1]
  simp [Fin.ext_iff]

/-- A gather of rows reads the row of its index. -/
theorem gather_rows (z : FVec Ideal S10000x128 .f32) (idx : IVec S90000x1 32) (e : Fin 90000) (d : Fin 128) (r : Fin 10000) (h : idx (ix2 e 0) = BitVec.ofNat 32 r.val) :
    Host.gather gather_S10000x128_S90000x1_S90000x128_1_0_n_n_0_1_1128 z idx (ix2 e d) = z (ix2 r d) := by
  rw [ix2_eq_valueIdx] at h
  rw [ix2_eq_valueIdx, ix2_eq_valueIdx]
  exact Routing.gather_row _ rfl rfl rfl rfl rfl z idx e d r h (by norm_num)

/-- A gather of numbers reads the number of its index. -/
theorem gather_ones (z : FVec Ideal S10000 .f32) (idx : IVec S90000x1 32) (e : Fin 90000) (r : Fin 10000) (h : idx (ix2 e 0) = BitVec.ofNat 32 r.val) :
    Host.gather gather_S10000_S90000x1_S90000_n_0_n_n_0_1_1 z idx (ix1 e) = z (ix1 r) := by
  rw [ix2_eq_valueIdx] at h
  rw [ix1_eq_valueIdx, ix1_eq_valueIdx]
  exact Routing.gather_take1 _ rfl rfl rfl rfl z idx e r h (by norm_num)

/-- The edge from slot `q` of row `r`; -/
def edge (r : Fin 10000) (q : Fin 8) : Fin 90000 := ⟨r.val * 8 + q.val, by omega⟩

/-- the loop at row `r`. -/
def loop (r : Fin 10000) : Fin 90000 := ⟨80000 + r.val, by omega⟩

/-- Where an edge ends. -/
def ends (e : Fin 90000) : ℕ := if e.val < 80000 then e.val / 8 else e.val - 80000

/-- A node's edges end at the node. -/
theorem ends_edge (r : Fin 10000) (q : Fin 8) : ends (edge r q) = r.val := by
  unfold ends edge; dsimp only; split <;> omega

/-- A node's loop ends at the node. -/
theorem ends_loop (r : Fin 10000) : ends (loop r) = r.val := by
  unfold ends loop; dsimp only; split <;> omega

/-- What ends at a node is its loop and its eight edges. -/
theorem ends_iff (e : Fin 90000) (r : Fin 10000) : ends e = r.val ↔ e = loop r ∨ ∃ q, edge r q = e := by
  constructor
  · intro h
    unfold ends at h
    split at h
    · exact Or.inr ⟨⟨e.val % 8, by omega⟩, Fin.ext (by unfold edge; dsimp only; omega)⟩
    · exact Or.inl (Fin.ext (by unfold loop; dsimp only; omega))
  · rintro (h | ⟨q, h⟩)
    · rw [h, ends_loop]
    · rw [← h, ends_edge]

/-- A sum over what lands at a row is a sum over the edges that end there. -/
theorem sum_ends {ι : Type} [Fintype ι] [DecidableEq ι] (P : ι → Prop) [DecidablePred P] (mk : Fin 90000 → ι) (hmk : Function.Injective mk) (r : Fin 10000)
    (hP : ∀ j, P j ↔ ∃ e, mk e = j ∧ ends e = r.val) (f : ι → EReal) :
    ∑ j ∈ Finset.univ.filter P, f j = (∑ q, f (mk (edge r q))) + f (mk (loop r)) := by
  have hS : Finset.univ.filter P = insert (mk (loop r)) (Finset.univ.image fun q => mk (edge r q)) := by
    ext j
    rw [Finset.mem_filter, Finset.mem_insert, Finset.mem_image, hP]
    constructor
    · rintro ⟨-, e, rfl, he⟩
      rcases (ends_iff e r).mp he with h | ⟨q, h⟩
      · exact Or.inl (by rw [h])
      · exact Or.inr ⟨q, Finset.mem_univ _, by rw [h]⟩
    · rintro (h | ⟨q, -, h⟩)
      · exact ⟨Finset.mem_univ _, _, h.symm, ends_loop r⟩
      · exact ⟨Finset.mem_univ _, _, h, ends_edge r q⟩
  rw [hS, Finset.sum_insert, Finset.sum_image, add_comm]
  · intro q _ q' _ h
    have := congrArg Fin.val (hmk h)
    unfold edge at this
    exact Fin.ext (by dsimp only at this; omega)
  · intro h
    obtain ⟨q, -, h⟩ := Finset.mem_image.mp h
    have := congrArg Fin.val (hmk h)
    unfold edge loop at this
    dsimp only at this
    omega

end Cert.Proof.Val
-- ==== Proof.Val.RefGcn.lean ====
/- The reference's graph convolution: on rows of reals, the convolution of those rows over the neighbours. -/
module

public import proofs.«01_k».proof.Proof.Val.RefKnn
public import proofs.«01_k».proof.Proof.Val.RefScat
public import Idealize.ShloMosaic.Lib.IdealHost

@[expose] public section

set_option maxRecDepth 8192
set_option maxHeartbeats 1000000

noncomputable section

namespace Cert.Proof.Val

open Idealize.ShloMosaic Idealize.ShloMosaic.Pointwise
open Cert.ReferenceIdeal Cert.ReferenceIdeal.Gen

/-- The sum of two numbers' words is the word of their sum. -/
theorem addi_ofNat (a b : ℕ) : IntOp.addi (BitVec.ofNat 32 a) (BitVec.ofNat 32 b) = BitVec.ofNat 32 (a + b) := by
  unfold IntOp.addi; exact (BitVec.ofNat_add a b).symm

/-- A batch's nodes are numbered from 2500 times the batch's number. -/
theorem rBase_at (b : Fin 4) : rBase (ix3 b 0 0) = BitVec.ofNat 32 (b.val * 2500) := by
  pointwise [rBase]
  unfold IntOp.muli
  rw [BitVec.ofNat_mul]

/-- The source of an edge: the neighbour's number, moved to its batch. -/
theorem rNear_at (ids : IVec S4x2500x8 32) (e : Fin 80000) (b : Fin 4) (i : Fin 2500) (q : Fin 8) (n : ℕ) (he : e.val = (refRow b i).val * 8 + q.val)
    (hn : ids (ix3 b i q) = BitVec.ofNat 32 n) : rNear ids (ix2 0 e) = BitVec.ofNat 32 (b.val * 2500 + n) := by
  pointwise [rNear]
  have hr : (refRow b i).val = b.val * 2500 + i.val := rfl
  rw [hr] at he
  have h1 : (⟨e.val / 20000, by omega⟩ : Fin 4) = b := Fin.ext (by dsimp only; omega)
  have h2 : (⟨e.val / 8 % 2500, by omega⟩ : Fin 2500) = i := Fin.ext (by dsimp only; omega)
  have h3 : (⟨e.val % 8, by omega⟩ : Fin 8) = q := Fin.ext (by dsimp only; omega)
  rw [h1, h2, h3, hn, rBase_at, addi_ofNat, Nat.add_comm]

/-- The end of an edge: an eighth of the edge's number. -/
theorem rSelf_at (e : Fin 80000) : rSelf (ix2 0 e) = BitVec.ofNat 32 (e.val / 8) := by
  pointwise [rSelf]
  rw [rBase_at, addi_ofNat]
  congr 1
  dsimp only
  omega

/-- The ends of the edges and of the loops. -/
theorem rDst_at (ids : IVec S4x2500x8 32) (e : Fin 90000) : rDst ids (ix1 e) = BitVec.ofNat 32 (ends e) := by
  pointwise [rDst, rEdges]
  unfold ends
  split
  · rw [rSelf_at]
  · rfl

/-- The source of a node's loop is the node. -/
theorem rSrc_loop (ids : IVec S4x2500x8 32) (r : Fin 10000) : rSrc ids (ix1 (loop r)) = BitVec.ofNat 32 r.val := by
  pointwise [rSrc, rEdges]
  rw [dif_neg (by unfold loop; dsimp only; omega)]
  unfold loop
  dsimp only
  rw [Nat.add_sub_cancel_left]

/-- The source of a node's edge is that neighbour, moved to its batch. -/
theorem rSrc_edge (ids : IVec S4x2500x8 32) (b : Fin 4) (i : Fin 2500) (q : Fin 8) (n : ℕ) (hn : ids (ix3 b i q) = BitVec.ofNat 32 n) :
    rSrc ids (ix1 (edge (refRow b i) q)) = BitVec.ofNat 32 (b.val * 2500 + n) := by
  have hr : (refRow b i).val = b.val * 2500 + i.val := rfl
  pointwise [rSrc, rEdges]
  rw [dif_pos (by unfold edge; dsimp only; omega)]
  exact rNear_at ids _ b i q n rfl hn

/-- The turning round of negative numbers leaves a number that is not negative as it is. -/
theorem rWrap_at (v : IVec S90000 32) (e : Fin 90000) (n : ℕ) (hn : n < 2 ^ 31) (h : v (ix1 e) = BitVec.ofNat 32 n) : rWrap v (ix2 e 0) = BitVec.ofNat 32 n := by
  pointwise [rWrap]
  rw [h]
  refine Routing.wrap_of_lt _ _ ?_
  rw [BitVec.toNat_ofNat, Nat.mod_eq_of_lt (by omega)]
  exact hn

/-- The ends of the edges are left as they are by the turning round of negative numbers. -/
theorem rWrapDst_at (ids : IVec S4x2500x8 32) (e : Fin 90000) : rWrap (rDst ids) (ix2 e 0) = BitVec.ofNat 32 (ends e) := by
  refine rWrap_at _ e _ ?_ (rDst_at ids e)
  unfold ends; split <;> omega

/-- The end of every edge is a node. -/
theorem ends_lt (e : Fin 90000) : ends e < 10000 := by unfold ends; split <;> omega

/-- Every node has degree nine. -/
theorem rDeg_at (ids : IVec S4x2500x8 32) (r : Fin 10000) : rDeg (rDst ids) (ix1 r) = ((9 : ℝ) : EReal) := by
  unfold rDeg
  show Ideal.hostScatterAdd _ _ _ _ _ = _
  unfold Ideal.hostScatterAdd
  dsimp only
  rw [sum_ends (P := fun j => scatter_S10000_S90000x1_S90000_n_0_0_1.resultIdx? j (rWrap (rDst ids)) = some (ix1 r)) (mk := ix1) (fun a b h => (ix1_inj a b).mp h) r
    (fun j => by
      obtain ⟨e', rfl⟩ : ∃ e : Fin 90000, j = ix1 e := ⟨j 0, eq_ix1 j⟩
      rw [lands_one, rWrapDst_at, toInt_ofNat (by have := ends_lt e'; omega)]
      constructor
      · exact fun h => ⟨e', rfl, by exact_mod_cast h⟩
      · rintro ⟨e, he, h⟩
        rw [ix1_inj] at he
        rw [← he]
        exact_mod_cast h)]
  have h1 : ∀ e : Fin 90000, broadcastInDim S90000 ![] bcast_S_S90000 (constant S_ .f32 0x3F800000#32 : FVec Ideal S_ .f32) (ix1 e) = ((1:ℝ):EReal) := fun e => by
    pointwise []
    rfl
  have h0 : broadcastInDim S10000 ![] bcast_S_S10000 (constant S_ .f32 0x00000000#32 : FVec Ideal S_ .f32) (ix1 r) = ((0:ℝ):EReal) := by
    pointwise []
    rfl
  simp only [h1, h0]
  rw [← coe_sum, ← EReal.coe_add, ← EReal.coe_add]
  congr 1
  simp
  norm_num

/-- Every node's inverse root of its degree is a third. -/
theorem rInv_at (ids : IVec S4x2500x8 32) (r : Fin 10000) : rInv (rDst ids) (ix1 r) = ((3⁻¹ : ℝ) : EReal) := by
  pointwise [rInv]
  rw [rDeg_at, max_eq_left (by exact_mod_cast (by norm_num : (1:ℝ) ≤ 9))]
  show (if (9:ℝ) < 0 then (⊥ : EReal) else if (9:ℝ) = 0 then ⊤ else ((Real.sqrt 9)⁻¹ : ℝ)) = _
  rw [if_neg (by norm_num), if_neg (by norm_num), show (9:ℝ) = 3 ^ 2 by norm_num, Real.sqrt_sq (by norm_num)]

/-- Every edge starts somewhere. -/
theorem rSrc_some {ids : IVec S4x2500x8 32} {N : Fin 4 → ℕ → Finset ℕ} (hN : NbrIds ids N) (e : Fin 90000) : ∃ s : Fin 10000, rSrc ids (ix1 e) = BitVec.ofNat 32 s.val := by
  have := (ends_iff e ⟨ends e, ends_lt e⟩).mp rfl
  rcases this with h | ⟨q, h⟩
  · exact ⟨_, by rw [h]; exact rSrc_loop ids _⟩
  · have hlt := ends_lt e
    have hrow : (⟨ends e, ends_lt e⟩ : Fin 10000) = refRow ⟨ends e / 2500, by omega⟩ ⟨ends e % 2500, by omega⟩ := Fin.ext (by unfold refRow; dsimp only; omega)
    obtain ⟨f, -, -, hf⟩ := hN ⟨ends e / 2500, by omega⟩ ⟨ends e % 2500, by omega⟩
    rw [hrow] at h
    have hq := (hf q).1
    refine ⟨⟨ends e / 2500 * 2500 + f q, by omega⟩, ?_⟩
    exact (congrArg (fun e => rSrc ids (ix1 e)) h.symm).trans (rSrc_edge ids _ _ q _ (hf q).2)

/-- Every edge's weight is a ninth. -/
theorem rNorm_at {ids : IVec S4x2500x8 32} {N : Fin 4 → ℕ → Finset ℕ} (hN : NbrIds ids N) (e : Fin 90000) : rNorm (rSrc ids) (rDst ids) (ix1 e) = ((9⁻¹ : ℝ) : EReal) := by
  obtain ⟨s, hs⟩ := rSrc_some hN e
  pointwise [rNorm]
  rw [gather_ones _ _ e s (rWrap_at _ _ _ (by omega) hs), gather_ones _ _ e ⟨ends e, ends_lt e⟩ (rWrapDst_at ids e), rInv_at, rInv_at, ← EReal.coe_mul]
  congr 1
  norm_num

/-- An edge's message: the row of its source, over nine. -/
theorem rMsg_at {ids : IVec S4x2500x8 32} {N : Fin 4 → ℕ → Finset ℕ} (hN : NbrIds ids N) (z : FVec Ideal S10000x128 .f32) (e : Fin 90000) (d : Fin 128) (s : Fin 10000)
    (hs : rSrc ids (ix1 e) = BitVec.ofNat 32 s.val) : rMsg z (rSrc ids) (rDst ids) (ix2 e d) = z (ix2 s d) * ((9⁻¹ : ℝ) : EReal) := by
  pointwise [rMsg]
  rw [gather_rows z _ e d s (rWrap_at _ _ _ (by omega) hs), rNorm_at hN]

/-- What the edges bring to a row, every one a ninth. -/
theorem rProp_at {ids : IVec S4x2500x8 32} {N : Fin 4 → ℕ → Finset ℕ} (hN : NbrIds ids N) {z : FVec Ideal S10000x128 .f32} {h : Fin 4 → Rows} (hz : RefRows z h)
    (b : Fin 4) (i : Fin 2500) (d : Fin 128) :
    rProp z (rSrc ids) (rDst ids) (ix2 (refRow b i) d) = (((∑ j ∈ N b i.val, h b j d * 9⁻¹) + h b i.val d * 9⁻¹ : ℝ) : EReal) := by
  unfold rProp
  show Ideal.hostScatterAdd _ _ _ _ _ = _
  unfold Ideal.hostScatterAdd
  dsimp only
  rw [sum_ends (P := fun j => scatter_S10000x128_S90000x1_S90000x128_1_0_0_1.resultIdx? j (rWrap (rDst ids)) = some (ix2 (refRow b i) d)) (mk := fun e => ix2 e d)
    (fun a b h => ((ix2_inj a b d d).mp h).1) (refRow b i)
    (fun j => by
      obtain ⟨e', c, rfl⟩ : ∃ (e : Fin 90000) (c : Fin 128), j = ix2 e c := ⟨j 0, j 1, eq_ix2 j⟩
      rw [lands_row, rWrapDst_at, toInt_ofNat (by have := ends_lt e'; omega)]
      constructor
      · exact fun h => ⟨e', by rw [h.2], by exact_mod_cast h.1⟩
      · rintro ⟨e, he, h⟩
        rw [ix2_inj] at he
        rw [← he.1, ← he.2]
        exact ⟨by exact_mod_cast h, rfl⟩)]
  have h0 : broadcastInDim S10000x128 ![] bcast_S_S10000x128 (constant S_ .f32 0x00000000#32 : FVec Ideal S_ .f32) (ix2 (refRow b i) d) = 0 := by
    pointwise []
  rw [h0, zero_add]
  obtain ⟨f, hinj, himg, hf⟩ := hN b i
  have hedge : ∀ q, rMsg z (rSrc ids) (rDst ids) (ix2 (edge (refRow b i) q) d) = ((h b (f q) d * 9⁻¹ : ℝ) : EReal) := fun q => by
    rw [rMsg_at hN z _ d (refRow b ⟨f q, (hf q).1⟩) (rSrc_edge ids b i q _ (hf q).2), hz, EReal.coe_mul]
  rw [rMsg_at hN z _ d (refRow b i) (rSrc_loop ids _), hz, Finset.sum_congr rfl fun q _ => hedge q, ← coe_sum, ← EReal.coe_mul, ← EReal.coe_add, ← himg,
    Finset.sum_image fun a _ b _ h => hinj h]

/-- The reference's product of real rows with real weights is the linear map of the rows. -/
theorem rLin_rows {x : FVec Ideal S10000x128 .f32} {h : Fin 4 → Rows} (hx : RefRows x h) {w : FVec Ideal S128x128 .f32} {w' : Fin 128 → Fin 128 → ℝ}
    (hw : ∀ k d, w (ix2 k d) = (w' k d : EReal)) :
    RefRows (Host.dotGeneral dot_S10000x128_S128x128_S10000x128_1_0_0_1_n_n none x w) fun b => lin (h b) w' := fun b i d => by
  pointwise []
  exact sum_mul_coe (fun k => hx b i k) fun k => hw k d

/-- On rows of reals the reference's convolution is the convolution of those rows. -/
theorem rGcn_rows {ids : IVec S4x2500x8 32} {N : Fin 4 → ℕ → Finset ℕ} (hN : NbrIds ids N) {x : FVec Ideal S10000x128 .f32} {h : Fin 4 → Rows} (hx : RefRows x h)
    {w : FVec Ideal S128x128 .f32} {w' : Fin 128 → Fin 128 → ℝ} (hw : ∀ k d, w (ix2 k d) = (w' k d : EReal))
    {v : FVec Ideal S128 .f32} {v' : Fin 128 → ℝ} (hv : ∀ d, v (ix1 d) = (v' d : EReal)) :
    RefRows (rGcn x w v (rSrc ids) (rDst ids)) fun b => gcn (h b) w' v' (N b) := fun b i d => by
  have : rGcn x w v (rSrc ids) (rDst ids) (ix2 (refRow b i) d) =
      rProp (Host.dotGeneral dot_S10000x128_S128x128_S10000x128_1_0_0_1_n_n none x w) (rSrc ids) (rDst ids) (ix2 (refRow b i) d) + v (ix1 d) := by
    pointwise [rGcn]
  rw [this, rProp_at hN (rLin_rows hx hw), hv, ← EReal.coe_add]
  rfl

/-- On rows of reals the reference's block is the block of those rows. -/
theorem rBlock_rows {x : FVec Ideal S10000x128 .f32} {h : Fin 4 → Rows} (hx : RefRows x h)
    {w₁ w₂ : FVec Ideal S128x128 .f32} {w₁' w₂' : Fin 128 → Fin 128 → ℝ} (hw₁ : ∀ k d, w₁ (ix2 k d) = (w₁' k d : EReal)) (hw₂ : ∀ k d, w₂ (ix2 k d) = (w₂' k d : EReal))
    {v₁ v₂ : FVec Ideal S128 .f32} {v₁' v₂' : Fin 128 → ℝ} (hv₁ : ∀ d, v₁ (ix1 d) = (v₁' d : EReal)) (hv₂ : ∀ d, v₂ (ix1 d) = (v₂' d : EReal)) :
    RefRows (rBlock x w₁ v₁ w₂ v₂) fun b => block (h b) w₁' v₁' w₂' v₂' := by
  have hN := rIds_nbrs hx
  have hmax : RefRows (maximumf (rGcn x w₁ v₁ (rSrc (rIds (rScore x))) (rDst (rIds (rScore x)))) (broadcastInDim S10000x128 ![] bcast_S_S10000x128 (constant S_ .f32 0x00000000#32)))
      fun b i d => max (gcn (h b) w₁' v₁' (nbrs (h b)) i d) 0 := fun b i d => by
    have := rGcn_rows hN hx hw₁ hv₁ b i d
    pointwise []
    rw [this, coe_max]
    rfl
  intro b i d
  have h2 := rGcn_rows hN hmax hw₂ hv₂ b i d
  unfold rBlock rConv
  show rGcn _ _ _ _ _ (ix2 (refRow b i) d) + x (ix2 (refRow b i) d) = _
  rw [h2, hx, ← EReal.coe_add]
  rfl

end Cert.Proof.Val
-- ==== Proof.Val.RefMain.lean ====
/- The reference's rows and its head, read at their indices. -/
module

public import proofs.«01_k».proof.Proof.Val.Shared
public import proofs.«01_k».proof.Proof.Val.RefGcn

@[expose] public section

set_option maxRecDepth 8192
set_option maxHeartbeats 1000000

noncomputable section

namespace Cert.Proof.Val

open Idealize.ShloMosaic Idealize.ShloMosaic.Pointwise
open Cert.ReferenceIdeal Cert.ReferenceIdeal.Gen Cert.ReferenceIdeal.Value

section Rows

variable {V0 : Valuation τ sig (Elt Ideal)} {x : Fin 4 → Fin 128 → Fin 2500 → ℝ} {w₁ w₂ : Fin 4 → Fin 128 → Fin 128 → ℝ} {b₁ b₂ : Fin 4 → Fin 128 → ℝ}

/-- The reference's rows at the start are the given ones. -/
theorem refStart (hx : ∀ b d i, (V0 (Proc.devRef .tc main_arg1) : FVec Ideal S4x128x2500 .f32) (ix3 b d i) = (x b d i : EReal)) :
    RefRows (res_main_v1 V0) (startRows x) := fun b i d => by
  rw [startRows_at, ← hx]
  unfold res_main_v1
  generalize (V0 (Proc.devRef .tc main_arg1) : FVec Ideal S4x128x2500 .f32) = y
  have e : (shapeCast S10000x128 (transpose S4x2500x128 [0, 2, 1] y transposes_S4x128x2500_S4x2500x128_0_2_1) shapeCasts_S4x2500x128_S10000x128) (ix2 (refRow b i) d) = y (ix3 b d i) := by
    pointwise [refRow]
  exact e

/-- The weights of block 0, cut from the array of all blocks. -/
theorem wSlice0 (y : FVec Ideal S4x128x128 .f32) (k d : Fin 128) :
    (shapeCast S128x128 (extractStridedSlice S1x128x128 ![0, 0, 0] y slices_S4x128x128_S1x128x128_0_0_0) shapeCasts_S1x128x128_S128x128) (ix2 k d) = y (ix3 0 k d) := by
  pointwise []

/-- The bias of block 0, cut from the array of all blocks. -/
theorem bSlice0 (y : FVec Ideal S4x128 .f32) (d : Fin 128) :
    (shapeCast S128 (extractStridedSlice S1x128 ![0, 0] y slices_S4x128_S1x128_0_0) shapeCasts_S1x128_S128) (ix1 d) = y (ix2 0 d) := by
  pointwise []

/-- The weights of block 1, cut from the array of all blocks. -/
theorem wSlice1 (y : FVec Ideal S4x128x128 .f32) (k d : Fin 128) :
    (shapeCast S128x128 (extractStridedSlice S1x128x128 ![1, 0, 0] y slices_S4x128x128_S1x128x128_1_0_0) shapeCasts_S1x128x128_S128x128) (ix2 k d) = y (ix3 1 k d) := by
  pointwise []

/-- The bias of block 1, cut from the array of all blocks. -/
theorem bSlice1 (y : FVec Ideal S4x128 .f32) (d : Fin 128) :
    (shapeCast S128 (extractStridedSlice S1x128 ![1, 0] y slices_S4x128_S1x128_1_0) shapeCasts_S1x128_S128) (ix1 d) = y (ix2 1 d) := by
  pointwise []

/-- The weights of block 2, cut from the array of all blocks. -/
theorem wSlice2 (y : FVec Ideal S4x128x128 .f32) (k d : Fin 128) :
    (shapeCast S128x128 (extractStridedSlice S1x128x128 ![2, 0, 0] y slices_S4x128x128_S1x128x128_2_0_0) shapeCasts_S1x128x128_S128x128) (ix2 k d) = y (ix3 2 k d) := by
  pointwise []

/-- The bias of block 2, cut from the array of all blocks. -/
theorem bSlice2 (y : FVec Ideal S4x128 .f32) (d : Fin 128) :
    (shapeCast S128 (extractStridedSlice S1x128 ![2, 0] y slices_S4x128_S1x128_2_0) shapeCasts_S1x128_S128) (ix1 d) = y (ix2 2 d) := by
  pointwise []

/-- The weights of block 3, cut from the array of all blocks. -/
theorem wSlice3 (y : FVec Ideal S4x128x128 .f32) (k d : Fin 128) :
    (shapeCast S128x128 (extractStridedSlice S1x128x128 ![3, 0, 0] y slices_S4x128x128_S1x128x128_3_0_0) shapeCasts_S1x128x128_S128x128) (ix2 k d) = y (ix3 3 k d) := by
  pointwise []

/-- The bias of block 3, cut from the array of all blocks. -/
theorem bSlice3 (y : FVec Ideal S4x128 .f32) (d : Fin 128) :
    (shapeCast S128 (extractStridedSlice S1x128 ![3, 0] y slices_S4x128_S1x128_3_0) shapeCasts_S1x128_S128) (ix1 d) = y (ix2 3 d) := by
  pointwise []

/-- The reference's rows after the four blocks. -/
theorem refEnd (hx : ∀ b d i, (V0 (Proc.devRef .tc main_arg1) : FVec Ideal S4x128x2500 .f32) (ix3 b d i) = (x b d i : EReal))
    (hw₁ : ∀ q k d, (V0 (Proc.devRef .tc main_arg2) : FVec Ideal S4x128x128 .f32) (ix3 q k d) = (w₁ q k d : EReal))
    (hb₁ : ∀ q d, (V0 (Proc.devRef .tc main_arg3) : FVec Ideal S4x128 .f32) (ix2 q d) = (b₁ q d : EReal))
    (hw₂ : ∀ q k d, (V0 (Proc.devRef .tc main_arg4) : FVec Ideal S4x128x128 .f32) (ix3 q k d) = (w₂ q k d : EReal))
    (hb₂ : ∀ q d, (V0 (Proc.devRef .tc main_arg5) : FVec Ideal S4x128 .f32) (ix2 q d) = (b₂ q d : EReal)) :
    RefRows (res_main_v653 V0) fun b => endRows w₁ b₁ w₂ b₂ (startRows x b) := by
  have h0 := refStart hx
  have h1 : RefRows (res_main_v164 V0) fun b => blockAt w₁ b₁ w₂ b₂ 0 (startRows x b) := by
    rw [after1]
    exact rBlock_rows h0 (fun k d => (wSlice0 _ k d).trans (hw₁ 0 k d)) (fun k d => (wSlice0 _ k d).trans (hw₂ 0 k d))
      (fun d => (bSlice0 _ d).trans (hb₁ 0 d)) (fun d => (bSlice0 _ d).trans (hb₂ 0 d))
  have h2 : RefRows (res_main_v327 V0) fun b => blockAt w₁ b₁ w₂ b₂ 1 (blockAt w₁ b₁ w₂ b₂ 0 (startRows x b)) := by
    rw [after2]
    exact rBlock_rows h1 (fun k d => (wSlice1 _ k d).trans (hw₁ 1 k d)) (fun k d => (wSlice1 _ k d).trans (hw₂ 1 k d))
      (fun d => (bSlice1 _ d).trans (hb₁ 1 d)) (fun d => (bSlice1 _ d).trans (hb₂ 1 d))
  have h3 : RefRows (res_main_v490 V0) fun b => blockAt w₁ b₁ w₂ b₂ 2 (blockAt w₁ b₁ w₂ b₂ 1 (blockAt w₁ b₁ w₂ b₂ 0 (startRows x b))) := by
    rw [after3]
    exact rBlock_rows h2 (fun k d => (wSlice2 _ k d).trans (hw₁ 2 k d)) (fun k d => (wSlice2 _ k d).trans (hw₂ 2 k d))
      (fun d => (bSlice2 _ d).trans (hb₁ 2 d)) (fun d => (bSlice2 _ d).trans (hb₂ 2 d))
  have h4 : RefRows (res_main_v653 V0) fun b => blockAt w₁ b₁ w₂ b₂ 3 (blockAt w₁ b₁ w₂ b₂ 2 (blockAt w₁ b₁ w₂ b₂ 1 (blockAt w₁ b₁ w₂ b₂ 0 (startRows x b)))) := by
    rw [after4]
    exact rBlock_rows h3 (fun k d => (wSlice3 _ k d).trans (hw₁ 3 k d)) (fun k d => (wSlice3 _ k d).trans (hw₂ 3 k d))
      (fun d => (bSlice3 _ d).trans (hb₁ 3 d)) (fun d => (bSlice3 _ d).trans (hb₂ 3 d))
  exact h4

end Rows

/-- The reference's offsets before they are laid out, from its first layer `z`, that with the mean off `y`, the count `n` and the weights. -/
def headArr (z y : FVec Ideal S10000x128 .f32) (n : FVec Ideal S_ .f32) (g b : FVec Ideal S128 .f32) (w : FVec Ideal S128x6 .f32) (v : FVec Ideal S6 .f32) : FVec Ideal S10000x6 .f32 :=
  mulf (Host.tanh (addf (Host.dotGeneral dot_S10000x128_S128x6_S10000x6_1_0_0_1_n_n none (maximumf (addf (mulf (Host.divf (subf z (broadcastInDim S10000x128 ![0, 1] bcast_S10000x1_S10000x128_0_1 (Host.divf (broadcastInDim S10000x1 ![0] bcast_S10000_S10000x1_0 (Host.reduceAdd z (constant S_ .f32 0x00000000#32) reducesTo_S10000x128_S10000_d1 h_S_)) (broadcastInDim S10000x1 ![] bcast_S_S10000x1 (constant S_ .f32 0x43000000#32))))) (broadcastInDim S10000x128 ![0, 1] bcast_S10000x1_S10000x128_0_1 (Host.sqrt (addf (select (broadcastInDim S10000x1 ![] bcast_S_S10000x1 (cmpf .ogt n (constant S_ .f32 0x00000000#32))) (Host.divf (broadcastInDim S10000x1 ![0] bcast_S10000_S10000x1_0 (Host.reduceAdd (mulf y y) (constant S_ .f32 0x00000000#32) reducesTo_S10000x128_S10000_d1 h_S_)) (broadcastInDim S10000x1 ![] bcast_S_S10000x1 n)) (broadcastInDim S10000x1 ![] bcast_S_S10000x1 (id (constant S_ .f32 0x7FC00000#32)))) (broadcastInDim S10000x1 ![] bcast_S_S10000x1 (constant S_ .f32 0x3727C5AC#32)))))) (broadcastInDim S10000x128 ![0, 1] bcast_S1x128_S10000x128_0_1 (broadcastInDim S1x128 ![1] bcast_S128_S1x128_1 g))) (broadcastInDim S10000x128 ![0, 1] bcast_S1x128_S10000x128_0_1 (broadcastInDim S1x128 ![1] bcast_S128_S1x128_1 b))) (broadcastInDim S10000x128 ![] bcast_S_S10000x128 (constant S_ .f32 0x00000000#32))) w) (broadcastInDim S10000x6 ![0, 1] bcast_S1x6_S10000x6_0_1 (broadcastInDim S1x6 ![1] bcast_S6_S1x6_1 v)))) (broadcastInDim S10000x6 ![] bcast_S_S10000x6 (constant S_ .f32 0x3DCCCCCD#32))

/-- The reference's first layer with the mean off. -/
def devArr (z : FVec Ideal S10000x128 .f32) : FVec Ideal S10000x128 .f32 :=
  subf z (broadcastInDim S10000x128 ![0, 1] bcast_S10000x1_S10000x128_0_1 (Host.divf (broadcastInDim S10000x1 ![0] bcast_S10000_S10000x1_0 (Host.reduceAdd z (constant S_ .f32 0x00000000#32) reducesTo_S10000x128_S10000_d1 h_S_)) (broadcastInDim S10000x1 ![] bcast_S_S10000x1 (constant S_ .f32 0x43000000#32))))

/-- The reference's offsets before they are laid out. -/
def refOff (V0 : Valuation τ sig (Elt Ideal)) : FVec Ideal S10000x6 .f32 :=
  headArr (res_main_v657 V0) (res_main_call4_v5 V0) (res_main_call4_v8 V0) (V0 (Proc.devRef .tc main_arg8)) (V0 (Proc.devRef .tc main_arg9)) (V0 (Proc.devRef .tc main_arg10))
    (V0 (Proc.devRef .tc main_arg11))

/-- The head's first map, of a row, with its bias. -/
theorem refZ (V0 : Valuation τ sig (Elt Ideal)) (r : Fin 10000) (c : Fin 128) :
    (res_main_v657 V0 : FVec Ideal S10000x128 .f32) (ix2 r c) = headZ (fun x => (res_main_v653 V0 : FVec Ideal S10000x128 .f32) (ix2 r x))
      (fun x c => (V0 (Proc.devRef .tc main_arg6) : FVec Ideal S128x128 .f32) (ix2 x c)) (fun c => (V0 (Proc.devRef .tc main_arg7) : FVec Ideal S128 .f32) (ix1 c)) c := by
  unfold headZ
  pointwise [res_main_v657]

/-- A row's entry less the row's mean. -/
theorem devArr_at (z : FVec Ideal S10000x128 .f32) (r : Fin 10000) (c : Fin 128) :
    devArr z (ix2 r c) = z (ix2 r c) - headMean fun x => z (ix2 r x) := by
  unfold headMean
  pointwise [devArr]

/-- The literal 128 is 128. -/
theorem n128 : Ideal.ofBits .f32 1124073472#32 = ((128 : ℝ) : EReal) := by
  simp [Ideal.ofBits, Ideal.ieee, -EReal.coe_mul]; try norm_num

/-- The count that the variance is divided by is 128. -/
theorem refCount (V0 : Valuation τ sig (Elt Ideal)) : (res_main_call4_v8 V0 : FVec Ideal S_ .f32) = fun _ => Ideal.ofBits .f32 1124073472#32 := by
  funext i
  show (Ideal.ofBits .f32 1124073472#32 : EReal) - (((0#32 : BitVec 32).toInt : ℝ) : EReal) = _
  simp

/-- The head's offsets from the first map: normalise, scale, shift, cut at zero, second map, tanh, a tenth. -/
theorem headArr_at (z : FVec Ideal S10000x128 .f32) (g b : FVec Ideal S128 .f32) (w : FVec Ideal S128x6 .f32) (v : FVec Ideal S6 .f32) {n : FVec Ideal S_ .f32}
    (hn : n = fun _ => Ideal.ofBits .f32 1124073472#32) (r : Fin 10000) (c : Fin 6) :
    headArr z (devArr z) n g b w v (ix2 r c)
      = Ideal.tanh (∑ x, max (headNorm (fun x => z (ix2 r x)) x * g (ix1 x) + b (ix1 x)) 0 * w (ix2 x c) + v (ix1 c)) * Ideal.ofBits .f32 1036831949#32 := by
  unfold headNorm headMean
  subst hn
  pointwise [headArr, devArr]
  have hp : (0 : EReal) < Ideal.ofBits .f32 1124073472#32 := by
    rw [n128]
    exact_mod_cast (by norm_num : (0 : ℝ) < 128)
  simp only [if_pos hp]

/-- The reference's offsets of a row are the head's offsets of that row. -/
theorem refOff_at (V0 : Valuation τ sig (Elt Ideal)) (r : Fin 10000) (c : Fin 6) :
    refOff V0 (ix2 r c) = headOff (fun x => (res_main_v653 V0 : FVec Ideal S10000x128 .f32) (ix2 r x))
      (fun x c => (V0 (Proc.devRef .tc main_arg6) : FVec Ideal S128x128 .f32) (ix2 x c))
      (fun c => (V0 (Proc.devRef .tc main_arg7) : FVec Ideal S128 .f32) (ix1 c)) (fun c => (V0 (Proc.devRef .tc main_arg8) : FVec Ideal S128 .f32) (ix1 c))
      (fun c => (V0 (Proc.devRef .tc main_arg9) : FVec Ideal S128 .f32) (ix1 c)) (fun x => (V0 (Proc.devRef .tc main_arg10) : FVec Ideal S128x6 .f32) (ix2 x c))
      ((V0 (Proc.devRef .tc main_arg11) : FVec Ideal S6 .f32) (ix1 c)) := by
  have e := headArr_at (res_main_v657 V0) (V0 (Proc.devRef .tc main_arg8)) (V0 (Proc.devRef .tc main_arg9)) (V0 (Proc.devRef .tc main_arg10)) (V0 (Proc.devRef .tc main_arg11)) (refCount V0) r c
  have hz : (fun x => (res_main_v657 V0 : FVec Ideal S10000x128 .f32) (ix2 r x)) = _ := funext fun x => refZ V0 r x
  rw [hz] at e
  exact e

/-- The reference's second result is its rows, the points along the rows. -/
theorem refRes2 (y : FVec Ideal S10000x128 .f32) (b : Fin 4) (d : Fin 128) (i : Fin 2500) :
    (transpose S4x128x2500 [0, 2, 1] (shapeCast S4x2500x128 y shapeCasts_S10000x128_S4x2500x128) transposes_S4x2500x128_S4x128x2500_0_2_1) (ix3 b d i) = y (ix2 (refRow b i) d) := by
  pointwise [refRow]

/-- The reference's offsets laid out by batch, point, axis and copy. -/
theorem refRes1 (y : FVec Ideal S10000x6 .f32) (b : Fin 4) (i : Fin 2500) (a : Fin 3) (s : Fin 2) :
    (shapeCast S4x2500x3x2 y shapeCasts_S10000x6_S4x2500x3x2) (ix4 b i a s) = y (ix2 (refRow b i) ⟨a.val * 2 + s.val, by omega⟩) := by
  pointwise [refRow]

end Cert.Proof.Val
-- ==== Proof.Val.Finite.lean ====
/- An array whose entries are all finite is an array of reals. -/
module

public import proofs.«01_k».proof.Pre_finite
public import Idealize.ShloMosaic.PureOps.Ideal
public import Idealize.ShloMosaic.Lib.ReduceAll
public import Idealize.ShloMosaic.Lib.Pointwise

@[expose] public section

noncomputable section

namespace Cert.Proof.Val

open Idealize.ShloMosaic

/-- A number whose magnitude is below infinity is a real. -/
theorem coe_of_abs_lt {y : EReal} (h : max y (-y) < ⊤) : y = (y.toReal : EReal) := by
  refine (EReal.coe_toReal (fun e => ?_) (fun e => ?_)).symm
  · rw [e] at h; simp at h
  · rw [e] at h; simp at h

/-- The word of infinity reads as infinity. -/
theorem infinity_eq : Ideal.ofBits .f32 0x7F800000#32 = ⊤ := by
  simp [Ideal.ofBits, Ideal.ieee]

/-- One array's test: where it says yes, every entry is a real. -/
theorem coe_of_test {s t u : Shape} {axes : List (Fin s.rank)} [Subsingleton t.Idx] (x : FVec Ideal s .f32) (y : FVec Ideal s .f32) (hy : ∀ i, y i = Ideal.ofBits .f32 0x7F800000#32)
    (init : u.Idx → BitVec 1) (h : s.ReducesTo axes t) (hu : 0 < u.numel) (j : t.Idx)
    (e : Host.reduce IntOp.andi (cmpf .olt (Host.absf x) y) init h hu j = 1#1) (i : s.Idx) : x i = ((x i).toReal : EReal) := by
  have h1 := Host.reduce_andi_all _ init h hu j e i
  refine coe_of_abs_lt ?_
  have h2 : Ideal.cmp .olt (max (x i) (-(x i))) (y i) = 1#1 := h1
  rw [hy, infinity_eq] at h2
  by_contra hc
  simp [Ideal.cmp, hc] at h2

/-- The shapes the test takes. -/
theorem finite_facts : Cert.Pre_finite.Facts where
  bcast_S_S4x128x2500 := by decide
  reducesTo_S4x128x2500_S_d0_1_2 := by decide
  h_S_ := by decide
  bcast_S_S4x128x128 := by decide
  reducesTo_S4x128x128_S_d0_1_2 := by decide
  bcast_S_S4x128 := by decide
  reducesTo_S4x128_S_d0_1 := by decide

open Cert.Pre_finite in
/-- Where the test says yes, the five arrays it reads are arrays of reals. -/
theorem reals_of_finite [Cert.Pre_finite.Facts] (a0 : FVec Ideal S4x3x2500 .f32) (a1 : FVec Ideal S4x128x2500 .f32) (a2 : FVec Ideal S4x128x128 .f32) (a3 : FVec Ideal S4x128 .f32)
    (a4 : FVec Ideal S4x128x128 .f32) (a5 : FVec Ideal S4x128 .f32) (a6 : FVec Ideal S128x128 .f32) (a7 a8 a9 : FVec Ideal S128 .f32) (a10 : FVec Ideal S128x6 .f32) (a11 : FVec Ideal S6 .f32)
    (h : Cert.Pre_finite.fn (F := Ideal) a0 a1 a2 a3 a4 a5 a6 a7 a8 a9 a10 a11 = fun _ => 1#1) :
    (∀ i, a1 i = ((a1 i).toReal : EReal)) ∧ (∀ i, a2 i = ((a2 i).toReal : EReal)) ∧ (∀ i, a3 i = ((a3 i).toReal : EReal)) ∧ (∀ i, a4 i = ((a4 i).toReal : EReal))
      ∧ ∀ i, a5 i = ((a5 i).toReal : EReal) := by
  have h0 := congrFun h (fun a => a.elim0)
  obtain ⟨h1, e5⟩ := IntOp.andi_eq_one.1 h0
  obtain ⟨h2, e4⟩ := IntOp.andi_eq_one.1 h1
  obtain ⟨h3, e3⟩ := IntOp.andi_eq_one.1 h2
  obtain ⟨e1, e2⟩ := IntOp.andi_eq_one.1 h3
  haveI : Subsingleton S_.Idx := ⟨fun a b => funext fun x => x.elim0⟩
  exact ⟨coe_of_test a1 _ (fun _ => rfl) _ _ _ _ e1, coe_of_test a2 _ (fun _ => rfl) _ _ _ _ e2, coe_of_test a3 _ (fun _ => rfl) _ _ _ _ e3, coe_of_test a4 _ (fun _ => rfl) _ _ _ _ e4,
    coe_of_test a5 _ (fun _ => rfl) _ _ _ _ e5⟩

end Cert.Proof.Val
-- ==== Proof.Val.Both.lean ====
/- The two programs' results are the same. -/
module

public import proofs.«01_k».proof.Proof.Val.KerAll
public import proofs.«01_k».proof.Proof.Val.RefMain
public import proofs.«01_k».proof.Proof.Val.Finite

@[expose] public section

set_option maxRecDepth 8192
set_option maxHeartbeats 1000000

noncomputable section

namespace Cert.Proof.Val

open Idealize.ShloMosaic Idealize.ShloMosaic.Pointwise
open Idealize.ShloMosaic.TcCoe
open Cert.KernelIdeal Cert.KernelIdeal.Gen Cert.Proof.KernelIdeal

variable (m : (ℓ : Loc nD τ sig) → Buf (Elt Ideal) ℓ) (c : Dev nD) (V0 : Valuation Cert.ReferenceIdeal.τ Cert.ReferenceIdeal.sig (Elt Ideal))

/-- The two programs are given the same arrays. -/
structure Same : Prop where
  arg0 : (V0 (Proc.devRef .tc Cert.ReferenceIdeal.main_arg0) : FVec Ideal S4x3x2500 .f32) = (m ((c : Thread nD τ).loc main_arg0) : FVec Ideal S4x3x2500 .f32)
  arg1 : (V0 (Proc.devRef .tc Cert.ReferenceIdeal.main_arg1) : FVec Ideal S4x128x2500 .f32) = (m ((c : Thread nD τ).loc main_arg1) : FVec Ideal S4x128x2500 .f32)
  arg2 : (V0 (Proc.devRef .tc Cert.ReferenceIdeal.main_arg2) : FVec Ideal S4x128x128 .f32) = (m ((c : Thread nD τ).loc main_arg2) : FVec Ideal S4x128x128 .f32)
  arg3 : (V0 (Proc.devRef .tc Cert.ReferenceIdeal.main_arg3) : FVec Ideal S4x128 .f32) = (m ((c : Thread nD τ).loc main_arg3) : FVec Ideal S4x128 .f32)
  arg4 : (V0 (Proc.devRef .tc Cert.ReferenceIdeal.main_arg4) : FVec Ideal S4x128x128 .f32) = (m ((c : Thread nD τ).loc main_arg4) : FVec Ideal S4x128x128 .f32)
  arg5 : (V0 (Proc.devRef .tc Cert.ReferenceIdeal.main_arg5) : FVec Ideal S4x128 .f32) = (m ((c : Thread nD τ).loc main_arg5) : FVec Ideal S4x128 .f32)
  arg6 : (V0 (Proc.devRef .tc Cert.ReferenceIdeal.main_arg6) : FVec Ideal S128x128 .f32) = (m ((c : Thread nD τ).loc main_arg6) : FVec Ideal S128x128 .f32)
  arg7 : (V0 (Proc.devRef .tc Cert.ReferenceIdeal.main_arg7) : FVec Ideal S128 .f32) = (m ((c : Thread nD τ).loc main_arg7) : FVec Ideal S128 .f32)
  arg8 : (V0 (Proc.devRef .tc Cert.ReferenceIdeal.main_arg8) : FVec Ideal S128 .f32) = (m ((c : Thread nD τ).loc main_arg8) : FVec Ideal S128 .f32)
  arg9 : (V0 (Proc.devRef .tc Cert.ReferenceIdeal.main_arg9) : FVec Ideal S128 .f32) = (m ((c : Thread nD τ).loc main_arg9) : FVec Ideal S128 .f32)
  arg10 : (V0 (Proc.devRef .tc Cert.ReferenceIdeal.main_arg10) : FVec Ideal S128x6 .f32) = (m ((c : Thread nD τ).loc main_arg10) : FVec Ideal S128x6 .f32)
  arg11 : (V0 (Proc.devRef .tc Cert.ReferenceIdeal.main_arg11) : FVec Ideal S6 .f32) = (m ((c : Thread nD τ).loc main_arg11) : FVec Ideal S6 .f32)

/-- The arrays the blocks read are arrays of reals. -/
structure Reals : Prop where
  arg1 : ∀ i, (m ((c : Thread nD τ).loc main_arg1) : FVec Ideal S4x128x2500 .f32) i = (((m ((c : Thread nD τ).loc main_arg1) : FVec Ideal S4x128x2500 .f32) i).toReal : EReal)
  arg2 : ∀ i, (m ((c : Thread nD τ).loc main_arg2) : FVec Ideal S4x128x128 .f32) i = (((m ((c : Thread nD τ).loc main_arg2) : FVec Ideal S4x128x128 .f32) i).toReal : EReal)
  arg3 : ∀ i, (m ((c : Thread nD τ).loc main_arg3) : FVec Ideal S4x128 .f32) i = (((m ((c : Thread nD τ).loc main_arg3) : FVec Ideal S4x128 .f32) i).toReal : EReal)
  arg4 : ∀ i, (m ((c : Thread nD τ).loc main_arg4) : FVec Ideal S4x128x128 .f32) i = (((m ((c : Thread nD τ).loc main_arg4) : FVec Ideal S4x128x128 .f32) i).toReal : EReal)
  arg5 : ∀ i, (m ((c : Thread nD τ).loc main_arg5) : FVec Ideal S4x128 .f32) i = (((m ((c : Thread nD τ).loc main_arg5) : FVec Ideal S4x128 .f32) i).toReal : EReal)

variable {m c V0}

/-- Both programs end with the same rows. -/
theorem rows_same (hs : Same m c V0) (hr : Reals m c) (b : Fin 4) (i : Fin 2500) (d : Fin 128) :
    (Cert.ReferenceIdeal.Value.res_main_v653 V0 : FVec Ideal Cert.ReferenceIdeal.S10000x128 .f32) (ix2 (refRow b i) d) = allRows m c (ix3 b ⟨i.val, by omega⟩ d) := by
  have e1 := allRows_at m c (x := fun b d i => ((m ((c : Thread nD τ).loc main_arg1) : FVec Ideal S4x128x2500 .f32) (ix3 b d i)).toReal) (w₁ := fun q k d => ((m ((c : Thread nD τ).loc main_arg2) : FVec Ideal S4x128x128 .f32) (ix3 q k d)).toReal) (b₁ := fun q d => ((m ((c : Thread nD τ).loc main_arg3) : FVec Ideal S4x128 .f32) (ix2 q d)).toReal)
    (w₂ := fun q k d => ((m ((c : Thread nD τ).loc main_arg4) : FVec Ideal S4x128x128 .f32) (ix3 q k d)).toReal) (b₂ := fun q d => ((m ((c : Thread nD τ).loc main_arg5) : FVec Ideal S4x128 .f32) (ix2 q d)).toReal)
    (fun _ _ _ => hr.arg1 _) (fun _ _ _ => hr.arg2 _) (fun _ _ => hr.arg3 _) (fun _ _ _ => hr.arg4 _) (fun _ _ => hr.arg5 _) b i d
  have e2 := refEnd (V0 := V0) (x := fun b d i => ((m ((c : Thread nD τ).loc main_arg1) : FVec Ideal S4x128x2500 .f32) (ix3 b d i)).toReal) (w₁ := fun q k d => ((m ((c : Thread nD τ).loc main_arg2) : FVec Ideal S4x128x128 .f32) (ix3 q k d)).toReal) (b₁ := fun q d => ((m ((c : Thread nD τ).loc main_arg3) : FVec Ideal S4x128 .f32) (ix2 q d)).toReal)
    (w₂ := fun q k d => ((m ((c : Thread nD τ).loc main_arg4) : FVec Ideal S4x128x128 .f32) (ix3 q k d)).toReal) (b₂ := fun q d => ((m ((c : Thread nD τ).loc main_arg5) : FVec Ideal S4x128 .f32) (ix2 q d)).toReal)
    (fun _ _ _ => (congrFun hs.arg1 _).trans (hr.arg1 _)) (fun _ _ _ => (congrFun hs.arg2 _).trans (hr.arg2 _)) (fun _ _ => (congrFun hs.arg3 _).trans (hr.arg3 _))
    (fun _ _ _ => (congrFun hs.arg4 _).trans (hr.arg4 _)) (fun _ _ => (congrFun hs.arg5 _).trans (hr.arg5 _)) b i d
  exact e2.trans e1.symm

/-- Both programs end with the same offsets. -/
theorem offs_same (hs : Same m c V0) (hr : Reals m c) (b : Fin 4) (i : Fin 2500) (q : Fin 6) :
    refOff V0 (ix2 (refRow b i) q) = allHead m c (ix3 b ⟨i.val, by omega⟩ ⟨q.val, by omega⟩) := by
  refine (refOff_at V0 (refRow b i) q).trans (Eq.trans ?_ (allHead_at m c b ⟨i.val, by omega⟩ q).symm)
  exact congr (congr (congr (congr (congr (congr (congrArg headOff (funext fun x => rows_same hs hr b i x)) (funext fun x => funext fun y => congrFun hs.arg6 _)) (funext fun y => congrFun hs.arg7 _))
    (funext fun y => congrFun hs.arg8 _)) (funext fun y => congrFun hs.arg9 _)) (funext fun x => congrFun hs.arg10 _)) (congrFun hs.arg11 _)

/-- The reference's second result, as it writes it. -/
def refSecond (V0 : Valuation Cert.ReferenceIdeal.τ Cert.ReferenceIdeal.sig (Elt Ideal)) : FVec Ideal S4x128x2500 .f32 :=
  transpose S4x128x2500 [0, 2, 1] (shapeCast S4x2500x128 (Cert.ReferenceIdeal.Value.res_main_v653 V0 : FVec Ideal Cert.ReferenceIdeal.S10000x128 .f32)
    Cert.ReferenceIdeal.Gen.shapeCasts_S10000x128_S4x2500x128) Cert.ReferenceIdeal.Gen.transposes_S4x2500x128_S4x128x2500_0_2_1

/-- The reference's first result, as it writes it. -/
def refFirst (V0 : Valuation Cert.ReferenceIdeal.τ Cert.ReferenceIdeal.sig (Elt Ideal)) : FVec Ideal S4x3x5000 .f32 :=
  layOut (V0 (Proc.devRef .tc Cert.ReferenceIdeal.main_arg0) : FVec Ideal S4x3x2500 .f32) (shapeCast S4x2500x3x2 (refOff V0) Cert.ReferenceIdeal.Gen.shapeCasts_S10000x6_S4x2500x3x2)

/-- The second results are the same. -/
theorem second_same (hs : Same m c V0) (hr : Reals m c) : refSecond V0 = kerRows (allRows m c) := by
  funext j
  rw [eq_ix3 j]
  exact (refRes2 _ _ _ _).trans ((rows_same hs hr _ _ _).trans (kerRows_at _ _ _ _).symm)

/-- The first results are the same. -/
theorem first_same (hs : Same m c V0) (hr : Reals m c) : refFirst V0 = layOut (m ((c : Thread nD τ).loc main_arg0) : FVec Ideal S4x3x2500 .f32) (kerOff (allHead m c)) := by
  unfold refFirst
  rw [hs.arg0]
  refine congrArg (layOut _) (funext fun j => ?_)
  rw [eq_ix4 j]
  exact (refRes1 _ _ _ _ _).trans ((offs_same hs hr _ _ ⟨(j 2).val * 2 + (j 3).val, _⟩).trans (kerOff_at _ _ _ _ _).symm)

end Cert.Proof.Val
-- ==== Proof.Val.KerOut.lean ====
/- The kernel's run, with what it returns. -/
module

public import proofs.«01_k».proof.Proof.Val.KerRes

@[expose] public section

noncomputable section

namespace Cert.Proof.Val

open Idealize.ShloMosaic Idealize.ShloMosaic.TcCoe Idealize.SL.Sem
open Cert.KernelIdeal Cert.KernelIdeal.Gen Cert.Proof.KernelIdeal

/-- Every run of the kernel ends with its two results and with the arguments as they were. -/
theorem kernel_results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = layOut (m ((c.tc : Thread nD τ).loc main_arg0)) (kerOff (allHead m c))
      ∧ r.2.mem ((c.tc : Thread nD τ).loc main_v0_1) = kerRows (allRows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r hr => by
    obtain ⟨h, _⟩ := hr
    intro c
    exact ⟨((h c).2 main_v0_0 (Pipeline.mem_restRefs_of main_v0_0 (by decide) (by decide))).trans (res1 m c),
      ((h c).2 main_v0_1 (Pipeline.mem_restRefs_of main_v0_1 (by decide) (by decide))).trans (res2 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((dats_A m c 1).trans (V_main_arg2 m c))),
      ((h c).1 2).trans (((dats m 0 c).arrAt_in 2 rfl _).trans ((dats_A m c 2).trans (V_main_arg3 m c))),
      ((h c).1 3).trans (((dats m 0 c).arrAt_in 3 rfl _).trans ((dats_A m c 3).trans (V_main_arg4 m c))),
      ((h c).1 4).trans (((dats m 0 c).arrAt_in 4 rfl _).trans ((dats_A m c 4).trans (V_main_arg5 m c))),
      ((h c).1 5).trans (((dats m 0 c).arrAt_in 5 rfl _).trans ((dats_A m c 5).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run m ρ)

end Cert.Proof.Val
-- ==== Proof.lean ====
/- The claims, from the run of the two kernels and the run of the reference. -/
module

public import proofs.«01_k».proof.Defs
public import proofs.«01_k».proof.Proof.Ideal.Quiet
public import proofs.«01_k».proof.Proof.Kern.Quiet
public import proofs.«01_k».proof.Proof.Val.Both
public import proofs.«01_k».proof.Proof.Val.KerOut
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The reference has no semaphores at all, so that its counters read zero wherever it ends. -/
theorem reference_quiet :
    Cert.quiescent_ReferenceIdeal (hReferenceIdeal := Cert.ReferenceIdeal.Gen.facts) :=
  fun m g _ => (θ_run _ _ _).mono (fun r hr => ⟨fun c => (hr c).2.2, sem_eq_zero_of_no_sems rfl r.2⟩)
    (Cert.ReferenceIdeal.Value.run (F := Ideal) m g)

/-- Both named constants are the constants their literals stand for. -/
theorem preserves : Cert.preserves_Kernel_KernelIdeal :=
  ⟨IdealRules.named_const.statement Cert.KernelIdeal.κ "ninth" .f32 0x3DE38E39#32 ((9⁻¹ : ℝ) : EReal) rfl,
    IdealRules.named_const.statement Cert.KernelIdeal.κ "big" .f32 0x7149F2CA#32 ⊤ rfl⟩

/-- Given the same arrays, those the blocks read being finite, the kernel and the reference end with the same two results. -/
theorem algebraic : Cert.algebraic_KernelIdeal_ReferenceIdeal_pre_finite (hKernelIdeal := Cert.KernelIdeal.Gen.facts)
    (hReferenceIdeal := Cert.ReferenceIdeal.Gen.facts) (hPre_finite := Val.finite_facts) := by
  intro m g m' g' hpre hargs
  haveI := Val.finite_facts
  have hr : ∀ c, Val.Reals m c := fun c => by
    obtain ⟨h1, h2, h3, h4, h5⟩ := Val.reals_of_finite _ _ _ _ _ _ _ _ _ _ _ _ (hpre c)
    exact ⟨h1, h2, h3, h4, h5⟩
  have hs : ∀ c, Val.Same m c (StableHlo.launchContents m' c) := fun c =>
    ⟨(hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2.1, (hargs c).2.2.2.2.2.2.2.2.2.2.1, (hargs c).2.2.2.2.2.2.2.2.2.2.2⟩
  exact ⟨fun c => Val.layOut _ (Val.kerOff (Val.allHead m c)), fun c => Val.kerRows (Val.allRows m c), Val.kernel_results m g,
    (θ_run _ _ _).mono (fun r h c => ⟨(h c).1.trans (Val.first_same (hs c) (hr c)), (h c).2.1.trans (Val.second_same (hs c) (hr c)), (h c).2.2⟩)
      (Cert.ReferenceIdeal.Value.run (F := Ideal) m' g')⟩

/-- The claims, all of them. -/
theorem claim : Cert.Claim :=
  ⟨Cert.Kernel.Gen.facts, Cert.KernelIdeal.Gen.facts, Cert.ReferenceIdeal.Gen.facts, Val.finite_facts,
    fun m g _ => Kernel.quiet m g,
    fun m g _ => KernelIdeal.quiet m g,
    fun m g _ => KernelIdeal.quiet m g,
    reference_quiet,
    fun m g _ => reference_quiet m g trivial,
    preserves,
    algebraic⟩

end Cert.Proof

end
